-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16640x8x96 : Shape := ⟨3, ![16640, 8, 96]⟩
abbrev S16640x8x64 : Shape := ⟨3, ![16640, 8, 64]⟩
abbrev S_ : Shape := ⟨0, ![]⟩

class Facts : Prop where
  bcast_S_S16640x8x96 : S_.BroadcastsInDim S16640x8x96 (![] : Fin 0 → Fin S16640x8x96.rank)

variable [Facts]

def fn {F : FTy → Type} [FloatOps F] (main_arg0 : FVec F S16640x8x96 .f32) (main_arg1 : FVec F S16640x8x96 .f32) (main_arg2 : FVec F S16640x8x64 .f32) : IVec S16640x8x96 1 :=
  let main_v0 : FVec F S16640x8x96 .f32 := Host.absf main_arg0
  let main_cst : FVec F S_ .f32 := constant S_ .f32 0x7F800000#32
  let main_v1 : FVec F S16640x8x96 .f32 := broadcastInDim S16640x8x96 ![] bcast_S_S16640x8x96 main_cst
  let main_v2 : IVec S16640x8x96 1 := cmpf .olt main_v0 main_v1
  let main_v3 : FVec F S16640x8x96 .f32 := Host.absf main_arg1
  let main_cst_0 : FVec F S_ .f32 := constant S_ .f32 0x7F800000#32
  let main_v4 : FVec F S16640x8x96 .f32 := broadcastInDim S16640x8x96 ![] bcast_S_S16640x8x96 main_cst_0
  let main_v5 : IVec S16640x8x96 1 := cmpf .olt main_v3 main_v4
  let main_v6 : IVec S16640x8x96 1 := andi main_v2 main_v5
  main_v6
-- ==== Pre_finite3.lean ====
abbrev S16640x4x2x64 : Shape := ⟨4, ![16640, 4, 2, 64]⟩
abbrev S16640x4x128 : Shape := ⟨3, ![16640, 4, 128]⟩
abbrev S_ : Shape := ⟨0, ![]⟩
abbrev S128 : Shape := ⟨1, ![128]⟩

class Facts : Prop where
  bcast_S_S16640x4x2x64 : S_.BroadcastsInDim S16640x4x2x64 (![] : Fin 0 → Fin S16640x4x2x64.rank)
  shapeCasts_S16640x4x128_S16640x4x2x64 : S16640x4x128.ShapeCasts S16640x4x2x64

variable [Facts]

def fn {F : FTy → Type} [FloatOps F] (main_arg0 : FVec F S16640x4x2x64 .f32) (main_arg1 : FVec F S16640x4x2x64 .f32) (main_arg2 : FVec F S16640x4x128 .f32) (main_arg3 : FVec F S_ .f32) (main_arg4 : FVec F S128 .f32) : IVec S16640x4x2x64 1 :=
  let main_v0 : FVec F S16640x4x2x64 .f32 := Host.absf main_arg0
  let main_cst : FVec F S_ .f32 := constant S_ .f32 0x7F800000#32
  let main_v1 : FVec F S16640x4x2x64 .f32 := broadcastInDim S16640x4x2x64 ![] bcast_S_S16640x4x2x64 main_cst
  let main_v2 : IVec S16640x4x2x64 1 := cmpf .olt main_v0 main_v1
  let main_v3 : FVec F S16640x4x2x64 .f32 := Host.absf main_arg1
  let main_cst_0 : FVec F S_ .f32 := constant S_ .f32 0x7F800000#32
  let main_v4 : FVec F S16640x4x2x64 .f32 := broadcastInDim S16640x4x2x64 ![] bcast_S_S16640x4x2x64 main_cst_0
  let main_v5 : IVec S16640x4x2x64 1 := cmpf .olt main_v3 main_v4
  let main_v6 : IVec S16640x4x2x64 1 := andi main_v2 main_v5
  let main_v7 : FVec F S16640x4x2x64 .f32 := shapeCast S16640x4x2x64 main_arg2 shapeCasts_S16640x4x128_S16640x4x2x64
  let main_v8 : FVec F S16640x4x2x64 .f32 := Host.absf main_v7
  let main_cst_1 : FVec F S_ .f32 := constant S_ .f32 0x7F800000#32
  let main_v9 : FVec F S16640x4x2x64 .f32 := broadcastInDim S16640x4x2x64 ![] bcast_S_S16640x4x2x64 main_cst_1
  let main_v10 : IVec S16640x4x2x64 1 := cmpf .olt main_v8 main_v9
  let main_v11 : IVec S16640x4x2x64 1 := andi main_v6 main_v10
  let main_v12 : FVec F S_ .f32 := Host.absf main_arg3
  let main_cst_2 : FVec F S_ .f32 := constant S_ .f32 0x7F800000#32
  let main_v13 : IVec S_ 1 := cmpf .olt main_v12 main_cst_2
  let main_v14 : IVec S16640x4x2x64 1 := broadcastInDim S16640x4x2x64 ![] bcast_S_S16640x4x2x64 main_v13
  let main_v15 : IVec S16640x4x2x64 1 := andi main_v11 main_v14
  main_v15
-- ==== Kernel.lean ====
abbrev S16640x8x96 : Shape := ⟨3, ![16640, 8, 96]⟩
abbrev S16640x8x64 : Shape := ⟨3, ![16640, 8, 64]⟩
abbrev S_ : Shape := ⟨0, ![]⟩
abbrev S16640x8x128 : Shape := ⟨3, ![16640, 8, 128]⟩
abbrev S16640x1024 : Shape := ⟨2, ![16640, 1024]⟩
abbrev S16640x4x2x64 : Shape := ⟨4, ![16640, 4, 2, 64]⟩
abbrev S16640x4x64 : Shape := ⟨3, ![16640, 4, 64]⟩
abbrev S16640x4x1x64 : Shape := ⟨4, ![16640, 4, 1, 64]⟩
abbrev S16640x4x256 : Shape := ⟨3, ![16640, 4, 256]⟩
abbrev S16640x512 : Shape := ⟨2, ![16640, 512]⟩
abbrev S256x256 : Shape := ⟨2, ![256, 256]⟩
abbrev S16640x256 : Shape := ⟨2, ![16640, 256]⟩
abbrev S256x128 : Shape := ⟨2, ![256, 128]⟩
abbrev S6x256x1280 : Shape := ⟨3, ![6, 256, 1280]⟩
abbrev S1x128 : Shape := ⟨2, ![1, 128]⟩
abbrev S256x1 : Shape := ⟨2, ![256, 1]⟩
abbrev S16640x128 : Shape := ⟨2, ![16640, 128]⟩
abbrev S1280x128 : Shape := ⟨2, ![1280, 128]⟩
abbrev S256x1280 : Shape := ⟨2, ![256, 1280]⟩
abbrev S1x256x1280 : Shape := ⟨3, ![1, 256, 1280]⟩
abbrev S1x256x256 : Shape := ⟨3, ![1, 256, 256]⟩
abbrev S256 : Shape := ⟨1, ![256]⟩

abbrev nBuf : Space → Nat
  | .hbm => 31
  | .vmem => 9
  | .smem => 0
  | _ => 0

abbrev bufTy : (tb : Table) → Fin (tcTables nBuf tb) → BufTy
  | .hbm, ⟨0, _⟩ => ⟨S16640x8x96, .f32⟩
  | .hbm, ⟨1, _⟩ => ⟨S16640x8x96, .f32⟩
  | .hbm, ⟨2, _⟩ => ⟨S16640x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16640x8x96, .f32⟩
  | .hbm, ⟨9, _⟩ => ⟨S16640x8x96, .f32⟩
  | .hbm, ⟨10, _⟩ => ⟨S_, .i32⟩
  | .hbm, ⟨11, _⟩ => ⟨S_, .f32⟩
  | .hbm, ⟨12, _⟩ => ⟨S16640x8x128, .f32⟩
  | .hbm, ⟨13, _⟩ => ⟨S16640x1024, .f32⟩
  | .hbm, ⟨14, _⟩ => ⟨S16640x1024, .bf16⟩
  | .hbm, ⟨15, _⟩ => ⟨S_, .i32⟩
  | .hbm, ⟨16, _⟩ => ⟨S_, .f32⟩
  | .hbm, ⟨17, _⟩ => ⟨S16640x8x128, .f32⟩
  | .hbm, ⟨18, _⟩ => ⟨S16640x1024, .f32⟩
  | .hbm, ⟨19, _⟩ => ⟨S16640x1024, .bf16⟩
  | .hbm, ⟨20, _⟩ => ⟨S16640x4x2x64, .f32⟩
  | .hbm, ⟨21, _⟩ => ⟨S_, .f32⟩
  | .hbm, ⟨22, _⟩ => ⟨S16640x4x64, .f32⟩
  | .hbm, ⟨23, _⟩ => ⟨S16640x4x1x64, .f32⟩
  | .hbm, ⟨24, _⟩ => ⟨S16640x4x64, .f32⟩
  | .hbm, ⟨25, _⟩ => ⟨S16640x4x1x64, .f32⟩
  | .hbm, ⟨26, _⟩ => ⟨S16640x4x64, .f32⟩
  | .hbm, ⟨27, _⟩ => ⟨S16640x4x256, .f32⟩
  | .hbm, ⟨28, _⟩ => ⟨S16640x1024, .f32⟩
  | .hbm, ⟨29, _⟩ => ⟨S16640x1024, .bf16⟩
  | .hbm, ⟨30, _⟩ => ⟨S16640x512, .f32⟩
  | .local _ .vmem, ⟨0, _⟩ => ⟨S256x256, .bf16⟩
  | .local _ .vmem, ⟨1, _⟩ => ⟨S256x256, .bf16⟩
  | .local _ .vmem, ⟨2, _⟩ => ⟨S16640x256, .bf16⟩
  | .local _ .vmem, ⟨3, _⟩ => ⟨S16640x256, .bf16⟩
  | .local _ .vmem, ⟨4, _⟩ => ⟨S256x256, .bf16⟩
  | .local _ .vmem, ⟨5, _⟩ => ⟨S256x256, .bf16⟩
  | .local _ .vmem, ⟨6, _⟩ => ⟨S256x128, .f32⟩
  | .local _ .vmem, ⟨7, _⟩ => ⟨S256x128, .f32⟩
  | .local _ .vmem, ⟨8, _⟩ => ⟨S6x256x1280, .f32⟩
  | _, _ => ⟨S16640x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 65], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.minsi v0 c64_i32
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16640x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16640x8x96 : Shape := ⟨3, ![16640, 8, 96]⟩
abbrev S16640x8x64 : Shape := ⟨3, ![16640, 8, 64]⟩
abbrev S256x8x96 : Shape := ⟨3, ![256, 8, 96]⟩
abbrev S256x8x64 : Shape := ⟨3, ![256, 8, 64]⟩
abbrev S8x256x256 : Shape := ⟨3, ![8, 256, 256]⟩
abbrev S_ : Shape := ⟨0, ![]⟩
abbrev S8x256 : Shape := ⟨2, ![8, 256]⟩
abbrev S8x256x1 : Shape := ⟨3, ![8, 256, 1]⟩
abbrev S8x64x256 : Shape := ⟨3, ![8, 64, 256]⟩
abbrev S16384x8x96 : Shape := ⟨3, ![16384, 8, 96]⟩
abbrev S8x16384x16640 : Shape := ⟨3, ![8, 16384, 16640]⟩
abbrev S8x16384 : Shape := ⟨2, ![8, 16384]⟩
abbrev S8x16384x1 : Shape := ⟨3, ![8, 16384, 1]⟩
abbrev S8x64x16384 : Shape := ⟨3, ![8, 64, 16384]⟩
abbrev S16384x8x64 : Shape := ⟨3, ![16384, 8, 64]⟩
abbrev S16640x512 : Shape := ⟨2, ![16640, 512]⟩

abbrev nBuf : Space → Nat
  | .hbm => 51
  | .vmem => 0
  | .smem => 0
  | _ => 0

abbrev bufTy : (tb : Table) → Fin (tcTables nBuf tb) → BufTy
  | .hbm, ⟨0, _⟩ => ⟨S16640x8x96, .f32⟩
  | .hbm, ⟨1, _⟩ => ⟨S16640x8x96, .f32⟩
  | .hbm, ⟨2, _⟩ => ⟨S16640x8x64, .f32⟩
  | .hbm, ⟨3, _⟩ => ⟨S256x8x96, .f32⟩
  | .hbm, ⟨4, _⟩ => ⟨S256x8x96, .f32⟩
  | .hbm, ⟨5, _⟩ => ⟨S256x8x64, .f32⟩
  | .hbm, ⟨6, _⟩ => ⟨S8x256x256, .f32⟩
  | .hbm, ⟨7, _⟩ => ⟨S_, .f32⟩
  | .hbm, ⟨8, _⟩ => ⟨S_, .f32⟩
  | .hbm, ⟨9, _⟩ => ⟨S8x256x256, .f32⟩
  | .hbm, ⟨10, _⟩ => ⟨S8x256x256, .f32⟩
  | .hbm, ⟨11, _⟩ => ⟨S_, .f32⟩
  | .hbm, ⟨12, _⟩ => ⟨S8x256, .f32⟩
  | .hbm, ⟨13, _⟩ => ⟨S_, .f32⟩
  | .hbm, ⟨14, _⟩ => ⟨S8x256, .f32⟩
  | .hbm, ⟨15, _⟩ => ⟨S8x256, .f32⟩
  | .hbm, ⟨16, _⟩ => ⟨S8x256x1, .f32⟩
  | .hbm, ⟨17, _⟩ => ⟨S8x256x256, .f32⟩
  | .hbm, ⟨18, _⟩ => ⟨S8x256x256, .f32⟩
  | .hbm, ⟨19, _⟩ => ⟨S8x256x256, .f32⟩
  | .hbm, ⟨20, _⟩ => ⟨S_, .f32⟩
  | .hbm, ⟨21, _⟩ => ⟨S8x256, .f32⟩
  | .hbm, ⟨22, _⟩ => ⟨S8x256x1, .f32⟩
  | .hbm, ⟨23, _⟩ => ⟨S8x256x256, .f32⟩
  | .hbm, ⟨24, _⟩ => ⟨S8x256x256, .f32⟩
  | .hbm, ⟨25, _⟩ => ⟨S8x64x256, .f32⟩
  | .hbm, ⟨26, _⟩ => ⟨S256x8x64, .f32⟩
  | .hbm, ⟨27, _⟩ => ⟨S16384x8x96, .f32⟩
  | .hbm, ⟨28, _⟩ => ⟨S8x16384x16640, .f32⟩
  | .hbm, ⟨29, _⟩ => ⟨S_, .f32⟩
  | .hbm, ⟨30, _⟩ => ⟨S_, .f32⟩
  | .hbm, ⟨31, _⟩ => ⟨S8x16384x16640, .f32⟩
  | .hbm, ⟨32, _⟩ => ⟨S8x16384x16640, .f32⟩
  | .hbm, ⟨33, _⟩ => ⟨S_, .f32⟩
  | .hbm, ⟨34, _⟩ => ⟨S8x16384, .f32⟩
  | .hbm, ⟨35, _⟩ => ⟨S_, .f32⟩
  | .hbm, ⟨36, _⟩ => ⟨S8x16384, .f32⟩
  | .hbm, ⟨37, _⟩ => ⟨S8x16384, .f32⟩
  | .hbm, ⟨38, _⟩ => ⟨S8x16384x1, .f32⟩
  | .hbm, ⟨39, _⟩ => ⟨S8x16384x16640, .f32⟩
  | .hbm, ⟨40, _⟩ => ⟨S8x16384x16640, .f32⟩
  | .hbm, ⟨41, _⟩ => ⟨S8x16384x16640, .f32⟩
  | .hbm, ⟨42, _⟩ => ⟨S_, .f32⟩
  | .hbm, ⟨43, _⟩ => ⟨S8x16384, .f32⟩
  | .hbm, ⟨44, _⟩ => ⟨S8x16384x1, .f32⟩
  | .hbm, ⟨45, _⟩ => ⟨S8x16384x16640, .f32⟩
  | .hbm, ⟨46, _⟩ => ⟨S8x16384x16640, .f32⟩
  | .hbm, ⟨47, _⟩ => ⟨S8x64x16384, .f32⟩
  | .hbm, ⟨48, _⟩ => ⟨S16384x8x64, .f32⟩
  | .hbm, ⟨49, _⟩ => ⟨S16640x8x64, .f32⟩
  | .hbm, ⟨50, _⟩ => ⟨S16640x512, .f32⟩
  | _, _ => ⟨S16640x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel2.lean ====
abbrev S16640x1024 : Shape := ⟨2, ![16640, 1024]⟩
abbrev S16640x512 : Shape := ⟨2, ![16640, 512]⟩
abbrev S512 : Shape := ⟨1, ![512]⟩
abbrev S1024x1024 : Shape := ⟨2, ![1024, 1024]⟩
abbrev S6x1024 : Shape := ⟨2, ![6, 1024]⟩
abbrev S1024x2816 : Shape := ⟨2, ![1024, 2816]⟩
abbrev S2816x1024 : Shape := ⟨2, ![2816, 1024]⟩
abbrev S_ : Shape := ⟨0, ![]⟩
abbrev S8x1024 : Shape := ⟨2, ![8, 1024]⟩
abbrev S1x512 : Shape := ⟨2, ![1, 512]⟩
abbrev S16384x1024 : Shape := ⟨2, ![16384, 1024]⟩
abbrev S512x1024 : Shape := ⟨2, ![512, 1024]⟩
abbrev S512x512 : Shape := ⟨2, ![512, 512]⟩
abbrev S512x1 : Shape := ⟨2, ![512, 1]⟩
abbrev S1x1024 : Shape := ⟨2, ![1, 1024]⟩
abbrev S512x256 : Shape := ⟨2, ![512, 256]⟩
abbrev S1024x256 : Shape := ⟨2, ![1024, 256]⟩
abbrev S256x1024 : Shape := ⟨2, ![256, 1024]⟩

abbrev nBuf : Space → Nat
  | .hbm => 24
  | .vmem => 19
  | .smem => 0
  | _ => 0

abbrev bufTy : (tb : Table) → Fin (tcTables nBuf tb) → BufTy
  | .hbm, ⟨0, _⟩ => ⟨S16640x1024, .f32⟩
  | .hbm, ⟨1, _⟩ => ⟨S16640x512, .f32⟩
  | .hbm, ⟨2, _⟩ => ⟨S16640x512, .f32⟩
  | .hbm, ⟨3, _⟩ => ⟨S16640x512, .f32⟩
  | .hbm, ⟨4, _⟩ => ⟨S16640x512, .f32⟩
  | .hbm, ⟨5, _⟩ => ⟨S512, .f32⟩
  | .hbm, ⟨6, _⟩ => ⟨S1024x1024, .f32⟩
  | .hbm, ⟨7, _⟩ => ⟨S6x1024, .f32⟩
  | .hbm, ⟨8, _⟩ => ⟨S6x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S_, .i32⟩
  | .hbm, ⟨13, _⟩ => ⟨S_, .f32⟩
  | .hbm, ⟨14, _⟩ => ⟨S8x1024, .f32⟩
  | .hbm, ⟨15, _⟩ => ⟨S_, .i32⟩
  | .hbm, ⟨16, _⟩ => ⟨S_, .f32⟩
  | .hbm, ⟨17, _⟩ => ⟨S8x1024, .f32⟩
  | .hbm, ⟨18, _⟩ => ⟨S1x512, .f32⟩
  | .hbm, ⟨19, _⟩ => ⟨S1024x1024, .bf16⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1024x1024, .bf16⟩
  | .local _ .vmem, ⟨12, _⟩ => ⟨S8x1024, .f32⟩
  | .local _ .vmem, ⟨13, _⟩ => ⟨S8x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def k0_mult2 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def k0_mult3 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def k0_mult4 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def k0_mult5 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def cc0_transform_0 (i : grid0.Coords) : Fin 2 → Nat :=
  let arg0 : BitVec 32 := BitVec.ofNat 32 (i 0).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16640x1024 : Shape := ⟨2, ![16640, 1024]⟩
abbrev S16640x512 : Shape := ⟨2, ![16640, 512]⟩
abbrev S512 : Shape := ⟨1, ![512]⟩
abbrev S1024x1024 : Shape := ⟨2, ![1024, 1024]⟩
abbrev S6x1024 : Shape := ⟨2, ![6, 1024]⟩
abbrev S1024x2816 : Shape := ⟨2, ![1024, 2816]⟩
abbrev S2816x1024 : Shape := ⟨2, ![2816, 1024]⟩
abbrev S16384x1024 : Shape := ⟨2, ![16384, 1024]⟩
abbrev S16384x512 : Shape := ⟨2, ![16384, 512]⟩
abbrev S_ : Shape := ⟨0, ![]⟩
abbrev S16384x2x256 : Shape := ⟨3, ![16384, 2, 256]⟩
abbrev S16384x2 : Shape := ⟨2, ![16384, 2]⟩
abbrev S16384x2x1 : Shape := ⟨3, ![16384, 2, 1]⟩
abbrev S1x512 : Shape := ⟨2, ![1, 512]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 99
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x512, .f32⟩
  | .hbm, ⟨2, _⟩ => ⟨S16640x512, .f32⟩
  | .hbm, ⟨3, _⟩ => ⟨S16640x512, .f32⟩
  | .hbm, ⟨4, _⟩ => ⟨S16640x512, .f32⟩
  | .hbm, ⟨5, _⟩ => ⟨S512, .f32⟩
  | .hbm, ⟨6, _⟩ => ⟨S1024x1024, .f32⟩
  | .hbm, ⟨7, _⟩ => ⟨S6x1024, .f32⟩
  | .hbm, ⟨8, _⟩ => ⟨S6x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S16384x1024, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x2x256, .f32⟩
  | .hbm, ⟨29, _⟩ => ⟨S16384x2x256, .f32⟩
  | .hbm, ⟨30, _⟩ => ⟨S_, .f32⟩
  | .hbm, ⟨31, _⟩ => ⟨S16384x2, .f32⟩
  | .hbm, ⟨32, _⟩ => ⟨S16384x2x1, .f32⟩
  | .hbm, ⟨33, _⟩ => ⟨S_, .f32⟩
  | .hbm, ⟨34, _⟩ => ⟨S16384x2x1, .f32⟩
  | .hbm, ⟨35, _⟩ => ⟨S16384x2x1, .f32⟩
  | .hbm, ⟨36, _⟩ => ⟨S_, .f32⟩
  | .hbm, ⟨37, _⟩ => ⟨S16384x2x1, .f32⟩
  | .hbm, ⟨38, _⟩ => ⟨S16384x2x1, .f32⟩
  | .hbm, ⟨39, _⟩ => ⟨S16384x2x1, .f32⟩
  | .hbm, ⟨40, _⟩ => ⟨S16384x2x256, .f32⟩
  | .hbm, ⟨41, _⟩ => ⟨S16384x2x256, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S1x1024, .f32⟩
  | .hbm, ⟨47, _⟩ => ⟨S1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S1024, .f32⟩
  | .hbm, ⟨82, _⟩ => ⟨S16384x2816, .f32⟩
  | .hbm, ⟨83, _⟩ => ⟨S16384x2816, .f32⟩
  | .hbm, ⟨84, _⟩ => ⟨S16384x2816, .f32⟩
  | .hbm, ⟨85, _⟩ => ⟨S_, .f32⟩
  | .hbm, ⟨86, _⟩ => ⟨S16384x2816, .f32⟩
  | .hbm, ⟨87, _⟩ => ⟨S16384x2816, .f32⟩
  | .hbm, ⟨88, _⟩ => ⟨S_, .f32⟩
  | .hbm, ⟨89, _⟩ => ⟨S16384x2816, .f32⟩
  | .hbm, ⟨90, _⟩ => ⟨S16384x2816, .f32⟩
  | .hbm, ⟨91, _⟩ => ⟨S16384x2816, .f32⟩
  | .hbm, ⟨92, _⟩ => ⟨S16384x2816, .f32⟩
  | .hbm, ⟨93, _⟩ => ⟨S16384x2816, .f32⟩
  | .hbm, ⟨94, _⟩ => ⟨S16384x1024, .f32⟩
  | .hbm, ⟨95, _⟩ => ⟨S1x1024, .f32⟩
  | .hbm, ⟨96, _⟩ => ⟨S16384x1024, .f32⟩
  | .hbm, ⟨97, _⟩ => ⟨S16384x1024, .f32⟩
  | .hbm, ⟨98, _⟩ => ⟨S16384x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩

abbrev nD : Nat := 1
abbrev τ : Topo := Topo.v7x

variable {F : FTy → Type} [FloatOps F]
-- ==== Kernel3.lean ====
abbrev S16640x4x2x64 : Shape := ⟨4, ![16640, 4, 2, 64]⟩
abbrev S16640x4x128 : Shape := ⟨3, ![16640, 4, 128]⟩
abbrev S_ : Shape := ⟨0, ![]⟩
abbrev S128 : Shape := ⟨1, ![128]⟩
abbrev S16640x512 : Shape := ⟨2, ![16640, 512]⟩
abbrev S16640x4x256 : Shape := ⟨3, ![16640, 4, 256]⟩
abbrev S16640x1024 : Shape := ⟨2, ![16640, 1024]⟩
abbrev S1x128 : Shape := ⟨2, ![1, 128]⟩
abbrev S256x128 : Shape := ⟨2, ![256, 128]⟩
abbrev S16640x128 : Shape := ⟨2, ![16640, 128]⟩
abbrev S16640x256 : Shape := ⟨2, ![16640, 256]⟩
abbrev S6x256x1280 : Shape := ⟨3, ![6, 256, 1280]⟩
abbrev S256x1 : Shape := ⟨2, ![256, 1]⟩
abbrev S256x256 : Shape := ⟨2, ![256, 256]⟩
abbrev S1280x128 : Shape := ⟨2, ![1280, 128]⟩
abbrev S256x1280 : Shape := ⟨2, ![256, 1280]⟩
abbrev S1x256x1280 : Shape := ⟨3, ![1, 256, 1280]⟩
abbrev S1x256x256 : Shape := ⟨3, ![1, 256, 256]⟩
abbrev S256 : Shape := ⟨1, ![256]⟩
abbrev S1280x256 : Shape := ⟨2, ![1280, 256]⟩

abbrev nBuf : Space → Nat
  | .hbm => 23
  | .vmem => 11
  | .smem => 0
  | _ => 0

abbrev bufTy : (tb : Table) → Fin (tcTables nBuf tb) → BufTy
  | .hbm, ⟨0, _⟩ => ⟨S16640x4x2x64, .f32⟩
  | .hbm, ⟨1, _⟩ => ⟨S16640x4x2x64, .f32⟩
  | .hbm, ⟨2, _⟩ => ⟨S16640x4x128, .f32⟩
  | .hbm, ⟨3, _⟩ => ⟨S_, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16640x4x2x64, .f32⟩
  | .hbm, ⟨10, _⟩ => ⟨S16640x4x2x64, .f32⟩
  | .hbm, ⟨11, _⟩ => ⟨S16640x512, .f32⟩
  | .hbm, ⟨12, _⟩ => ⟨S16640x512, .bf16⟩
  | .hbm, ⟨13, _⟩ => ⟨S16640x512, .f32⟩
  | .hbm, ⟨14, _⟩ => ⟨S16640x512, .bf16⟩
  | .hbm, ⟨15, _⟩ => ⟨S_, .f32⟩
  | .hbm, ⟨16, _⟩ => ⟨S16640x4x128, .f32⟩
  | .hbm, ⟨17, _⟩ => ⟨S16640x4x256, .f32⟩
  | .hbm, ⟨18, _⟩ => ⟨S16640x1024, .f32⟩
  | .hbm, ⟨19, _⟩ => ⟨S16640x1024, .bf16⟩
  | .hbm, ⟨20, _⟩ => ⟨S1x128, .f32⟩
  | .hbm, ⟨21, _⟩ => ⟨S1x128, .f32⟩
  | .hbm, ⟨22, _⟩ => ⟨S16640x512, .f32⟩
  | .local _ .vmem, ⟨0, _⟩ => ⟨S256x128, .bf16⟩
  | .local _ .vmem, ⟨1, _⟩ => ⟨S256x128, .bf16⟩
  | .local _ .vmem, ⟨2, _⟩ => ⟨S16640x128, .bf16⟩
  | .local _ .vmem, ⟨3, _⟩ => ⟨S16640x256, .bf16⟩
  | .local _ .vmem, ⟨4, _⟩ => ⟨S256x128, .bf16⟩
  | .local _ .vmem, ⟨5, _⟩ => ⟨S256x128, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S6x256x1280, .f32⟩
  | _, _ => ⟨S16640x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 65], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.minsi v0 c64_i32
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16640x4x2x64 : Shape := ⟨4, ![16640, 4, 2, 64]⟩
abbrev S16640x4x128 : Shape := ⟨3, ![16640, 4, 128]⟩
abbrev S_ : Shape := ⟨0, ![]⟩
abbrev S128 : Shape := ⟨1, ![128]⟩
abbrev S1 : Shape := ⟨1, ![1]⟩
abbrev S2 : Shape := ⟨1, ![2]⟩
abbrev S256x4x2x64 : Shape := ⟨4, ![256, 4, 2, 64]⟩
abbrev S256x4x128 : Shape := ⟨3, ![256, 4, 128]⟩
abbrev S4x2x256x256 : Shape := ⟨4, ![4, 2, 256, 256]⟩
abbrev S4x2x256 : Shape := ⟨3, ![4, 2, 256]⟩
abbrev S4x2x256x1 : Shape := ⟨4, ![4, 2, 256, 1]⟩
abbrev S4x256x256 : Shape := ⟨3, ![4, 256, 256]⟩
abbrev S4x128x256 : Shape := ⟨3, ![4, 128, 256]⟩
abbrev S16384x4x2x64 : Shape := ⟨4, ![16384, 4, 2, 64]⟩
abbrev S4x2x16384x16640 : Shape := ⟨4, ![4, 2, 16384, 16640]⟩
abbrev S4x2x16384 : Shape := ⟨3, ![4, 2, 16384]⟩
abbrev S4x2x16384x1 : Shape := ⟨4, ![4, 2, 16384, 1]⟩
abbrev S4x16384x16640 : Shape := ⟨3, ![4, 16384, 16640]⟩
abbrev S4x128x16384 : Shape := ⟨3, ![4, 128, 16384]⟩
abbrev S16384x4x128 : Shape := ⟨3, ![16384, 4, 128]⟩
abbrev S16640x4 : Shape := ⟨2, ![16640, 4]⟩
abbrev S16640x4x1 : Shape := ⟨3, ![16640, 4, 1]⟩
abbrev S1x1x128 : Shape := ⟨3, ![1, 1, 128]⟩
abbrev S16640x512 : Shape := ⟨2, ![16640, 512]⟩

abbrev nBuf : Space → Nat
  | .hbm => 77
  | .vmem => 0
  | .smem => 0
  | _ => 0

abbrev bufTy : (tb : Table) → Fin (tcTables nBuf tb) → BufTy
  | .hbm, ⟨0, _⟩ => ⟨S16640x4x2x64, .f32⟩
  | .hbm, ⟨1, _⟩ => ⟨S16640x4x2x64, .f32⟩
  | .hbm, ⟨2, _⟩ => ⟨S16640x4x128, .f32⟩
  | .hbm, ⟨3, _⟩ => ⟨S_, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S256x4x2x64, .f32⟩
  | .hbm, ⟨11, _⟩ => ⟨S256x4x2x64, .f32⟩
  | .hbm, ⟨12, _⟩ => ⟨S256x4x128, .f32⟩
  | .hbm, ⟨13, _⟩ => ⟨S4x2x256x256, .f32⟩
  | .hbm, ⟨14, _⟩ => ⟨S_, .f32⟩
  | .hbm, ⟨15, _⟩ => ⟨S4x2x256x256, .f32⟩
  | .hbm, ⟨16, _⟩ => ⟨S4x2x256x256, .f32⟩
  | .hbm, ⟨17, _⟩ => ⟨S_, .f32⟩
  | .hbm, ⟨18, _⟩ => ⟨S4x2x256, .f32⟩
  | .hbm, ⟨19, _⟩ => ⟨S_, .f32⟩
  | .hbm, ⟨20, _⟩ => ⟨S4x2x256, .f32⟩
  | .hbm, ⟨21, _⟩ => ⟨S4x2x256, .f32⟩
  | .hbm, ⟨22, _⟩ => ⟨S4x2x256x1, .f32⟩
  | .hbm, ⟨23, _⟩ => ⟨S4x2x256x256, .f32⟩
  | .hbm, ⟨24, _⟩ => ⟨S4x2x256x256, .f32⟩
  | .hbm, ⟨25, _⟩ => ⟨S4x2x256x256, .f32⟩
  | .hbm, ⟨26, _⟩ => ⟨S_, .f32⟩
  | .hbm, ⟨27, _⟩ => ⟨S4x2x256, .f32⟩
  | .hbm, ⟨28, _⟩ => ⟨S4x2x256x1, .f32⟩
  | .hbm, ⟨29, _⟩ => ⟨S4x2x256x256, .f32⟩
  | .hbm, ⟨30, _⟩ => ⟨S4x2x256x256, .f32⟩
  | .hbm, ⟨31, _⟩ => ⟨S4x256x256, .f32⟩
  | .hbm, ⟨32, _⟩ => ⟨S4x128x256, .f32⟩
  | .hbm, ⟨33, _⟩ => ⟨S256x4x128, .f32⟩
  | .hbm, ⟨34, _⟩ => ⟨S16384x4x2x64, .f32⟩
  | .hbm, ⟨35, _⟩ => ⟨S4x2x16384x16640, .f32⟩
  | .hbm, ⟨36, _⟩ => ⟨S_, .f32⟩
  | .hbm, ⟨37, _⟩ => ⟨S4x2x16384x16640, .f32⟩
  | .hbm, ⟨38, _⟩ => ⟨S4x2x16384x16640, .f32⟩
  | .hbm, ⟨39, _⟩ => ⟨S_, .f32⟩
  | .hbm, ⟨40, _⟩ => ⟨S4x2x16384, .f32⟩
  | .hbm, ⟨41, _⟩ => ⟨S_, .f32⟩
  | .hbm, ⟨42, _⟩ => ⟨S4x2x16384, .f32⟩
  | .hbm, ⟨43, _⟩ => ⟨S4x2x16384, .f32⟩
  | .hbm, ⟨44, _⟩ => ⟨S4x2x16384x1, .f32⟩
  | .hbm, ⟨45, _⟩ => ⟨S4x2x16384x16640, .f32⟩
  | .hbm, ⟨46, _⟩ => ⟨S4x2x16384x16640, .f32⟩
  | .hbm, ⟨47, _⟩ => ⟨S4x2x16384x16640, .f32⟩
  | .hbm, ⟨48, _⟩ => ⟨S_, .f32⟩
  | .hbm, ⟨49, _⟩ => ⟨S4x2x16384, .f32⟩
  | .hbm, ⟨50, _⟩ => ⟨S4x2x16384x1, .f32⟩
  | .hbm, ⟨51, _⟩ => ⟨S4x2x16384x16640, .f32⟩
  | .hbm, ⟨52, _⟩ => ⟨S4x2x16384x16640, .f32⟩
  | .hbm, ⟨53, _⟩ => ⟨S4x16384x16640, .f32⟩
  | .hbm, ⟨54, _⟩ => ⟨S4x128x16384, .f32⟩
  | .hbm, ⟨55, _⟩ => ⟨S16384x4x128, .f32⟩
  | .hbm, ⟨56, _⟩ => ⟨S16640x4x128, .f32⟩
  | .hbm, ⟨57, _⟩ => ⟨S16640x4x128, .f32⟩
  | .hbm, ⟨58, _⟩ => ⟨S_, .f32⟩
  | .hbm, ⟨59, _⟩ => ⟨S16640x4, .f32⟩
  | .hbm, ⟨60, _⟩ => ⟨S16640x4x1, .f32⟩
  | .hbm, ⟨61, _⟩ => ⟨S_, .f32⟩
  | .hbm, ⟨62, _⟩ => ⟨S16640x4x1, .f32⟩
  | .hbm, ⟨63, _⟩ => ⟨S16640x4x1, .f32⟩
  | .hbm, ⟨64, _⟩ => ⟨S_, .f32⟩
  | .hbm, ⟨65, _⟩ => ⟨S16640x4x1, .f32⟩
  | .hbm, ⟨66, _⟩ => ⟨S16640x4x1, .f32⟩
  | .hbm, ⟨67, _⟩ => ⟨S16640x4x1, .f32⟩
  | .hbm, ⟨68, _⟩ => ⟨S16640x4x128, .f32⟩
  | .hbm, ⟨69, _⟩ => ⟨S16640x4x128, .f32⟩
  | .hbm, ⟨70, _⟩ => ⟨S1x1x128, .f32⟩
  | .hbm, ⟨71, _⟩ => ⟨S16640x4x128, .f32⟩
  | .hbm, ⟨72, _⟩ => ⟨S16640x4x128, .f32⟩
  | .hbm, ⟨73, _⟩ => ⟨S_, .f32⟩
  | .hbm, ⟨74, _⟩ => ⟨S16640x4x128, .f32⟩
  | .hbm, ⟨75, _⟩ => ⟨S16640x4x128, .f32⟩
  | .hbm, ⟨76, _⟩ => ⟨S16640x512, .f32⟩
  | _, _ => ⟨S16640x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel4.lean ====
abbrev S16640x1024 : Shape := ⟨2, ![16640, 1024]⟩
abbrev S6x1024 : Shape := ⟨2, ![6, 1024]⟩
abbrev S1024x2816 : Shape := ⟨2, ![1024, 2816]⟩
abbrev S2816x1024 : Shape := ⟨2, ![2816, 1024]⟩
abbrev S_ : Shape := ⟨0, ![]⟩
abbrev S8x1024 : Shape := ⟨2, ![8, 1024]⟩
abbrev S640x1024 : Shape := ⟨2, ![640, 1024]⟩
abbrev S640x1 : Shape := ⟨2, ![640, 1]⟩
abbrev S1x1024 : Shape := ⟨2, ![1, 1024]⟩
abbrev S640 : Shape := ⟨1, ![640]⟩
abbrev S1024x256 : Shape := ⟨2, ![1024, 256]⟩
abbrev S640x256 : Shape := ⟨2, ![640, 256]⟩
abbrev S256x1024 : Shape := ⟨2, ![256, 1024]⟩

abbrev nBuf : Space → Nat
  | .hbm => 16
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S6x1024, .f32⟩
  | .hbm, ⟨2, _⟩ => ⟨S6x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S8x1024, .f32⟩
  | .local _ .vmem, ⟨3, _⟩ => ⟨S8x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S640x1024, .f32⟩
  | .local _ .vmem, ⟨8, _⟩ => ⟨S640x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16640x1024 : Shape := ⟨2, ![16640, 1024]⟩
abbrev S6x1024 : Shape := ⟨2, ![6, 1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1024 : Shape := ⟨1, ![1024]⟩
abbrev S256x2816 : Shape := ⟨2, ![256, 2816]⟩
abbrev S16384x1024 : Shape := ⟨2, ![16384, 1024]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 99
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S6x1024, .f32⟩
  | .hbm, ⟨2, _⟩ => ⟨S6x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S256x1024, .f32⟩
  | .hbm, ⟨32, _⟩ => ⟨S256x1024, .f32⟩
  | .hbm, ⟨33, _⟩ => ⟨S1x1024, .f32⟩
  | .hbm, ⟨34, _⟩ => ⟨S1024, .f32⟩
  | .hbm, ⟨35, _⟩ => ⟨S256x2816, .f32⟩
  | .hbm, ⟨36, _⟩ => ⟨S256x2816, .f32⟩
  | .hbm, ⟨37, _⟩ => ⟨S256x2816, .f32⟩
  | .hbm, ⟨38, _⟩ => ⟨S_, .f32⟩
  | .hbm, ⟨39, _⟩ => ⟨S256x2816, .f32⟩
  | .hbm, ⟨40, _⟩ => ⟨S256x2816, .f32⟩
  | .hbm, ⟨41, _⟩ => ⟨S_, .f32⟩
  | .hbm, ⟨42, _⟩ => ⟨S256x2816, .f32⟩
  | .hbm, ⟨43, _⟩ => ⟨S256x2816, .f32⟩
  | .hbm, ⟨44, _⟩ => ⟨S256x2816, .f32⟩
  | .hbm, ⟨45, _⟩ => ⟨S256x2816, .f32⟩
  | .hbm, ⟨46, _⟩ => ⟨S256x2816, .f32⟩
  | .hbm, ⟨47, _⟩ => ⟨S256x1024, .f32⟩
  | .hbm, ⟨48, _⟩ => ⟨S1x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S1024, .f32⟩
  | .hbm, ⟨81, _⟩ => ⟨S16384x2816, .f32⟩
  | .hbm, ⟨82, _⟩ => ⟨S16384x2816, .f32⟩
  | .hbm, ⟨83, _⟩ => ⟨S16384x2816, .f32⟩
  | .hbm, ⟨84, _⟩ => ⟨S_, .f32⟩
  | .hbm, ⟨85, _⟩ => ⟨S16384x2816, .f32⟩
  | .hbm, ⟨86, _⟩ => ⟨S16384x2816, .f32⟩
  | .hbm, ⟨87, _⟩ => ⟨S_, .f32⟩
  | .hbm, ⟨88, _⟩ => ⟨S16384x2816, .f32⟩
  | .hbm, ⟨89, _⟩ => ⟨S16384x2816, .f32⟩
  | .hbm, ⟨90, _⟩ => ⟨S16384x2816, .f32⟩
  | .hbm, ⟨91, _⟩ => ⟨S16384x2816, .f32⟩
  | .hbm, ⟨92, _⟩ => ⟨S16384x2816, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Kernel5.lean ====
abbrev S16384x1024 : Shape := ⟨2, ![16384, 1024]⟩
abbrev S256x1024 : Shape := ⟨2, ![256, 1024]⟩
abbrev S16640x512 : Shape := ⟨2, ![16640, 512]⟩
abbrev S6x1024 : Shape := ⟨2, ![6, 1024]⟩
abbrev S512x512 : Shape := ⟨2, ![512, 512]⟩
abbrev S512 : Shape := ⟨1, ![512]⟩
abbrev S1024x1024 : Shape := ⟨2, ![1024, 1024]⟩
abbrev S_ : Shape := ⟨0, ![]⟩
abbrev S8x1024 : Shape := ⟨2, ![8, 1024]⟩
abbrev S1x512 : Shape := ⟨2, ![1, 512]⟩
abbrev S16640x1024 : Shape := ⟨2, ![16640, 1024]⟩
abbrev S256x512 : Shape := ⟨2, ![256, 512]⟩
abbrev S1x1024 : Shape := ⟨2, ![1, 1024]⟩
abbrev S512x1024 : Shape := ⟨2, ![512, 1024]⟩

abbrev nBuf : Space → Nat
  | .hbm => 19
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S16640x512, .f32⟩
  | .hbm, ⟨3, _⟩ => ⟨S16640x512, .f32⟩
  | .hbm, ⟨4, _⟩ => ⟨S6x1024, .f32⟩
  | .hbm, ⟨5, _⟩ => ⟨S6x1024, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S_, .i32⟩
  | .hbm, ⟨13, _⟩ => ⟨S_, .f32⟩
  | .hbm, ⟨14, _⟩ => ⟨S8x1024, .f32⟩
  | .hbm, ⟨15, _⟩ => ⟨S512x512, .bf16⟩
  | .hbm, ⟨16, _⟩ => ⟨S1x512, .f32⟩
  | .hbm, ⟨17, _⟩ => ⟨S1024x1024, .bf16⟩
  | .hbm, ⟨18, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S8x1024, .f32⟩
  | .local _ .vmem, ⟨8, _⟩ => ⟨S8x1024, .f32⟩
  | .local _ .vmem, ⟨9, _⟩ => ⟨S512x512, .bf16⟩
  | .local _ .vmem, ⟨10, _⟩ => ⟨S1x512, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S256x1024 : Shape := ⟨2, ![256, 1024]⟩
abbrev S16640x512 : Shape := ⟨2, ![16640, 512]⟩
abbrev S6x1024 : Shape := ⟨2, ![6, 1024]⟩
abbrev S512x512 : Shape := ⟨2, ![512, 512]⟩
abbrev S512 : Shape := ⟨1, ![512]⟩
abbrev S1024x1024 : Shape := ⟨2, ![1024, 1024]⟩
abbrev S256x512 : Shape := ⟨2, ![256, 512]⟩
abbrev S_ : Shape := ⟨0, ![]⟩
abbrev S1x512 : Shape := ⟨2, ![1, 512]⟩
abbrev S1x1024 : Shape := ⟨2, ![1, 1024]⟩
abbrev S1024 : Shape := ⟨1, ![1024]⟩
abbrev S16384x512 : Shape := ⟨2, ![16384, 512]⟩
abbrev S16640x1024 : Shape := ⟨2, ![16640, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S16640x512, .f32⟩
  | .hbm, ⟨3, _⟩ => ⟨S16640x512, .f32⟩
  | .hbm, ⟨4, _⟩ => ⟨S6x1024, .f32⟩
  | .hbm, ⟨5, _⟩ => ⟨S6x1024, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S1x512, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | .hbm, ⟨40, _⟩ => ⟨S256x512, .f32⟩
  | .hbm, ⟨41, _⟩ => ⟨S1x1024, .f32⟩
  | .hbm, ⟨42, _⟩ => ⟨S1024, .f32⟩
  | .hbm, ⟨43, _⟩ => ⟨S256x1024, .f32⟩
  | .hbm, ⟨44, _⟩ => ⟨S256x1024, .f32⟩
  | .hbm, ⟨45, _⟩ => ⟨S1x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S_, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S1x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S_, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S1x1024, .f32⟩
  | .hbm, ⟨82, _⟩ => ⟨S1024, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16640x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Kernel6.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.FfnModel.lean ====
/- The feed-forward half layer, row by row, on the extended reals: the function that both programs
   compute of one row of their arguments. -/
module

public import Idealize.ShloMosaic.Lib.Pointwise
public import Idealize.ShloMosaic.Lib.IdealHost

@[expose] public section

noncomputable section

namespace Cert.Ffn

open Idealize.ShloMosaic

/-- The sigmoid-weighted unit. -/
def silu (t : EReal) : EReal := t * Ideal.div 1 (1 + Ideal.exp (-t))

/-- The reciprocal root of a mean: a sum `s` over `n` terms, the small constant added. -/
def rinv (n s : EReal) : EReal := Ideal.rsqrt (Ideal.div s n + Ideal.ofBits .f32 0x358637BD#32)

/-- The recurrence's output, its two directions added, gated. -/
def gated (yf yr z : Fin 512 → EReal) (k : Fin 512) : EReal := (yf k + yr k) * silu (z k)

/-- The sum of squares over the half of the lanes in which `k` lies. -/
def halfSq (y : Fin 512 → EReal) (k : Fin 512) : EReal :=
  if k.val < 256 then ∑ j : Fin 256, y ⟨j.val, by omega⟩ * y ⟨j.val, by omega⟩
  else ∑ j : Fin 256, y ⟨256 + j.val, by omega⟩ * y ⟨256 + j.val, by omega⟩

/-- The normalisation in two groups. -/
def grouped (y g : Fin 512 → EReal) (k : Fin 512) : EReal :=
  y k * rinv (Ideal.ofBits .f32 0x43800000#32) (halfSq y k) * g k

/-- The output projection of the attention beside the recurrence. -/
def mixed (a n : Fin 512 → EReal) (w : Fin 1024 → Fin 1024 → EReal) (j : Fin 1024) : EReal :=
  ∑ k : Fin 512, a k * w ⟨k.val, by omega⟩ j + ∑ k : Fin 512, n k * w ⟨512 + k.val, by omega⟩ j

/-- The row normalised, scaled and shifted. -/
def shifted (h m3 m4 : Fin 1024 → EReal) (j : Fin 1024) : EReal :=
  h j * rinv (Ideal.ofBits .f32 0x44800000#32) (∑ k : Fin 1024, h k * h k) * (1 + m4 j) + m3 j

/-- One hidden unit of the gated feed-forward. -/
def unit (x : Fin 1024 → EReal) (w1 w3 : Fin 1024 → Fin 2816 → EReal) (f : Fin 2816) : EReal :=
  silu (∑ k : Fin 1024, x k * w1 k f) * ∑ k : Fin 1024, x k * w3 k f

/-- The row after the output projection's residual. -/
def resid (x : Fin 1024 → EReal) (a yf yr z g : Fin 512 → EReal) (w : Fin 1024 → Fin 1024 → EReal)
    (m2 : Fin 1024 → EReal) (j : Fin 1024) : EReal :=
  x j + m2 j * mixed a (grouped (gated yf yr z) g) w j

/-- The whole half layer at lane `j`. -/
def row (x : Fin 1024 → EReal) (a yf yr z g : Fin 512 → EReal) (w : Fin 1024 → Fin 1024 → EReal)
    (m2 m3 m4 m5 : Fin 1024 → EReal) (w1 w3 : Fin 1024 → Fin 2816 → EReal) (w2 : Fin 2816 → Fin 1024 → EReal)
    (j : Fin 1024) : EReal :=
  resid x a yf yr z g w m2 j
    + m5 j * ∑ f : Fin 2816, unit (shifted (resid x a yf yr z g w m2) m3 m4) w1 w3 f * w2 f j

/-- A sum over the 2816 hidden units is the eleven sums over 256. -/
theorem sum_chunks (G : Fin 2816 → EReal) :
    ∑ f : Fin 2816, G f = ∑ c : Fin 11, ∑ f : Fin 256, G ⟨c.val * 256 + f.val, by omega⟩ := by
  rw [← Finset.sum_product', Finset.univ_product_univ,
    ← Equiv.sum_comp (finProdFinEquiv (m := 11) (n := 256)) G]
  refine Finset.sum_congr rfl fun p _ => congrArg G (Fin.ext ?_)
  simp [finProdFinEquiv]; omega

/-- Eleven terms, added from the left. -/
theorem sum_eleven (f : Fin 11 → EReal) :
    ∑ c : Fin 11, f c = f 0 + f 1 + f 2 + f 3 + f 4 + f 5 + f 6 + f 7 + f 8 + f 9 + f 10 := by
  simp only [Fin.sum_univ_castSucc, Fin.sum_univ_zero, zero_add]
  rfl

/-- A matrix of extended reals. -/
abbrev Mat (n m : Nat) := (⟨2, ![n, m]⟩ : Shape).Idx → EReal

/-- The half layer of every latent row: the 256 context rows are left out. -/
def rows (x : Mat 16640 1024) (a yf yr z : Mat 16640 512) (g : (⟨1, ![512]⟩ : Shape).Idx → EReal) (w : Mat 1024 1024) (m : Mat 6 1024)
    (w1 w3 : Mat 1024 2816) (w2 : Mat 2816 1024) (r : Fin 16384) (j : Fin 1024) : EReal :=
  row (fun k => x (ix2 ⟨256 + r.val, by omega⟩ k)) (fun k => a (ix2 ⟨256 + r.val, by omega⟩ k)) (fun k => yf (ix2 ⟨256 + r.val, by omega⟩ k))
    (fun k => yr (ix2 ⟨256 + r.val, by omega⟩ k)) (fun k => z (ix2 ⟨256 + r.val, by omega⟩ k)) (fun k => g (ix1 k)) (fun k j => w (ix2 k j))
    (fun k => m (ix2 2 k)) (fun k => m (ix2 3 k)) (fun k => m (ix2 4 k)) (fun k => m (ix2 5 k))
    (fun k f => w1 (ix2 k f)) (fun k f => w3 (ix2 k f)) (fun f j => w2 (ix2 f j)) j

end Cert.Ffn

end
-- ==== Proof.FfnKernel.lean ====
/- The feed-forward kernel's block, read at a row and a lane. -/
module

public import proofs.«01_k».proof.Proof.FfnModel
public import proofs.«01_k».proof.Proof.Gen.Kernel2Ideal.Value

@[expose] public section

set_option maxRecDepth 16384

noncomputable section

namespace Cert.Ffn

open Idealize.ShloMosaic Cert.Kernel2Ideal Cert.Kernel2Ideal.Gen

theorem pay3_at (a b z : Vec Ideal S512x512 .f32) (r : Fin 512) (k : Fin 512) :
    k0_pay3 a b z (ix2 r k) = gated (fun k => a (ix2 r k)) (fun k => b (ix2 r k)) (fun k => z (ix2 r k)) k := by
  pointwise [k0_pay3]
  simp only [gated, silu, zero_sub]

theorem pay13_at (h : FVec Ideal S512x1024 .f32) (r : Fin 512) (o : Fin 1) :
    k0_pay13 h (ix2 r o) = rinv (Ideal.ofBits .f32 0x44800000#32) (∑ k : Fin 1024, h (ix2 r k) * h (ix2 r k)) := by
  pointwise [k0_pay13]
  rfl

theorem pay6_at (v2 v18 : FVec Ideal S512x1024 .f32) (a b z v59 : Vec Ideal S512x512 .f32) (g : Vec Ideal S1x512 .f32)
    (w0 w1 : Vec Ideal S512x1024 .bf16) (w : Fin 1024 → Fin 1024 → EReal)
    (hw0 : ∀ (k : Fin 512) j, w0 (ix2 k j) = w ⟨k.val, by omega⟩ j)
    (hw1 : ∀ (k : Fin 512) j, w1 (ix2 k j) = w ⟨512 + k.val, by omega⟩ j)
    (r : Fin 512) (j : Fin 1024) :
    k0_pay6 v2 v18 (k0_pay3 a b z) (k0_pay4 a b z) (k0_pay5 a b z) (Scalar.ofBits .f32 0x358637BD#32) g v59 w0 w1 (ix2 r j) =
      resid (fun k => v2 (ix2 r k)) (fun k => v59 (ix2 r k)) (fun k => a (ix2 r k)) (fun k => b (ix2 r k)) (fun k => z (ix2 r k))
        (fun k => g (ix2 0 k)) w (fun k => v18 (ix2 r k)) j := by
  pointwise [k0_pay6, k0_pay5, k0_pay4]
  unfold resid mixed
  rw [Fin.sum_univ_two_halves 256 256 rfl (fun k : Fin 512 => _ * w ⟨512 + k.val, _⟩ j)]
  simp only [pay3_at, hw0, hw1, grouped, halfSq, rinv, Fin.is_lt, ↓reduceIte, Nat.not_lt.mpr (Nat.le_add_right 256 _)]

theorem not_ctx : ∀ (i : Fin 32) (r : Fin 512),
    IntOp.cmpi .slt (IntOp.addi (IntOp.addi 256#32 (IntOp.muli (BitVec.ofNat 32 i.val) 512#32)) (BitVec.ofNat 32 r.val)) 256#32 = 0#1 := by
  decide +kernel

theorem not_ctx' (i : grid0.Coords) (r : Fin 512) :
    IntOp.cmpi .slt (IntOp.addi (Scalar.addi 256#32 (Scalar.muli (BitVec.ofNat 32 (i 0).val) 512#32)) (BitVec.ofNat 32 r.val)) 256#32 = 0#1 :=
  not_ctx (i 0) r

theorem pay2_at (i : grid0.Coords) (v8 v10 : Vec Ideal S1x1024 .f32) (r : Fin 512) (j : Fin 1024) :
    k0_pay2 i v8 v10 (ix2 r j) = v10 (ix2 0 j) := by
  pointwise [k0_pay2]
  rw [not_ctx']; rfl

theorem pay10_at (i : grid0.Coords) (v8 v10 : Vec Ideal S1x1024 .f32) (r : Fin 512) (j : Fin 1024) :
    k0_pay10 (k0_pay7 (Scalar.addi 256#32 (Scalar.muli (BitVec.ofNat 32 (i 0).val) 512#32))) (k0_pay8 v8) (k0_pay9 v10) (ix2 r j) = v10 (ix2 0 j) := by
  pointwise [k0_pay10, k0_pay7, k0_pay8, k0_pay9]
  rw [not_ctx']; rfl

theorem pay11_at (i : grid0.Coords) (v8 v10 : Vec Ideal S1x1024 .f32) (r : Fin 512) (j : Fin 1024) :
    k0_pay11 (Scalar.addi 256#32 (Scalar.muli (BitVec.ofNat 32 (i 0).val) 512#32)) v8 v10 (ix2 r j) = v10 (ix2 0 j) := by
  pointwise [k0_pay11]
  rw [not_ctx']; rfl

theorem pay12_at (i : grid0.Coords) (v8 v10 : Vec Ideal S1x1024 .f32) (r : Fin 512) (j : Fin 1024) :
    k0_pay12 (Scalar.addi 256#32 (Scalar.muli (BitVec.ofNat 32 (i 0).val) 512#32)) v8 v10 (ix2 r j) = v10 (ix2 0 j) := by
  pointwise [k0_pay12]
  rw [not_ctx']; rfl

/-- One chunk of 256 hidden units: the two products, the gate, the product back. -/
def chunk (X : FVec Ideal S512x1024 .bf16) (a b : Vec Ideal S1024x256 .bf16) (c : Vec Ideal S256x1024 .bf16) : FVec Ideal S512x1024 .f32 :=
  let u := matmul dot_S512x1024_S1024x256_S512x256_1_0_0_1_n_n none X (shapeCast S1024x256 a shapeCasts_S1024x256_S1024x256 : FVec Ideal S1024x256 .bf16) (constant S512x256 .f32 0x00000000#32)
  let v := matmul dot_S512x1024_S1024x256_S512x256_1_0_0_1_n_n none X (shapeCast S1024x256 b shapeCasts_S1024x256_S1024x256 : FVec Ideal S1024x256 .bf16) (constant S512x256 .f32 0x00000000#32)
  let one : FVec Ideal S512x256 .f32 := broadcast S512x256 (Scalar.ofBits .f32 0x3F800000#32)
  let zero : FVec Ideal S512x256 .f32 := broadcast S512x256 (Scalar.ofBits .f32 0x00000000#32)
  matmul dot_S512x256_S256x1024_S512x1024_1_0_0_1_n_n none
    (truncf .bf16 (mulf (mulf u (divf one (addf one (exp (subf zero u))))) v) bitsLt_bf16_f32)
    (shapeCast S256x1024 c shapeCasts_S256x1024_S256x1024 : FVec Ideal S256x1024 .bf16) (constant S512x1024 .f32 0x00000000#32)

theorem chunk_at (X : FVec Ideal S512x1024 .bf16) (a b : Vec Ideal S1024x256 .bf16) (c : Vec Ideal S256x1024 .bf16)
    (w1 w3 : Fin 1024 → Fin 2816 → EReal) (w2 : Fin 2816 → Fin 1024 → EReal) (p : Fin 11)
    (ha : ∀ k (f : Fin 256), a (ix2 k f) = w1 k ⟨p.val * 256 + f.val, by omega⟩)
    (hb : ∀ k (f : Fin 256), b (ix2 k f) = w3 k ⟨p.val * 256 + f.val, by omega⟩)
    (hc : ∀ (f : Fin 256) j, c (ix2 f j) = w2 ⟨p.val * 256 + f.val, by omega⟩ j) (r : Fin 512) (j : Fin 1024) :
    chunk X a b c (ix2 r j) = ∑ f : Fin 256, unit (fun k => X (ix2 r k)) w1 w3 ⟨p.val * 256 + f.val, by omega⟩ * w2 ⟨p.val * 256 + f.val, by omega⟩ j := by
  pointwise [chunk]
  simp only [unit, silu, zero_sub, ha, hb, hc]

theorem out_eq (i : grid0.Coords) (x0 : Vec Ideal S512x1024 .f32) (x1 x2 x3 x4 : Vec Ideal S512x512 .f32) (x5 : Vec Ideal S1x512 .f32)
    (x6 : Vec Ideal S1024x1024 .bf16) (x7 x8 : Vec Ideal S8x1024 .f32) (x9 x10 : Vec Ideal S1024x2816 .bf16) (x11 : Vec Ideal S2816x1024 .bf16) :
    out0_12 i x0 x1 x2 x3 x4 x5 x6 x7 x8 x9 x10 x11 =
      let h := k0_pay33 i x0 x1 x2 x3 x4 x5 x6 x7 x8 x9 x10 x11
      let X := k0_pay37 i x0 x1 x2 x3 x4 x5 x6 x7 x8 x9 x10 x11
      View.canon [⟨r0_0, addf h (mulf (k0_pay12 (Scalar.addi 256#32 (Scalar.muli (BitVec.ofNat 32 (i 0).val) 512#32)) (View.ld x8 r0_8) (View.ld x7 r0_8))
        (addf (addf (addf (addf (addf (addf (addf (addf (addf (addf (addf (broadcast S512x1024 (Scalar.ofBits .f32 0x00000000#32))
          (chunk X (View.ld x9 r0_9) (View.ld x10 r0_9) (View.ld x11 r0_10)))
          (chunk X (View.ld x9 r0_11) (View.ld x10 r0_11) (View.ld x11 r0_12)))
          (chunk X (View.ld x9 r0_13) (View.ld x10 r0_13) (View.ld x11 r0_14)))
          (chunk X (View.ld x9 r0_15) (View.ld x10 r0_15) (View.ld x11 r0_16)))
          (chunk X (View.ld x9 r0_17) (View.ld x10 r0_17) (View.ld x11 r0_18)))
          (chunk X (View.ld x9 r0_19) (View.ld x10 r0_19) (View.ld x11 r0_20)))
          (chunk X (View.ld x9 r0_21) (View.ld x10 r0_21) (View.ld x11 r0_22)))
          (chunk X (View.ld x9 r0_23) (View.ld x10 r0_23) (View.ld x11 r0_24)))
          (chunk X (View.ld x9 r0_25) (View.ld x10 r0_25) (View.ld x11 r0_26)))
          (chunk X (View.ld x9 r0_27) (View.ld x10 r0_27) (View.ld x11 r0_28)))
          (chunk X (View.ld x9 r0_29) (View.ld x10 r0_29) (View.ld x11 r0_30))))⟩] := by
  unfold out0_12 k0_pay1 k0_pay32 k0_pay31 k0_pay30 k0_pay29 k0_pay28 k0_pay27 k0_pay26 k0_pay25 k0_pay24 k0_pay23 k0_pay22 k0_pay21 k0_pay20 k0_pay19 k0_pay18 k0_pay17 k0_pay16 k0_pay15 chunk
  rfl

section Block

variable (i : grid0.Coords) (x0 : Vec Ideal S512x1024 .f32) (x1 x2 x3 x4 : Vec Ideal S512x512 .f32) (x5 : Vec Ideal S1x512 .f32)
    (x6 : Vec Ideal S1024x1024 .bf16) (x7 x8 : Vec Ideal S8x1024 .f32) (x9 x10 : Vec Ideal S1024x2816 .bf16) (x11 : Vec Ideal S2816x1024 .bf16)

theorem pay33_at (r : Fin 512) (j : Fin 1024) :
    k0_pay33 i x0 x1 x2 x3 x4 x5 x6 x7 x8 x9 x10 x11 (ix2 r j) =
      resid (fun k => x0 (ix2 r k)) (fun k => x1 (ix2 r k)) (fun k => x2 (ix2 r k)) (fun k => x3 (ix2 r k)) (fun k => x4 (ix2 r k))
        (fun k => x5 (ix2 0 k)) (fun k j => x6 (ix2 k j)) (fun k => x7 (ix2 2 k)) j := by
  unfold k0_pay33
  rw [pay6_at _ _ _ _ _ _ _ _ _ (fun k j => x6 (ix2 k j)) (fun k j => by pointwise [r0_4]) (fun k j => by pointwise [r0_5])]
  simp only [pay2_at]
  pointwise [r0_0, r0_1, r0_2, r0_3]

theorem pay37_at (r : Fin 512) (j : Fin 1024) :
    k0_pay37 i x0 x1 x2 x3 x4 x5 x6 x7 x8 x9 x10 x11 (ix2 r j) =
      shifted (resid (fun k => x0 (ix2 r k)) (fun k => x1 (ix2 r k)) (fun k => x2 (ix2 r k)) (fun k => x3 (ix2 r k)) (fun k => x4 (ix2 r k))
        (fun k => x5 (ix2 0 k)) (fun k j => x6 (ix2 k j)) (fun k => x7 (ix2 2 k))) (fun k => x7 (ix2 3 k)) (fun k => x7 (ix2 4 k)) j := by
  unfold k0_pay37 k0_pay36 k0_pay35 k0_pay34
  pointwise [k0_pay14]
  simp only [pay10_at, pay11_at, pay13_at, pay33_at]
  unfold shifted
  pointwise [r0_6, r0_7]

theorem out_at (r : Fin 512) (j : Fin 1024) :
    out0_12 i x0 x1 x2 x3 x4 x5 x6 x7 x8 x9 x10 x11 (ix2 r j) =
      row (fun k => x0 (ix2 r k)) (fun k => x1 (ix2 r k)) (fun k => x2 (ix2 r k)) (fun k => x3 (ix2 r k)) (fun k => x4 (ix2 r k))
        (fun k => x5 (ix2 0 k)) (fun k j => x6 (ix2 k j)) (fun k => x7 (ix2 2 k)) (fun k => x7 (ix2 3 k)) (fun k => x7 (ix2 4 k))
        (fun k => x7 (ix2 5 k)) (fun k f => x9 (ix2 k f)) (fun k f => x10 (ix2 k f)) (fun f j => x11 (ix2 f j)) j := by
  rw [out_eq]
  dsimp only
  rw [show ∀ p, View.canon [⟨r0_0, p⟩] = p from fun p => View.canon_unit_zero (by decide) _ p]
  have hc := fun a b c p ha hb hc => chunk_at (k0_pay37 i x0 x1 x2 x3 x4 x5 x6 x7 x8 x9 x10 x11) a b c (fun k f => x9 (ix2 k f))
    (fun k f => x10 (ix2 k f)) (fun f j => x11 (ix2 f j)) p ha hb hc r j
  have e0 := hc (View.ld x9 r0_9) (View.ld x10 r0_9) (View.ld x11 r0_10) 0 (fun k f => by pointwise [r0_9]) (fun k f => by pointwise [r0_9]) (fun f j => by pointwise [r0_10])
  have e1 := hc (View.ld x9 r0_11) (View.ld x10 r0_11) (View.ld x11 r0_12) 1 (fun k f => by pointwise [r0_11]) (fun k f => by pointwise [r0_11]) (fun f j => by pointwise [r0_12])
  have e2 := hc (View.ld x9 r0_13) (View.ld x10 r0_13) (View.ld x11 r0_14) 2 (fun k f => by pointwise [r0_13]) (fun k f => by pointwise [r0_13]) (fun f j => by pointwise [r0_14])
  have e3 := hc (View.ld x9 r0_15) (View.ld x10 r0_15) (View.ld x11 r0_16) 3 (fun k f => by pointwise [r0_15]) (fun k f => by pointwise [r0_15]) (fun f j => by pointwise [r0_16])
  have e4 := hc (View.ld x9 r0_17) (View.ld x10 r0_17) (View.ld x11 r0_18) 4 (fun k f => by pointwise [r0_17]) (fun k f => by pointwise [r0_17]) (fun f j => by pointwise [r0_18])
  have e5 := hc (View.ld x9 r0_19) (View.ld x10 r0_19) (View.ld x11 r0_20) 5 (fun k f => by pointwise [r0_19]) (fun k f => by pointwise [r0_19]) (fun f j => by pointwise [r0_20])
  have e6 := hc (View.ld x9 r0_21) (View.ld x10 r0_21) (View.ld x11 r0_22) 6 (fun k f => by pointwise [r0_21]) (fun k f => by pointwise [r0_21]) (fun f j => by pointwise [r0_22])
  have e7 := hc (View.ld x9 r0_23) (View.ld x10 r0_23) (View.ld x11 r0_24) 7 (fun k f => by pointwise [r0_23]) (fun k f => by pointwise [r0_23]) (fun f j => by pointwise [r0_24])
  have e8 := hc (View.ld x9 r0_25) (View.ld x10 r0_25) (View.ld x11 r0_26) 8 (fun k f => by pointwise [r0_25]) (fun k f => by pointwise [r0_25]) (fun f j => by pointwise [r0_26])
  have e9 := hc (View.ld x9 r0_27) (View.ld x10 r0_27) (View.ld x11 r0_28) 9 (fun k f => by pointwise [r0_27]) (fun k f => by pointwise [r0_27]) (fun f j => by pointwise [r0_28])
  have e10 := hc (View.ld x9 r0_29) (View.ld x10 r0_29) (View.ld x11 r0_30) 10 (fun k f => by pointwise [r0_29]) (fun k f => by pointwise [r0_29]) (fun f j => by pointwise [r0_30])
  pointwise
  rw [e0, e1, e2, e3, e4, e5, e6, e7, e8, e9, e10, pay12_at]
  unfold row
  rw [sum_chunks, sum_eleven]
  simp only [pay37_at, pay33_at]
  pointwise [r0_8]

end Block

end Cert.Ffn

end
-- ==== Proof.FfnArray.lean ====
/- The feed-forward kernel's result array, element by element. -/
module

public import Idealize.ShloMosaic.Lib.StableHlo.ReadAt
public import proofs.«01_k».proof.Proof.FfnKernel
public import Idealize.ShloMosaic.Lib.Pipeline.ValueKit

@[expose] public section

set_option maxRecDepth 16384

noncomputable section

namespace Cert.Ffn

open Idealize.ShloMosaic Idealize.ShloMosaic.TcCoe Cert.Kernel2Ideal Cert.Kernel2Ideal.Gen
open Idealize.ShloMosaic.Pipeline (Dat)

variable (m : (ℓ : Loc nD τ sig) → Buf (Elt Ideal) ℓ)

theorem idx : ∀ t : Fin grid0.N, win0_0.index t = ![256 + 512 * t.val, 0] ∧ win0_1.index t = ![256 + 512 * t.val, 0] ∧ win0_2.index t = ![256 + 512 * t.val, 0]
    ∧ win0_3.index t = ![256 + 512 * t.val, 0] ∧ win0_4.index t = ![256 + 512 * t.val, 0] ∧ win0_5.index t = ![0, 0] ∧ win0_6.index t = ![0, 0]
    ∧ win0_7.index t = ![0, 0] ∧ win0_9.index t = ![0, 0] ∧ win0_10.index t = ![0, 0] ∧ win0_11.index t = ![0, 0]
    ∧ win0_12.index t = ![t.val, 0] := by decide +kernel

theorem blk0 (c : Dev nD) (t : Fin cfg0.N) (r : Fin 512) (k : Fin 1024) (h : 256 + 512 * t.val + r.val < 16640) :
    iblk m c 0 t (ix2 r k) = m ((c : Thread nD τ).loc main_arg0) (ix2 ⟨256 + 512 * t.val + r.val, h⟩ k) := by
  have e : ((win0_0.blk t).view.emb (ix2 r k)) = ix2 ⟨256 + 512 * t.val + r.val, h⟩ k := by
    funext a
    refine Fin.ext ((Pipeline.Window.rect_emb_val_off win0_0 t (ix2 r k) a).trans ?_)
    rw [(idx t).1]
    match a with
    | ⟨0, _⟩ => rfl
    | ⟨1, _⟩ => exact Nat.zero_add _
  show V m c main_arg0 ((win0_0.blk t).view.emb (ix2 r k)) = _
  rw [e, V_main_arg0]

theorem blk5 (c : Dev nD) (t : Fin cfg0.N) (r : Fin 1) (k : Fin 512) :
    iblk m c 5 t (ix2 r k) = m ((c : Thread nD τ).loc main_arg5) (ix1 k) := by
  have e : ((win0_5.blk t).view.emb (ix2 r k)) = ix2 r k := by blk_ext [idx t]
  show V m c main_v2 ((win0_5.blk t).view.emb (ix2 r k)) = _
  rw [e]
  unfold V
  simp only [hostOps0, hostOps0_1, hostOps0_2, hostOps0_3, hostOps0_4, List.flatten_cons, List.flatten_nil, List.append_nil, List.cons_append, List.nil_append]
  after_reads_at

theorem blk7 (c : Dev nD) (t : Fin cfg0.N) (r : Fin 8) (k : Fin 1024) (h : r.val < 6) :
    iblk m c 7 t (ix2 r k) = m ((c : Thread nD τ).loc main_arg7) (ix2 ⟨r.val, h⟩ k) := by
  have e : ((win0_7.blk t).view.emb (ix2 r k)) = ix2 r k := by blk_ext [idx t]
  show V m c main_v0 ((win0_7.blk t).view.emb (ix2 r k)) = _
  rw [e]
  unfold V
  simp only [hostOps0, hostOps0_1, hostOps0_2, hostOps0_3, hostOps0_4, List.flatten_cons, List.flatten_nil, List.append_nil, List.cons_append, List.nil_append]
  after_reads_at
  rw [dif_pos h]

theorem blk6 (c : Dev nD) (t : Fin cfg0.N) (r : Fin 1024) (k : Fin 1024) :
    iblk m c 6 t (ix2 r k) = m ((c : Thread nD τ).loc main_arg6) (ix2 r k) := by
  unfold iblk
  entry_read
  pointwise
  blk_ext [idx t]

theorem blk1 (c : Dev nD) (t : Fin cfg0.N) (r : Fin 512) (k : Fin 512) (h : 256 + 512 * t.val + r.val < 16640) :
    iblk m c 1 t (ix2 r k) = m ((c : Thread nD τ).loc main_arg1) (ix2 ⟨256 + 512 * t.val + r.val, h⟩ k) := by
  have e : ((win0_1.blk t).view.emb (ix2 r k)) = ix2 ⟨256 + 512 * t.val + r.val, h⟩ k := by
    funext a
    refine Fin.ext ((Pipeline.Window.rect_emb_val_off win0_1 t (ix2 r k) a).trans ?_)
    rw [(idx t).2.1]
    match a with
    | ⟨0, _⟩ => rfl
    | ⟨1, _⟩ => exact Nat.zero_add _
  show V m c main_arg1 ((win0_1.blk t).view.emb (ix2 r k)) = _
  rw [e, V_main_arg1]

theorem blk2 (c : Dev nD) (t : Fin cfg0.N) (r : Fin 512) (k : Fin 512) (h : 256 + 512 * t.val + r.val < 16640) :
    iblk m c 2 t (ix2 r k) = m ((c : Thread nD τ).loc main_arg2) (ix2 ⟨256 + 512 * t.val + r.val, h⟩ k) := by
  have e : ((win0_2.blk t).view.emb (ix2 r k)) = ix2 ⟨256 + 512 * t.val + r.val, h⟩ k := by
    funext a
    refine Fin.ext ((Pipeline.Window.rect_emb_val_off win0_2 t (ix2 r k) a).trans ?_)
    rw [(idx t).2.2.1]
    match a with
    | ⟨0, _⟩ => rfl
    | ⟨1, _⟩ => exact Nat.zero_add _
  show V m c main_arg2 ((win0_2.blk t).view.emb (ix2 r k)) = _
  rw [e, V_main_arg2]

theorem blk3 (c : Dev nD) (t : Fin cfg0.N) (r : Fin 512) (k : Fin 512) (h : 256 + 512 * t.val + r.val < 16640) :
    iblk m c 3 t (ix2 r k) = m ((c : Thread nD τ).loc main_arg3) (ix2 ⟨256 + 512 * t.val + r.val, h⟩ k) := by
  have e : ((win0_3.blk t).view.emb (ix2 r k)) = ix2 ⟨256 + 512 * t.val + r.val, h⟩ k := by
    funext a
    refine Fin.ext ((Pipeline.Window.rect_emb_val_off win0_3 t (ix2 r k) a).trans ?_)
    rw [(idx t).2.2.2.1]
    match a with
    | ⟨0, _⟩ => rfl
    | ⟨1, _⟩ => exact Nat.zero_add _
  show V m c main_arg3 ((win0_3.blk t).view.emb (ix2 r k)) = _
  rw [e, V_main_arg3]

theorem blk4 (c : Dev nD) (t : Fin cfg0.N) (r : Fin 512) (k : Fin 512) (h : 256 + 512 * t.val + r.val < 16640) :
    iblk m c 4 t (ix2 r k) = m ((c : Thread nD τ).loc main_arg4) (ix2 ⟨256 + 512 * t.val + r.val, h⟩ k) := by
  have e : ((win0_4.blk t).view.emb (ix2 r k)) = ix2 ⟨256 + 512 * t.val + r.val, h⟩ k := by
    funext a
    refine Fin.ext ((Pipeline.Window.rect_emb_val_off win0_4 t (ix2 r k) a).trans ?_)
    rw [(idx t).2.2.2.2.1]
    match a with
    | ⟨0, _⟩ => rfl
    | ⟨1, _⟩ => exact Nat.zero_add _
  show V m c main_arg4 ((win0_4.blk t).view.emb (ix2 r k)) = _
  rw [e, V_main_arg4]

theorem blk9 (c : Dev nD) (t : Fin cfg0.N) (r : Fin 1024) (k : Fin 2816) :
    iblk m c 9 t (ix2 r k) = m ((c : Thread nD τ).loc main_arg9) (ix2 r k) := by
  unfold iblk
  entry_read
  pointwise
  blk_ext [idx t]

theorem blk10 (c : Dev nD) (t : Fin cfg0.N) (r : Fin 1024) (k : Fin 2816) :
    iblk m c 10 t (ix2 r k) = m ((c : Thread nD τ).loc main_arg10) (ix2 r k) := by
  unfold iblk
  entry_read
  pointwise
  blk_ext [idx t]

theorem blk11 (c : Dev nD) (t : Fin cfg0.N) (r : Fin 2816) (k : Fin 1024) :
    iblk m c 11 t (ix2 r k) = m ((c : Thread nD τ).loc main_arg11) (ix2 r k) := by
  unfold iblk
  entry_read
  pointwise
  blk_ext [idx t]

/-- The result array, at an index, is the half layer of the arguments' row. -/
theorem out_array (c : Dev nD) : (dats m 0 c).arrAt 12 cfg0.N = fun p => rows
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg9))
    (m ((c : Thread nD τ).loc main_arg10)) (m ((c : Thread nD τ).loc main_arg11)) (p 0) (p 1) := by
  refine (dats m 0 c).arrAt_eq_of_covers 12 _ (by decide +kernel) fun t _ y => ?_
  blk_simp
  rw [after0_12]
  obtain ⟨r, j, rfl⟩ : ∃ (r : Fin 512) (j : Fin 1024), y = ix2 r j := ⟨y 0, y 1, eq_ix2 y⟩
  rw [out_at]
  have hr := r.isLt
  have ht : t.val < 32 := t.isLt
  have h : 256 + 512 * t.val + r.val < 16640 := by omega
  have e : ((win0_12.blk t).view.emb (ix2 r j)) = ix2 ⟨512 * t.val + r.val, by omega⟩ j := by blk_ext [idx t]
  simp only [blk0 _ _ _ _ _ h, blk1 _ _ _ _ _ h, blk2 _ _ _ _ _ h, blk3 _ _ _ _ _ h, blk4 _ _ _ _ _ h, blk5, blk6, blk9, blk10, blk11,
    blk7 m c t 2 _ (by decide), blk7 m c t 3 _ (by decide), blk7 m c t 4 _ (by decide), blk7 m c t 5 _ (by decide)]
  refine Eq.trans ?_ (congrArg (fun p : S16384x1024.Idx => rows _ _ _ _ _ _ _ _ _ _ _ (p 0) (p 1)) e).symm
  simp only [rows, ix2_0, ix2_1, ← Nat.add_assoc]
  rfl

end Cert.Ffn

end
-- ==== Proof.FfnReference.lean ====
/- The feed-forward reference, read at an index. -/
module

public import proofs.«01_k».proof.Proof.FfnModel
public import proofs.«01_k».proof.Proof.Gen.Reference2Ideal.Read
public import Idealize.ShloMosaic.Lib.Pointwise

@[expose] public section

noncomputable section

namespace Cert.Ffn.Ref

open Idealize.ShloMosaic Idealize.ShloMosaic.TcCoe Cert.Reference2Ideal Cert.Reference2Ideal.Read

variable (x0 : (⟨S16640x1024, .f32⟩ : BufTy).Contents (Elt Ideal)) (x1 x2 x3 x4 : (⟨S16640x512, .f32⟩ : BufTy).Contents (Elt Ideal))
  (x5 : (⟨S512, .f32⟩ : BufTy).Contents (Elt Ideal)) (x6 : (⟨S1024x1024, .f32⟩ : BufTy).Contents (Elt Ideal))
  (x7 : (⟨S6x1024, .f32⟩ : BufTy).Contents (Elt Ideal)) (x9 x10 : (⟨S1024x2816, .f32⟩ : BufTy).Contents (Elt Ideal))
  (x11 : (⟨S2816x1024, .f32⟩ : BufTy).Contents (Elt Ideal))

theorem gated_at (r : Fin 16384) (k : Fin 512) (h : 256 + r.val < 16640) : val_main_v7 x2 x3 x4 (ix2 r k) =
    gated (fun k => x2 (ix2 ⟨256 + r.val, h⟩ k)) (fun k => x3 (ix2 ⟨256 + r.val, h⟩ k)) (fun k => x4 (ix2 ⟨256 + r.val, h⟩ k)) k := by
  pointwise [val_main_v7, val_main_v4, val_main_v2, val_main_v3, val_main_v6, val_main_v5, gated, silu, val_main_call0_v0, val_main_call0_v1, val_main_call0_cst, val_main_call0_v2, val_main_call0_v3, val_main_call0_cst_0, val_main_call0_v4, val_main_call0_v5, val_main_cst, val_main_cst_0, val_main_cst_1, val_main_cst_2, val_main_cst_3, val_main_cst_4, val_main_cst_5, val_main_call1_v0, val_main_call1_v1, val_main_call1_cst, val_main_call1_v2, val_main_call1_v3, val_main_call1_cst_0, val_main_call1_v4, val_main_call1_v5]

theorem square_at (r : Fin 16384) (g : Fin 2) : val_main_v10 x2 x3 x4 (ix2 r g) =
    ∑ j : Fin 256, val_main_v7 x2 x3 x4 (ix2 r ⟨g.val * 256 + j.val, by omega⟩) * val_main_v7 x2 x3 x4 (ix2 r ⟨g.val * 256 + j.val, by omega⟩) := by
  pointwise [val_main_v10, val_main_v9, val_main_v8, val_main_call0_v0, val_main_call0_v1, val_main_call0_cst, val_main_call0_v2, val_main_call0_v3, val_main_call0_cst_0, val_main_call0_v4, val_main_call0_v5, val_main_cst, val_main_cst_0, val_main_cst_1, val_main_cst_2, val_main_cst_3, val_main_cst_4, val_main_cst_5, val_main_call1_v0, val_main_call1_v1, val_main_call1_cst, val_main_call1_v2, val_main_call1_v3, val_main_call1_cst_0, val_main_call1_v4, val_main_call1_v5]

theorem half_at (r : Fin 16384) (k : Fin 512) : val_main_v10 x2 x3 x4 (ix2 r ⟨k.val / 256, by omega⟩) =
    halfSq (fun k => val_main_v7 x2 x3 x4 (ix2 r k)) k := by
  rw [square_at, halfSq]
  have hk := k.isLt
  split
  · next h =>
    have e : k.val / 256 = 0 := by omega
    simp only [e, Nat.zero_mul, Nat.zero_add]
  · next h =>
    have e : k.val / 256 = 1 := by omega
    simp only [e, Nat.one_mul]

theorem grouped_at (r : Fin 16384) (k : Fin 512) : val_main_v22 x2 x3 x4 x5 (ix2 r k) =
    grouped (fun k => val_main_v7 x2 x3 x4 (ix2 r k)) (fun k => x5 (ix1 k)) k := by
  pointwise [val_main_v22, val_main_v21, val_main_v20, val_main_v19, val_main_v18, val_main_v17, val_main_v16, val_main_v15, val_main_v14, val_main_v13, val_main_v12, val_main_v11, val_main_v8, grouped, rinv, val_main_call0_v0, val_main_call0_v1, val_main_call0_cst, val_main_call0_v2, val_main_call0_v3, val_main_call0_cst_0, val_main_call0_v4, val_main_call0_v5, val_main_cst, val_main_cst_0, val_main_cst_1, val_main_cst_2, val_main_cst_3, val_main_cst_4, val_main_cst_5, val_main_call1_v0, val_main_call1_v1, val_main_call1_cst, val_main_call1_v2, val_main_call1_v3, val_main_call1_cst_0, val_main_call1_v4, val_main_call1_v5]
  rw [half_at]

theorem mixed_at (r : Fin 16384) (j : Fin 1024) (h : 256 + r.val < 16640) : val_main_v26 x1 x2 x3 x4 x5 x6 (ix2 r j) =
    mixed (fun k => x1 (ix2 ⟨256 + r.val, h⟩ k)) (fun k => val_main_v22 x2 x3 x4 x5 (ix2 r k)) (fun k j => x6 (ix2 k j)) j := by
  pointwise [val_main_v26, val_main_v25, val_main_v1, mixed, val_main_call0_v0, val_main_call0_v1, val_main_call0_cst, val_main_call0_v2, val_main_call0_v3, val_main_call0_cst_0, val_main_call0_v4, val_main_call0_v5, val_main_cst, val_main_cst_0, val_main_cst_1, val_main_cst_2, val_main_cst_3, val_main_cst_4, val_main_cst_5, val_main_call1_v0, val_main_call1_v1, val_main_call1_cst, val_main_call1_v2, val_main_call1_v3, val_main_call1_cst_0, val_main_call1_v4, val_main_call1_v5]

theorem resid_at (r : Fin 16384) (j : Fin 1024) (h : 256 + r.val < 16640) : val_main_v30 x0 x1 x2 x3 x4 x5 x6 x7 (ix2 r j) =
    x0 (ix2 ⟨256 + r.val, h⟩ j) + x7 (ix2 2 j) * val_main_v26 x1 x2 x3 x4 x5 x6 (ix2 r j) := by
  pointwise [val_main_v30, val_main_v29, val_main_v28, val_main_v27, val_main_v24, val_main_v23, val_main_v0, val_main_call0_v0, val_main_call0_v1, val_main_call0_cst, val_main_call0_v2, val_main_call0_v3, val_main_call0_cst_0, val_main_call0_v4, val_main_call0_v5, val_main_cst, val_main_cst_0, val_main_cst_1, val_main_cst_2, val_main_cst_3, val_main_cst_4, val_main_cst_5, val_main_call1_v0, val_main_call1_v1, val_main_call1_cst, val_main_call1_v2, val_main_call1_v3, val_main_call1_cst_0, val_main_call1_v4, val_main_call1_v5]

theorem shifted_at (r : Fin 16384) (j : Fin 1024) : val_main_v52 x0 x1 x2 x3 x4 x5 x6 x7 (ix2 r j) =
    shifted (fun j => val_main_v30 x0 x1 x2 x3 x4 x5 x6 x7 (ix2 r j)) (fun k => x7 (ix2 3 k)) (fun k => x7 (ix2 4 k)) j := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, shifted, rinv, val_main_call0_v0, val_main_call0_v1, val_main_call0_cst, val_main_call0_v2, val_main_call0_v3, val_main_call0_cst_0, val_main_call0_v4, val_main_call0_v5, val_main_cst, val_main_cst_0, val_main_cst_1, val_main_cst_2, val_main_cst_3, val_main_cst_4, val_main_cst_5, val_main_call1_v0, val_main_call1_v1, val_main_call1_cst, val_main_call1_v2, val_main_call1_v3, val_main_call1_cst_0, val_main_call1_v4, val_main_call1_v5]

theorem unit_at (r : Fin 16384) (f : Fin 2816) : val_main_v58 x0 x1 x2 x3 x4 x5 x6 x7 x9 x10 (ix2 r f) =
    unit (fun j => val_main_v52 x0 x1 x2 x3 x4 x5 x6 x7 (ix2 r j)) (fun k f => x9 (ix2 k f)) (fun k f => x10 (ix2 k f)) f := by
  pointwise [val_main_v58, val_main_v57, val_main_v56, val_main_v55, unit, silu, val_main_call0_v0, val_main_call0_v1, val_main_call0_cst, val_main_call0_v2, val_main_call0_v3, val_main_call0_cst_0, val_main_call0_v4, val_main_call0_v5, val_main_cst, val_main_cst_0, val_main_cst_1, val_main_cst_2, val_main_cst_3, val_main_cst_4, val_main_cst_5, val_main_call1_v0, val_main_call1_v1, val_main_call1_cst, val_main_call1_v2, val_main_call1_v3, val_main_call1_cst_0, val_main_call1_v4, val_main_call1_v5]

theorem last_at (r : Fin 16384) (j : Fin 1024) : val_main_v63 x0 x1 x2 x3 x4 x5 x6 x7 x9 x10 x11 (ix2 r j) =
    val_main_v30 x0 x1 x2 x3 x4 x5 x6 x7 (ix2 r j) + x7 (ix2 5 j) * ∑ f : Fin 2816, val_main_v58 x0 x1 x2 x3 x4 x5 x6 x7 x9 x10 (ix2 r f) * x11 (ix2 f j) := by
  pointwise [val_main_v63, val_main_v62, val_main_v61, val_main_v60, val_main_v59, val_main_v54, val_main_v53, val_main_call0_v0, val_main_call0_v1, val_main_call0_cst, val_main_call0_v2, val_main_call0_v3, val_main_call0_cst_0, val_main_call0_v4, val_main_call0_v5, val_main_cst, val_main_cst_0, val_main_cst_1, val_main_cst_2, val_main_cst_3, val_main_cst_4, val_main_cst_5, val_main_call1_v0, val_main_call1_v1, val_main_call1_cst, val_main_call1_v2, val_main_call1_v3, val_main_call1_cst_0, val_main_call1_v4, val_main_call1_v5]

/-- The reference's result is the half layer of every latent row. -/
theorem result_at (r : Fin 16384) (j : Fin 1024) :
    val_main_v63 x0 x1 x2 x3 x4 x5 x6 x7 x9 x10 x11 (ix2 r j) = rows x0 x1 x2 x3 x4 x5 x6 x7 x9 x10 x11 r j := by
  have h : 256 + r.val < 16640 := by omega
  simp only [last_at, unit_at, shifted_at, resid_at _ _ _ _ _ _ _ _ _ _ h, mixed_at _ _ _ _ _ _ _ _ h, grouped_at, gated_at _ _ _ _ _ h, rows, row, resid]
  rfl

end Cert.Ffn.Ref

end
-- ==== Proof.FfnClaim.lean ====
/- The feed-forward call: on the extended reals the kernel's result is its reference's. -/
module

public import proofs.«01_k».proof.Defs
public import proofs.«01_k».proof.Proof.Gen.Kernel2Ideal.Value
public import proofs.«01_k».proof.Proof.FfnArray
public import proofs.«01_k».proof.Proof.FfnReference
public import Idealize.ShloMosaic.Lib.Claim

@[expose] public section

noncomputable section

namespace Cert.Ffn

open Idealize.ShloMosaic Idealize.ShloMosaic.TcCoe Idealize.SL.Sem

/-- The kernel's run and the reference's end in one and the same result. -/
theorem algebraic : Cert.algebraic_Kernel2Ideal_Reference2Ideal := by
  pair_intro
  · run_from Cert.Kernel2Ideal.Value.run_blocks (F := Ideal) m g
  · run_from Cert.Reference2Ideal.Value.run (F := Ideal) m' g'
    obtain ⟨h0, h1, h2, h3, h4, h5, h6, h7, -, h9, h10, h11⟩ := hagree c
    rw [Cert.Reference2Ideal.Read.val_main_v63_eq, h0, h1, h2, h3, h4, h5, h6, h7, h9, h10, h11]
    refine Eq.trans ?_ (out_array m c).symm
    funext p
    obtain ⟨r, j, rfl⟩ : ∃ (r : Fin 16384) (j : Fin 1024), p = ix2 r j := ⟨p 0, p 1, eq_ix2 p⟩
    exact Ref.result_at _ _ _ _ _ _ _ _ _ _ _ r j

end Cert.Ffn

end
-- ==== Proof.AttnModel.lean ====
/- Softmax attention on the extended reals: weighted sums in powers of two, kept chunk by chunk. -/
module

public import Idealize.ShloMosaic.Lib.Pointwise
public import Idealize.ShloMosaic.Lib.IdealHost

@[expose] public section

noncomputable section

namespace Cert.Attn

open Idealize.ShloMosaic

/-- A factor that is a nonnegative real distributes over a sum. -/
theorem coe_mul_sum {ι : Type*} (c : ℝ) (hc : 0 ≤ c) (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Values weighed by powers of two of scores less `μ`: the first `n`. -/
def weighed (s : ℕ → ℝ) (v : ℕ → EReal) (μ : ℝ) (n : ℕ) : EReal :=
  ∑ k ∈ Finset.range n, ((2 : ℝ) ^ (s k - μ) : ℝ) * v k

/-- Moving `μ` rescales what is held, and a chunk is added. -/
theorem weighed_step (s : ℕ → ℝ) (v : ℕ → EReal) (μ μ' : ℝ) (n w : ℕ) :
    Ideal.exp2 ((μ : EReal) - (μ' : EReal)) * weighed s v μ n
        + ∑ j : Fin w, Ideal.exp2 ((s (n + j.val) : EReal) - (μ' : EReal)) * v (n + j.val)
      = weighed s v μ' (n + w) := by
  unfold weighed
  rw [Finset.sum_range_add, ← EReal.coe_sub, Ideal.exp2_coe, coe_mul_sum _ (show 0 ≤ Real.rpow 2 (μ - μ') from Real.rpow_nonneg (by norm_num) _),
    Finset.sum_range (fun x => ((2 : ℝ) ^ (s (n + x) - μ') : ℝ) * v (n + x))]
  refine congrArg₂ (· + ·) (Finset.sum_congr rfl fun k _ => ?_) (Finset.sum_congr rfl fun k _ => ?_)
  · rw [← mul_assoc, ← EReal.coe_mul]
    congr 2
    show (2 : ℝ) ^ (μ - μ') * (2 : ℝ) ^ (s k - μ) = _
    rw [← Real.rpow_add (by norm_num)]
    congr 1; ring
  · rw [← EReal.coe_sub, Ideal.exp2_coe]; rfl

/-- The first chunk: nothing is held yet. -/
theorem weighed_first (s : ℕ → ℝ) (v : ℕ → EReal) (μ : ℝ) (w : ℕ) (x : EReal) :
    x * 0 + ∑ j : Fin w, Ideal.exp2 ((s j.val : EReal) - (μ : EReal)) * v j.val = weighed s v μ w := by
  unfold weighed
  rw [mul_zero, zero_add, Finset.sum_range]
  refine Finset.sum_congr rfl fun k _ => ?_
  rw [← EReal.coe_sub, Ideal.exp2_coe]; rfl

/-- The softmax weight of key `k` among `n`, on the reals. -/
def weight (s : ℕ → ℝ) (n k : ℕ) : ℝ := Real.exp (s k) / ∑ j ∈ Finset.range n, Real.exp (s j)

/-- Softmax attention over `n` keys. -/
def attend (s : ℕ → ℝ) (v : ℕ → EReal) (n : ℕ) : EReal := ∑ k ∈ Finset.range n, (weight s n k : EReal) * v k

theorem total_pos (s : ℕ → ℝ) {n : ℕ} (hn : 0 < n) : 0 < ∑ j ∈ Finset.range n, Real.exp (s j) :=
  Finset.sum_pos (fun _ _ => Real.exp_pos _) ⟨0, Finset.mem_range.mpr hn⟩

/-- The kernel's quotient is softmax attention of the scores in natural units. -/
theorem div_weighed (s : ℕ → ℝ) (v : ℕ → EReal) (μ : ℝ) {n : ℕ} (hn : 0 < n) :
    Ideal.div (weighed (fun k => s k / Real.log 2) v μ n) (weighed (fun k => s k / Real.log 2) (fun _ => 1) μ n) = attend s v n := by
  have h2 : Real.log 2 ≠ 0 := (Real.log_pos (by norm_num)).ne'
  have hw : ∀ k, (2 : ℝ) ^ (s k / Real.log 2 - μ) = Real.exp (s k) * (2 : ℝ) ^ (-μ) := fun k => by
    rw [sub_eq_add_neg, Real.rpow_add (by norm_num), Real.rpow_def_of_pos (by norm_num), mul_div_cancel₀ _ h2]
  have hp : 0 < (2 : ℝ) ^ (-μ) := Real.rpow_pos_of_pos (by norm_num) _
  have hd : weighed (fun k => s k / Real.log 2) (fun _ => 1) μ n = (((∑ j ∈ Finset.range n, Real.exp (s j)) * (2 : ℝ) ^ (-μ) : ℝ) : EReal) := by
    unfold weighed
    rw [Finset.sum_mul, coe_sum]
    exact Finset.sum_congr rfl fun k _ => by rw [mul_one, hw]
  have hz := total_pos s hn
  rw [hd, Ideal.div_coe (mul_pos hz hp).ne', mul_comm]
  unfold weighed attend
  rw [coe_mul_sum _ (one_div_nonneg.mpr (mul_pos hz hp).le)]
  refine Finset.sum_congr rfl fun k _ => ?_
  rw [← mul_assoc, ← EReal.coe_mul, hw]
  congr 2
  unfold weight
  field_simp

/-- The reference's: each weight divided, then weighed. -/
theorem sum_div (s : ℕ → ℝ) (v : ℕ → EReal) (μ : ℝ) {n : ℕ} (hn : 0 < n) :
    ∑ k : Fin n, v k.val * Ideal.div (Ideal.exp ((s k.val : EReal) - (μ : EReal))) (∑ j : Fin n, Ideal.exp ((s j.val : EReal) - (μ : EReal)))
      = attend s v n := by
  have hw : ∀ k, Ideal.exp ((s k : EReal) - (μ : EReal)) = ((Real.exp (s k) * Real.exp (-μ) : ℝ) : EReal) := fun k => by
    rw [← EReal.coe_sub, Ideal.exp_coe, sub_eq_add_neg, Real.exp_add]
  have hz := total_pos s hn
  have hp := Real.exp_pos (-μ)
  have hd : ∑ j : Fin n, Ideal.exp ((s j.val : EReal) - (μ : EReal)) = (((∑ j ∈ Finset.range n, Real.exp (s j)) * Real.exp (-μ) : ℝ) : EReal) := by
    rw [Finset.sum_mul, coe_sum, Finset.sum_range]
    exact Finset.sum_congr rfl fun k _ => hw _
  unfold attend
  rw [hd, Finset.sum_range (fun k => (weight s n k : EReal) * v k)]
  refine Finset.sum_congr rfl fun k _ => ?_
  rw [hw, Ideal.div_coe (mul_pos hz hp).ne', ← EReal.coe_mul, mul_comm]
  congr 2
  unfold weight
  field_simp

/-- The greatest of finitely many reals, at least one, is a real. -/
theorem fold_max_real {n : ℕ} (hn : 0 < n) (f : Fin n → EReal) (hf : ∀ i, ∃ x : ℝ, f i = x) :
    ∃ x : ℝ, (Finset.univ : Finset (Fin n)).fold max ⊥ f = x := by
  obtain ⟨i, -, h⟩ := Finset.exists_mem_eq_sup (Finset.univ : Finset (Fin n)) ⟨⟨0, hn⟩, Finset.mem_univ _⟩ f
  obtain ⟨x, hx⟩ := hf i
  exact ⟨x, h.trans hx⟩

theorem max_real {a b : EReal} (ha : ∃ x : ℝ, a = x) (hb : ∃ x : ℝ, b = x) : ∃ x : ℝ, max a b = x := by
  rcases max_choice a b with h | h <;> rw [h] <;> assumption

/-- The query row's scaled score with the key row `n`. -/
def scoreOf (q k : (⟨3, ![16640, 8, 96]⟩ : Shape).Idx → EReal) (R : Fin 16640) (H : Fin 8) (n : ℕ) : ℝ :=
  (Real.sqrt 96)⁻¹ * ∑ d : Fin 96, (q (ix3 R H d)).toReal * (k (ix3 (Fin.ofNat 16640 n) H d)).toReal

/-- One element of the attention: the context rows see the context alone, the other rows see every row. -/
def attention (q k : (⟨3, ![16640, 8, 96]⟩ : Shape).Idx → EReal) (v : (⟨3, ![16640, 8, 64]⟩ : Shape).Idx → EReal)
    (R : Fin 16640) (H : Fin 8) (j : Fin 64) : EReal :=
  attend (scoreOf q k R H) (fun n => v (ix3 (Fin.ofNat 16640 n) H j)) (if R.val < 256 then 256 else 16640)

/-- Products of two rows of 96 reals, each padded with 32 zeros, the first row scaled. -/
theorem padded_sum (a b : Fin 96 → ℝ) (c : ℝ) (Q K : Fin 128 → EReal)
    (hQ : ∀ d (h : d.val < 96), Q d = ((a ⟨d.val, h⟩ * c : ℝ) : EReal)) (hQ0 : ∀ d : Fin 128, 96 ≤ d.val → Q d = 0)
    (hK : ∀ d (h : d.val < 96), K d = (b ⟨d.val, h⟩ : EReal)) :
    ∑ d : Fin 128, Q d * K d = ((c * ∑ d, a d * b d : ℝ) : EReal) := by
  rw [Fin.sum_univ_two_halves 96 32 rfl, Finset.mul_sum, coe_sum]
  have h0 : ∑ k : Fin 32, Q ⟨96 + k.val, by omega⟩ * K ⟨96 + k.val, by omega⟩ = 0 :=
    Finset.sum_eq_zero fun k _ => by rw [hQ0 _ (Nat.le_add_right _ _), zero_mul]
  rw [h0, add_zero]
  refine Finset.sum_congr rfl fun d _ => ?_
  rw [hQ _ d.isLt, hK _ d.isLt, ← EReal.coe_mul]
  congr 1
  ring

end Cert.Attn

end
-- ==== Proof.AttnRun.lean ====
/- The attention kernel's body, run once on any blocks. -/
module

public import proofs.«01_k».proof.Proof.Gen.KernelIdeal.Frame
public import proofs.«01_k».proof.Proof.Gen.KernelIdeal.Skeleton
public import Idealize.ShloMosaic.Lib.Pipeline.ReadBack
public import Idealize.ShloMosaic.Lib.Pipeline.ValueKit.Acc

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Lanes of one head of a pair's query block. -/
def qH (x : Vec F S256x256 .bf16) (h : ℕ) : FVec F S256x128 .bf16 :=
  k0_pay1 (View.ld x (Rect.unit (s := S256x256) ![0, 128 * (h % 2)] S256x128.size (by
    intro a; fin_cases a
    · show 0 + 256 ≤ 256; omega
    · show 128 * (h % 2) + 128 ≤ 256; omega)))

theorem inbHead (h : ℕ) : ∀ a, (![0, 128 * (h % 2)] : Fin 2 → ℕ) a + S16640x128.size a ≤ S16640x256.size a := by
  intro a; fin_cases a
  · show 0 + 16640 ≤ 16640; omega
  · show 128 * (h % 2) + 128 ≤ 256; omega

theorem inbChunk (n : ℕ) : ∀ a, (![1280 * (n % 13), 0] : Fin 2 → ℕ) a + S1280x128.size a ≤ S16640x128.size a := by
  intro a; fin_cases a
  · show 1280 * (n % 13) + 1280 ≤ 16640; omega
  · show 0 + 128 ≤ 128; omega

/-- One head's chunk of 1280 rows of a pair's keys or values. -/
def kblk (x : Vec F S16640x256 .bf16) (h n : ℕ) : Vec F S1280x128 .bf16 := fun j =>
  x (((Rect.unit (s := S16640x256) ![0, 128 * (h % 2)] S16640x128.size (inbHead h)).withinL
    (Rect.unit (s := S16640x128) ![1280 * (n % 13), 0] S1280x128.size (inbChunk n)).toLoadRect (fun _ => rfl)).idx j)

/-- One head's first 256 rows of a pair's keys or values. -/
def cblk (x : Vec F S16640x256 .bf16) (h : ℕ) : Vec F S256x128 .bf16 := fun j =>
  x (((Rect.unit (s := S16640x256) ![0, 128 * (h % 2)] S16640x128.size (inbHead h)).withinL
    (Rect.unit (s := S16640x128) ![0, 0] S256x128.size inb_S16640x128_S256x128_0_0).toLoadRect (fun _ => rfl)).idx j)

/-- The scratch slots that carry the next query block's first scores. -/
abbrev rA : Rect S6x256x1280 := Rect.unit (s := S6x256x1280) ![2, 0, 0] S1x256x1280.size inb_S6x256x1280_S1x256x1280_2_0_0
abbrev rB : Rect S6x256x1280 := Rect.unit (s := S6x256x1280) ![5, 0, 0] S1x256x1280.size inb_S6x256x1280_S1x256x1280_5_0_0

/-- A chunk's scores, as the scratch holds them. -/
def scr (q : FVec F S256x128 .bf16) (k : Vec F S1280x128 .bf16) : Vec F S1x256x1280 .f32 := k0_pay29 (k0_pay28 q k)

/-- The running row maxima after chunk `n`. -/
def mS (s0 : Vec F S1x256x1280 .f32) (q : FVec F S256x128 .bf16) (x1 : Vec F S16640x256 .bf16) (h : ℕ) : ℕ → FVec F S256x1 .f32
  | 0 => k0_pay26 k0_pay5 s0
  | n + 1 => maximumf (mS s0 q x1 h n) (k0_pay157 (k0_pay28 q (kblk x1 h (n + 1))))

/-- The running sums after chunk `n`. -/
def aS (s0 : Vec F S1x256x1280 .f32) (q : FVec F S256x128 .bf16) (x1 x2 : Vec F S16640x256 .bf16) (h : ℕ) : ℕ → FVec F S256x128 .f32
  | 0 => k0_pay27 k0_pay5 k0_pay6 s0 s0 (kblk x2 h 0)
  | n + 1 => k0_pay61 (aS s0 q x1 x2 h n) (mS s0 q x1 h (n + 1)) (exp2 (subf (mS s0 q x1 h n) (mS s0 q x1 h (n + 1))))
      (k0_pay29 (k0_pay28 q (kblk x1 h (n + 1)))) (kblk x2 h (n + 1))

/-- The output block at a query block past the first, from the carried first scores. -/
def outRest (sa sb : Vec F S1x256x1280 .f32) (x0 : Vec F S256x256 .bf16) (x1 x2 : Vec F S16640x256 .bf16) : Vec F S256x128 .f32 :=
  k0_pay11 (aS sa (qH x0 0) x1 x2 0 12) (aS sb (qH x0 1) x1 x2 1 12)

/-- One head's sums at the first query block, over its first 256 rows. -/
def aFirst (x0 : Vec F S256x256 .bf16) (x1 x2 : Vec F S16640x256 .bf16) (h : ℕ) : FVec F S256x128 .f32 :=
  k0_pay17 (k0_pay15 k0_pay5 k0_pay6 (k0_pay13 (qH x0 h) (cblk x1 h)))
    (k0_pay16 k0_pay5 (k0_pay13 (qH x0 h) (cblk x1 h)) (k0_pay13 (qH x0 h) (cblk x1 h))) (cblk x2 h)

/-- The output block at the first query block. -/
def outFirst (x0 : Vec F S256x256 .bf16) (x1 x2 : Vec F S16640x256 .bf16) : Vec F S256x128 .f32 :=
  k0_pay11 (aFirst x0 x1 x2 0) (aFirst x0 x1 x2 1)

/-- The slots hold the first scores of the queries `x3`. -/
def Carried (x3 : Vec F S256x256 .bf16) (x1 : Vec F S16640x256 .bf16) (S : Vec F S6x256x1280 .f32) : Prop :=
  View.ld S rA = k0_pay29 (k0_pay28 (qH x3 0) (kblk x1 0 0)) ∧ View.ld S rB = k0_pay29 (k0_pay28 (qH x3 1) (kblk x1 1 0))

section Reads
variable {sig : RefSig} {κ : Kind} {sp : Space} {s : Shape} {e : EltTy} {Val : EltTy → Type}

theorem ld_writes_hit (v : View sig κ sp s e) (f : v.ty.Contents Val) (r : Rect s) (w : r.shape.Idx → Val e) (L : List (View.Piece Val s e)) :
    View.ld (v.read Val (v.writes Val f (⟨r, w⟩ :: L))) r = w :=
  funext fun x => View.read_writes_cons_emb _ _ _ _ _ _

theorem ld_writes_skip (v : View sig κ sp s e) (f : v.ty.Contents Val) (r r' : Rect s) (w : r.shape.Idx → Val e) (L : List (View.Piece Val s e))
    (h : LoadRect.disj r r'.toLoadRect = true) :
    View.ld (v.read Val (v.writes Val f (⟨r, w⟩ :: L))) r' = View.ld (v.read Val (v.writes Val f L)) r' := by
  funext x
  show v.read Val (v.writes Val f (⟨r, w⟩ :: L)) (r'.emb x) = v.read Val (v.writes Val f L) (r'.emb x)
  have hy := LoadRect.idx_not_mem_of_disj h x
  have hy' : r'.emb x ∉ Finset.univ.map r.emb := by rw [Rect.map_emb_univ]; exact hy
  rw [View.writes_cons, View.read_slice_write_of_not_mem r _ _ _ hy']
end Reads

theorem cover_out (p0 : Vec F S256x128 .f32) (y : S256x128.Idx) :
    ∃ pc ∈ ([⟨Rect.unit (s := S256x128) ![0, 0] ![256, 128] inb_S256x128_S256x128_0_0, p0⟩] : List (View.Piece (Elt F) S256x128 .f32)), y ∈ pc.1.set :=
  View.cover_of_tiled [⟨Rect.unit (s := S256x128) ![0, 0] ![256, 128] inb_S256x128_S256x128_0_0, p0⟩] ![256, 128] (by rfl) y

theorem canon_out (p0 : Vec F S256x128 .f32) :
    View.canon ([⟨Rect.unit (s := S256x128) ![0, 0] ![256, 128] inb_S256x128_S256x128_0_0, p0⟩] : List (View.Piece (Elt F) S256x128 .f32)) = p0 :=
  View.canon_cons_unit_lit inb_S256x128_S256x128_0_0 p0 [] (by intro a; fin_cases a <;> rfl)

set_option maxHeartbeats 4000000 in
theorem run_first (c : Dev nD) (E : Set ℕ) (i : grid0.Coords) (arg2 : Memref sig .tc .vmem S256x256 .bf16) (harg2 : arg2.IsWhole) (arg3 : Memref sig .tc .vmem S16640x256 .bf16) (harg3 : arg3.IsWhole) (arg4 : Memref sig .tc .vmem S16640x256 .bf16) (harg4 : arg4.IsWhole) (arg5 : Memref sig .tc .vmem S256x256 .bf16) (harg5 : arg5.IsWhole) (arg6 : Memref sig .tc .vmem S256x128 .f32) (harg6 : arg6.IsWhole) (arg7 : Memref sig .tc .vmem S6x256x1280 .f32) (harg7 : arg7.IsWhole)
    (hi : Scalar.cmpi .ne (Scalar.extui (Scalar.cmpi .eq (BitVec.ofNat 32 (i 1).val) 0#32)) 0#32 = 1#1)
    (x0 : Vec F S256x256 .bf16) (x1 : Vec F S16640x256 .bf16) (x2 : Vec F S16640x256 .bf16) (x3 : Vec F S256x256 .bf16) (S : Vec F S6x256x1280 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outFirst x0 x1 x2) ∗ (∃ S', ⌜Carried x3 x1 S'⌝ ∗ owns (c : Thread nD τ) arg7 fullShare S')) -∗ K ⟨⟩))
      ⊢ wp frame (wpE (defs₀ (F := F)) Variants.none c none) E (cc0__mla_attn_kernel i arg2 harg2 arg3 harg3 arg4 harg4 arg5 harg5 arg6 harg6 arg7 harg7) K := by
  simp only [cc0__mla_attn_kernel_eq_skeleton]; unfold cc0__mla_attn_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec
  sl_step
  have ev43 : run_first.sl.v43 c arg2 arg3 arg5 arg7 f0 f1 f3 = k0_pay13 (qH (View.read (Elt F) arg2.view f0) 0) (cblk (View.read (Elt F) arg3.view f1) 0) := View.readCov_cons_toLoadRect _ _ _ _
  have ev77 : run_first.sl.v77 c arg2 arg3 arg5 arg7 f0 f1 f3 = k0_pay13 (qH (View.read (Elt F) arg2.view f0) 1) (cblk (View.read (Elt F) arg3.view f1) 1) := View.readCov_cons_toLoadRect _ _ _ _
  have efin : k0_pay11 (run_first.sl.r_3 c arg2 arg3 arg4 arg5 arg7 f0 f1 f2 f3) (k0_pay9 (run_first.sl.r_4 c arg2 arg3 arg5 arg7 f0 f1 f3) (run_first.sl.r_5 c arg2 arg3 arg5 arg7 f0 f1 f3) (run_first.sl.v93 c arg4 f2)) = outFirst (View.read (Elt F) arg2.view f0) (View.read (Elt F) arg3.view f1) (View.read (Elt F) arg4.view f2) := by
    delta run_first.sl.r_3 run_first.sl.r_4 run_first.sl.r_5 run_first.sl.v93
    delta run_first.sl.r run_first.sl.r_1 run_first.sl.r_2
    simp only [ev43, ev77]; rfl
  have ecar : Carried (View.read (Elt F) arg5.view f3) (View.read (Elt F) arg3.view f1) (View.read (Elt F) arg7.view (arg7.view.writes (Elt F) f5 (run_first.sl.H5_4 c arg2 arg3 arg5 f0 f1 f3))) :=
    ⟨(ld_writes_skip _ _ _ _ _ _ rfl).trans ((ld_writes_skip _ _ _ _ _ _ rfl).trans ((ld_writes_skip _ _ _ _ _ _ rfl).trans (ld_writes_hit _ _ _ _ _))),
     (ld_writes_skip _ _ _ _ _ _ rfl).trans (ld_writes_hit _ _ _ _ _)⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_out _)).trans ((canon_out _).trans ?_)
    exact efin
  iexists _; isplitr
  swap
  · iexists _; isplitr
    swap; · iexact H5
    ipureintro; rfl
  ipureintro
  exact ecar

set_option maxHeartbeats 4000000 in
theorem run_rest (c : Dev nD) (E : Set ℕ) (i : grid0.Coords) (arg2 : Memref sig .tc .vmem S256x256 .bf16) (harg2 : arg2.IsWhole) (arg3 : Memref sig .tc .vmem S16640x256 .bf16) (harg3 : arg3.IsWhole) (arg4 : Memref sig .tc .vmem S16640x256 .bf16) (harg4 : arg4.IsWhole) (arg5 : Memref sig .tc .vmem S256x256 .bf16) (harg5 : arg5.IsWhole) (arg6 : Memref sig .tc .vmem S256x128 .f32) (harg6 : arg6.IsWhole) (arg7 : Memref sig .tc .vmem S6x256x1280 .f32) (harg7 : arg7.IsWhole)
    (hi : ¬ Scalar.cmpi .ne (Scalar.extui (Scalar.cmpi .eq (BitVec.ofNat 32 (i 1).val) 0#32)) 0#32 = 1#1)
    (x0 : Vec F S256x256 .bf16) (x1 : Vec F S16640x256 .bf16) (x2 : Vec F S16640x256 .bf16) (x3 : Vec F S256x256 .bf16) (S : Vec F S6x256x1280 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outRest (View.ld S rA) (View.ld S rB) x0 x1 x2) ∗ (∃ S', ⌜Carried x3 x1 S'⌝ ∗ owns (c : Thread nD τ) arg7 fullShare S')) -∗ K ⟨⟩))
      ⊢ wp frame (wpE (defs₀ (F := F)) Variants.none c none) E (cc0__mla_attn_kernel i arg2 harg2 arg3 harg3 arg4 harg4 arg5 harg5 arg6 harg6 arg7 harg7) K := by
  simp only [cc0__mla_attn_kernel_eq_skeleton]; unfold cc0__mla_attn_kernel_skel
  simp only [k0_part21_eq_skeleton]; unfold k0_part21_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec
  sl_step
  have ev99 : run_rest.sl.v99 c arg2 arg3 arg7 f0 f1 = k0_pay29 (k0_pay28 (qH (View.read (Elt F) arg2.view f0) 0) (kblk (View.read (Elt F) arg3.view f1) 0 1)) := (View.readCov_skip _ _ _ _ _ rfl).trans ((View.readCov_skip _ _ _ _ _ rfl).trans (View.readCov_cons_toLoadRect _ _ _ _))
  have ev124 : run_rest.sl.v124 c arg2 arg3 arg7 f0 f1 = k0_pay29 (k0_pay28 (qH (View.read (Elt F) arg2.view f0) 1) (kblk (View.read (Elt F) arg3.view f1) 1 1)) := (View.readCov_skip _ _ _ _ _ rfl).trans ((View.readCov_skip _ _ _ _ _ rfl).trans (View.readCov_cons_toLoadRect _ _ _ _))
  have ev149 : run_rest.sl.v149 c arg2 arg3 arg7 f0 f1 = k0_pay29 (k0_pay28 (qH (View.read (Elt F) arg2.view f0) 0) (kblk (View.read (Elt F) arg3.view f1) 0 2)) := (View.readCov_skip _ _ _ _ _ rfl).trans ((View.readCov_skip _ _ _ _ _ rfl).trans (View.readCov_cons_toLoadRect _ _ _ _))
  have ev174 : run_rest.sl.v174 c arg2 arg3 arg7 f0 f1 = k0_pay29 (k0_pay28 (qH (View.read (Elt F) arg2.view f0) 1) (kblk (View.read (Elt F) arg3.view f1) 1 2)) := (View.readCov_skip _ _ _ _ _ rfl).trans ((View.readCov_skip _ _ _ _ _ rfl).trans (View.readCov_cons_toLoadRect _ _ _ _))
  have ev199 : run_rest.sl.v199 c arg2 arg3 arg7 f0 f1 = k0_pay29 (k0_pay28 (qH (View.read (Elt F) arg2.view f0) 0) (kblk (View.read (Elt F) arg3.view f1) 0 3)) := (View.readCov_skip _ _ _ _ _ rfl).trans ((View.readCov_skip _ _ _ _ _ rfl).trans (View.readCov_cons_toLoadRect _ _ _ _))
  have ev224 : run_rest.sl.v224 c arg2 arg3 arg7 f0 f1 = k0_pay29 (k0_pay28 (qH (View.read (Elt F) arg2.view f0) 1) (kblk (View.read (Elt F) arg3.view f1) 1 3)) := (View.readCov_skip _ _ _ _ _ rfl).trans ((View.readCov_skip _ _ _ _ _ rfl).trans (View.readCov_cons_toLoadRect _ _ _ _))
  have ev249 : run_rest.sl.v249 c arg2 arg3 arg7 f0 f1 = k0_pay29 (k0_pay28 (qH (View.read (Elt F) arg2.view f0) 0) (kblk (View.read (Elt F) arg3.view f1) 0 4)) := (View.readCov_skip _ _ _ _ _ rfl).trans ((View.readCov_skip _ _ _ _ _ rfl).trans (View.readCov_cons_toLoadRect _ _ _ _))
  have ev274 : run_rest.sl.v274 c arg2 arg3 arg7 f0 f1 = k0_pay29 (k0_pay28 (qH (View.read (Elt F) arg2.view f0) 1) (kblk (View.read (Elt F) arg3.view f1) 1 4)) := (View.readCov_skip _ _ _ _ _ rfl).trans ((View.readCov_skip _ _ _ _ _ rfl).trans (View.readCov_cons_toLoadRect _ _ _ _))
  have ev299 : run_rest.sl.v299 c arg2 arg3 arg7 f0 f1 = k0_pay29 (k0_pay28 (qH (View.read (Elt F) arg2.view f0) 0) (kblk (View.read (Elt F) arg3.view f1) 0 5)) := (View.readCov_skip _ _ _ _ _ rfl).trans ((View.readCov_skip _ _ _ _ _ rfl).trans (View.readCov_cons_toLoadRect _ _ _ _))
  have ev324 : run_rest.sl.v324 c arg2 arg3 arg7 f0 f1 = k0_pay29 (k0_pay28 (qH (View.read (Elt F) arg2.view f0) 1) (kblk (View.read (Elt F) arg3.view f1) 1 5)) := (View.readCov_skip _ _ _ _ _ rfl).trans ((View.readCov_skip _ _ _ _ _ rfl).trans (View.readCov_cons_toLoadRect _ _ _ _))
  have ev349 : run_rest.sl.v349 c arg2 arg3 arg7 f0 f1 = k0_pay29 (k0_pay28 (qH (View.read (Elt F) arg2.view f0) 0) (kblk (View.read (Elt F) arg3.view f1) 0 6)) := (View.readCov_skip _ _ _ _ _ rfl).trans ((View.readCov_skip _ _ _ _ _ rfl).trans (View.readCov_cons_toLoadRect _ _ _ _))
  have ev374 : run_rest.sl.v374 c arg2 arg3 arg7 f0 f1 = k0_pay29 (k0_pay28 (qH (View.read (Elt F) arg2.view f0) 1) (kblk (View.read (Elt F) arg3.view f1) 1 6)) := (View.readCov_skip _ _ _ _ _ rfl).trans ((View.readCov_skip _ _ _ _ _ rfl).trans (View.readCov_cons_toLoadRect _ _ _ _))
  have ev399 : run_rest.sl.v399 c arg2 arg3 arg7 f0 f1 = k0_pay29 (k0_pay28 (qH (View.read (Elt F) arg2.view f0) 0) (kblk (View.read (Elt F) arg3.view f1) 0 7)) := (View.readCov_skip _ _ _ _ _ rfl).trans ((View.readCov_skip _ _ _ _ _ rfl).trans (View.readCov_cons_toLoadRect _ _ _ _))
  have ev424 : run_rest.sl.v424 c arg2 arg3 arg7 f0 f1 = k0_pay29 (k0_pay28 (qH (View.read (Elt F) arg2.view f0) 1) (kblk (View.read (Elt F) arg3.view f1) 1 7)) := (View.readCov_skip _ _ _ _ _ rfl).trans ((View.readCov_skip _ _ _ _ _ rfl).trans (View.readCov_cons_toLoadRect _ _ _ _))
  have ev449 : run_rest.sl.v449 c arg2 arg3 arg7 f0 f1 = k0_pay29 (k0_pay28 (qH (View.read (Elt F) arg2.view f0) 0) (kblk (View.read (Elt F) arg3.view f1) 0 8)) := (View.readCov_skip _ _ _ _ _ rfl).trans ((View.readCov_skip _ _ _ _ _ rfl).trans (View.readCov_cons_toLoadRect _ _ _ _))
  have ev474 : run_rest.sl.v474 c arg2 arg3 arg7 f0 f1 = k0_pay29 (k0_pay28 (qH (View.read (Elt F) arg2.view f0) 1) (kblk (View.read (Elt F) arg3.view f1) 1 8)) := (View.readCov_skip _ _ _ _ _ rfl).trans ((View.readCov_skip _ _ _ _ _ rfl).trans (View.readCov_cons_toLoadRect _ _ _ _))
  have ev499 : run_rest.sl.v499 c arg2 arg3 arg7 f0 f1 = k0_pay29 (k0_pay28 (qH (View.read (Elt F) arg2.view f0) 0) (kblk (View.read (Elt F) arg3.view f1) 0 9)) := (View.readCov_skip _ _ _ _ _ rfl).trans ((View.readCov_skip _ _ _ _ _ rfl).trans (View.readCov_cons_toLoadRect _ _ _ _))
  have ev524 : run_rest.sl.v524 c arg2 arg3 arg7 f0 f1 = k0_pay29 (k0_pay28 (qH (View.read (Elt F) arg2.view f0) 1) (kblk (View.read (Elt F) arg3.view f1) 1 9)) := (View.readCov_skip _ _ _ _ _ rfl).trans ((View.readCov_skip _ _ _ _ _ rfl).trans (View.readCov_cons_toLoadRect _ _ _ _))
  have ev549 : run_rest.sl.v549 c arg2 arg3 arg7 f0 f1 = k0_pay29 (k0_pay28 (qH (View.read (Elt F) arg2.view f0) 0) (kblk (View.read (Elt F) arg3.view f1) 0 10)) := (View.readCov_skip _ _ _ _ _ rfl).trans ((View.readCov_skip _ _ _ _ _ rfl).trans (View.readCov_cons_toLoadRect _ _ _ _))
  have ev574 : run_rest.sl.v574 c arg2 arg3 arg7 f0 f1 = k0_pay29 (k0_pay28 (qH (View.read (Elt F) arg2.view f0) 1) (kblk (View.read (Elt F) arg3.view f1) 1 10)) := (View.readCov_skip _ _ _ _ _ rfl).trans ((View.readCov_skip _ _ _ _ _ rfl).trans (View.readCov_cons_toLoadRect _ _ _ _))
  have ev599 : run_rest.sl.v599 c arg2 arg3 arg7 f0 f1 = k0_pay29 (k0_pay28 (qH (View.read (Elt F) arg2.view f0) 0) (kblk (View.read (Elt F) arg3.view f1) 0 11)) := (View.readCov_skip _ _ _ _ _ rfl).trans ((View.readCov_skip _ _ _ _ _ rfl).trans (View.readCov_cons_toLoadRect _ _ _ _))
  have ev624 : run_rest.sl.v624 c arg2 arg3 arg7 f0 f1 = k0_pay29 (k0_pay28 (qH (View.read (Elt F) arg2.view f0) 1) (kblk (View.read (Elt F) arg3.view f1) 1 11)) := (View.readCov_skip _ _ _ _ _ rfl).trans ((View.readCov_skip _ _ _ _ _ rfl).trans (View.readCov_cons_toLoadRect _ _ _ _))
  have ev647 : run_rest.sl.v647 c arg2 arg3 arg5 arg7 f0 f1 f3 = k0_pay29 (k0_pay28 (qH (View.read (Elt F) arg2.view f0) 0) (kblk (View.read (Elt F) arg3.view f1) 0 12)) := (View.readCov_skip _ _ _ _ _ rfl).trans ((View.readCov_skip _ _ _ _ _ rfl).trans (View.readCov_cons_toLoadRect _ _ _ _))
  have ev670 : run_rest.sl.v670 c arg2 arg3 arg5 arg7 f0 f1 f3 = k0_pay29 (k0_pay28 (qH (View.read (Elt F) arg2.view f0) 1) (kblk (View.read (Elt F) arg3.view f1) 1 12)) := (View.readCov_skip _ _ _ _ _ rfl).trans ((View.readCov_skip _ _ _ _ _ rfl).trans (View.readCov_cons_toLoadRect _ _ _ _))
  have er_1 : run_rest.sl.r_1 c arg7 f5 = mS (View.ld (View.read (Elt F) arg7.view f5) rA) (qH (View.read (Elt F) arg2.view f0) 0) (View.read (Elt F) arg3.view f1) 0 0 := by
    delta run_rest.sl.r_1 run_rest.sl.v38
    rfl
  have er_2 : run_rest.sl.r_2 c arg4 arg7 f2 f5 = aS (View.ld (View.read (Elt F) arg7.view f5) rA) (qH (View.read (Elt F) arg2.view f0) 0) (View.read (Elt F) arg3.view f1) (View.read (Elt F) arg4.view f2) 0 0 := by
    delta run_rest.sl.r_2 run_rest.sl.v38
    rfl
  have er_5 : run_rest.sl.r_5 c arg7 f5 = mS (View.ld (View.read (Elt F) arg7.view f5) rB) (qH (View.read (Elt F) arg2.view f0) 1) (View.read (Elt F) arg3.view f1) 1 0 := by
    delta run_rest.sl.r_5 run_rest.sl.v67
    rfl
  have er_6 : run_rest.sl.r_6 c arg4 arg7 f2 f5 = aS (View.ld (View.read (Elt F) arg7.view f5) rB) (qH (View.read (Elt F) arg2.view f0) 1) (View.read (Elt F) arg3.view f1) (View.read (Elt F) arg4.view f2) 1 0 := by
    delta run_rest.sl.r_6 run_rest.sl.v67
    rfl
  have er_9 : run_rest.sl.r_9 c arg2 arg3 arg7 f0 f1 f5 = mS (View.ld (View.read (Elt F) arg7.view f5) rA) (qH (View.read (Elt F) arg2.view f0) 0) (View.read (Elt F) arg3.view f1) 0 1 := by
    delta run_rest.sl.r_9 run_rest.sl.r
    simp only [er_1]; rfl
  have er_10 : run_rest.sl.r_10 c arg2 arg3 arg4 arg7 f0 f1 f2 f5 = aS (View.ld (View.read (Elt F) arg7.view f5) rA) (qH (View.read (Elt F) arg2.view f0) 0) (View.read (Elt F) arg3.view f1) (View.read (Elt F) arg4.view f2) 0 1 := by
    delta run_rest.sl.r_10 run_rest.sl.r
    simp only [ev99, er_2, er_1]; rfl
  have er_12 : run_rest.sl.r_12 c arg2 arg3 arg7 f0 f1 f5 = mS (View.ld (View.read (Elt F) arg7.view f5) rB) (qH (View.read (Elt F) arg2.view f0) 1) (View.read (Elt F) arg3.view f1) 1 1 := by
    delta run_rest.sl.r_12 run_rest.sl.r_4 run_rest.sl.r_3
    simp only [er_5]; rfl
  have er_15 : run_rest.sl.r_15 c arg2 arg3 arg4 arg7 f0 f1 f2 f5 = aS (View.ld (View.read (Elt F) arg7.view f5) rB) (qH (View.read (Elt F) arg2.view f0) 1) (View.read (Elt F) arg3.view f1) (View.read (Elt F) arg4.view f2) 1 1 := by
    delta run_rest.sl.r_15 run_rest.sl.r_14 run_rest.sl.r_13 run_rest.sl.r_4 run_rest.sl.r_3
    simp only [ev124, er_5, er_6]; rfl
  have er_17 : run_rest.sl.r_17 c arg2 arg3 arg7 f0 f1 f5 = mS (View.ld (View.read (Elt F) arg7.view f5) rA) (qH (View.read (Elt F) arg2.view f0) 0) (View.read (Elt F) arg3.view f1) 0 2 := by
    delta run_rest.sl.r_17 run_rest.sl.r_8 run_rest.sl.r_7
    simp only [er_9]; rfl
  have er_18 : run_rest.sl.r_18 c arg2 arg3 arg4 arg7 f0 f1 f2 f5 = aS (View.ld (View.read (Elt F) arg7.view f5) rA) (qH (View.read (Elt F) arg2.view f0) 0) (View.read (Elt F) arg3.view f1) (View.read (Elt F) arg4.view f2) 0 2 := by
    delta run_rest.sl.r_18 run_rest.sl.r_8 run_rest.sl.r_7
    simp only [ev149, er_10, er_9]; rfl
  have er_21 : run_rest.sl.r_21 c arg2 arg3 arg7 f0 f1 f5 = mS (View.ld (View.read (Elt F) arg7.view f5) rB) (qH (View.read (Elt F) arg2.view f0) 1) (View.read (Elt F) arg3.view f1) 1 2 := by
    delta run_rest.sl.r_21 run_rest.sl.r_11
    simp only [er_12]; rfl
  have er_22 : run_rest.sl.r_22 c arg2 arg3 arg4 arg7 f0 f1 f2 f5 = aS (View.ld (View.read (Elt F) arg7.view f5) rB) (qH (View.read (Elt F) arg2.view f0) 1) (View.read (Elt F) arg3.view f1) (View.read (Elt F) arg4.view f2) 1 2 := by
    delta run_rest.sl.r_22 run_rest.sl.r_11
    simp only [er_15, er_12, ev174]; rfl
  have er_24 : run_rest.sl.r_24 c arg2 arg3 arg7 f0 f1 f5 = mS (View.ld (View.read (Elt F) arg7.view f5) rA) (qH (View.read (Elt F) arg2.view f0) 0) (View.read (Elt F) arg3.view f1) 0 3 := by
    delta run_rest.sl.r_24 run_rest.sl.r_16
    simp only [er_17]; rfl
  have er_26 : run_rest.sl.r_26 c arg2 arg3 arg4 arg7 f0 f1 f2 f5 = aS (View.ld (View.read (Elt F) arg7.view f5) rA) (qH (View.read (Elt F) arg2.view f0) 0) (View.read (Elt F) arg3.view f1) (View.read (Elt F) arg4.view f2) 0 3 := by
    delta run_rest.sl.r_26 run_rest.sl.r_25 run_rest.sl.r_16
    simp only [ev199, er_17, er_24, er_18]; rfl
  have er_28 : run_rest.sl.r_28 c arg2 arg3 arg7 f0 f1 f5 = mS (View.ld (View.read (Elt F) arg7.view f5) rB) (qH (View.read (Elt F) arg2.view f0) 1) (View.read (Elt F) arg3.view f1) 1 3 := by
    delta run_rest.sl.r_28 run_rest.sl.r_20 run_rest.sl.r_19
    simp only [er_21]; rfl
  have er_29 : run_rest.sl.r_29 c arg2 arg3 arg4 arg7 f0 f1 f2 f5 = aS (View.ld (View.read (Elt F) arg7.view f5) rB) (qH (View.read (Elt F) arg2.view f0) 1) (View.read (Elt F) arg3.view f1) (View.read (Elt F) arg4.view f2) 1 3 := by
    delta run_rest.sl.r_29 run_rest.sl.r_20 run_rest.sl.r_19
    simp only [ev224, er_21, er_22]; rfl
  have er_31 : run_rest.sl.r_31 c arg2 arg3 arg7 f0 f1 f5 = mS (View.ld (View.read (Elt F) arg7.view f5) rA) (qH (View.read (Elt F) arg2.view f0) 0) (View.read (Elt F) arg3.view f1) 0 4 := by
    delta run_rest.sl.r_31 run_rest.sl.r_23
    simp only [er_24]; rfl
  have er_32 : run_rest.sl.r_32 c arg2 arg3 arg4 arg7 f0 f1 f2 f5 = aS (View.ld (View.read (Elt F) arg7.view f5) rA) (qH (View.read (Elt F) arg2.view f0) 0) (View.read (Elt F) arg3.view f1) (View.read (Elt F) arg4.view f2) 0 4 := by
    delta run_rest.sl.r_32 run_rest.sl.r_23
    simp only [er_24, ev249, er_26]; rfl
  have er_35 : run_rest.sl.r_35 c arg2 arg3 arg7 f0 f1 f5 = mS (View.ld (View.read (Elt F) arg7.view f5) rB) (qH (View.read (Elt F) arg2.view f0) 1) (View.read (Elt F) arg3.view f1) 1 4 := by
    delta run_rest.sl.r_35 run_rest.sl.r_27
    simp only [er_28]; rfl
  have er_36 : run_rest.sl.r_36 c arg2 arg3 arg4 arg7 f0 f1 f2 f5 = aS (View.ld (View.read (Elt F) arg7.view f5) rB) (qH (View.read (Elt F) arg2.view f0) 1) (View.read (Elt F) arg3.view f1) (View.read (Elt F) arg4.view f2) 1 4 := by
    delta run_rest.sl.r_36 run_rest.sl.r_27
    simp only [er_29, er_28, ev274]; rfl
  have er_38 : run_rest.sl.r_38 c arg2 arg3 arg7 f0 f1 f5 = mS (View.ld (View.read (Elt F) arg7.view f5) rA) (qH (View.read (Elt F) arg2.view f0) 0) (View.read (Elt F) arg3.view f1) 0 5 := by
    delta run_rest.sl.r_38 run_rest.sl.r_30
    simp only [er_31]; rfl
  have er_41 : run_rest.sl.r_41 c arg2 arg3 arg4 arg7 f0 f1 f2 f5 = aS (View.ld (View.read (Elt F) arg7.view f5) rA) (qH (View.read (Elt F) arg2.view f0) 0) (View.read (Elt F) arg3.view f1) (View.read (Elt F) arg4.view f2) 0 5 := by
    delta run_rest.sl.r_41 run_rest.sl.r_40 run_rest.sl.r_39 run_rest.sl.r_30
    simp only [er_32, ev299, er_31]; rfl
  have er_43 : run_rest.sl.r_43 c arg2 arg3 arg7 f0 f1 f5 = mS (View.ld (View.read (Elt F) arg7.view f5) rB) (qH (View.read (Elt F) arg2.view f0) 1) (View.read (Elt F) arg3.view f1) 1 5 := by
    delta run_rest.sl.r_43 run_rest.sl.r_34 run_rest.sl.r_33
    simp only [er_35]; rfl
  have er_44 : run_rest.sl.r_44 c arg2 arg3 arg4 arg7 f0 f1 f2 f5 = aS (View.ld (View.read (Elt F) arg7.view f5) rB) (qH (View.read (Elt F) arg2.view f0) 1) (View.read (Elt F) arg3.view f1) (View.read (Elt F) arg4.view f2) 1 5 := by
    delta run_rest.sl.r_44 run_rest.sl.r_34 run_rest.sl.r_33
    simp only [ev324, er_36, er_35]; rfl
  have er_47 : run_rest.sl.r_47 c arg2 arg3 arg7 f0 f1 f5 = mS (View.ld (View.read (Elt F) arg7.view f5) rA) (qH (View.read (Elt F) arg2.view f0) 0) (View.read (Elt F) arg3.view f1) 0 6 := by
    delta run_rest.sl.r_47 run_rest.sl.r_37
    simp only [er_38]; rfl
  have er_48 : run_rest.sl.r_48 c arg2 arg3 arg4 arg7 f0 f1 f2 f5 = aS (View.ld (View.read (Elt F) arg7.view f5) rA) (qH (View.read (Elt F) arg2.view f0) 0) (View.read (Elt F) arg3.view f1) (View.read (Elt F) arg4.view f2) 0 6 := by
    delta run_rest.sl.r_48 run_rest.sl.r_37
    simp only [er_41, ev349, er_38]; rfl
  have er_50 : run_rest.sl.r_50 c arg2 arg3 arg7 f0 f1 f5 = mS (View.ld (View.read (Elt F) arg7.view f5) rB) (qH (View.read (Elt F) arg2.view f0) 1) (View.read (Elt F) arg3.view f1) 1 6 := by
    delta run_rest.sl.r_50 run_rest.sl.r_42
    simp only [er_43]; rfl
  have er_52 : run_rest.sl.r_52 c arg2 arg3 arg4 arg7 f0 f1 f2 f5 = aS (View.ld (View.read (Elt F) arg7.view f5) rB) (qH (View.read (Elt F) arg2.view f0) 1) (View.read (Elt F) arg3.view f1) (View.read (Elt F) arg4.view f2) 1 6 := by
    delta run_rest.sl.r_52 run_rest.sl.r_51 run_rest.sl.r_42
    simp only [er_44, er_43, ev374, er_50]; rfl
  have er_54 : run_rest.sl.r_54 c arg2 arg3 arg7 f0 f1 f5 = mS (View.ld (View.read (Elt F) arg7.view f5) rA) (qH (View.read (Elt F) arg2.view f0) 0) (View.read (Elt F) arg3.view f1) 0 7 := by
    delta run_rest.sl.r_54 run_rest.sl.r_46 run_rest.sl.r_45
    simp only [er_47]; rfl
  have er_57 : run_rest.sl.r_57 c arg2 arg3 arg4 arg7 f0 f1 f2 f5 = aS (View.ld (View.read (Elt F) arg7.view f5) rA) (qH (View.read (Elt F) arg2.view f0) 0) (View.read (Elt F) arg3.view f1) (View.read (Elt F) arg4.view f2) 0 7 := by
    delta run_rest.sl.r_57 run_rest.sl.r_56 run_rest.sl.r_55 run_rest.sl.r_46 run_rest.sl.r_45
    simp only [er_48, er_47, ev399]; rfl
  have er_59 : run_rest.sl.r_59 c arg2 arg3 arg7 f0 f1 f5 = mS (View.ld (View.read (Elt F) arg7.view f5) rB) (qH (View.read (Elt F) arg2.view f0) 1) (View.read (Elt F) arg3.view f1) 1 7 := by
    delta run_rest.sl.r_59 run_rest.sl.r_49
    simp only [er_50]; rfl
  have er_60 : run_rest.sl.r_60 c arg2 arg3 arg4 arg7 f0 f1 f2 f5 = aS (View.ld (View.read (Elt F) arg7.view f5) rB) (qH (View.read (Elt F) arg2.view f0) 1) (View.read (Elt F) arg3.view f1) (View.read (Elt F) arg4.view f2) 1 7 := by
    delta run_rest.sl.r_60 run_rest.sl.r_49
    simp only [er_52, ev424, er_50]; rfl
  have er_63 : run_rest.sl.r_63 c arg2 arg3 arg7 f0 f1 f5 = mS (View.ld (View.read (Elt F) arg7.view f5) rA) (qH (View.read (Elt F) arg2.view f0) 0) (View.read (Elt F) arg3.view f1) 0 8 := by
    delta run_rest.sl.r_63 run_rest.sl.r_53
    simp only [er_54]; rfl
  have er_64 : run_rest.sl.r_64 c arg2 arg3 arg4 arg7 f0 f1 f2 f5 = aS (View.ld (View.read (Elt F) arg7.view f5) rA) (qH (View.read (Elt F) arg2.view f0) 0) (View.read (Elt F) arg3.view f1) (View.read (Elt F) arg4.view f2) 0 8 := by
    delta run_rest.sl.r_64 run_rest.sl.r_53
    simp only [er_57, er_54, ev449]; rfl
  have er_66 : run_rest.sl.r_66 c arg2 arg3 arg7 f0 f1 f5 = mS (View.ld (View.read (Elt F) arg7.view f5) rB) (qH (View.read (Elt F) arg2.view f0) 1) (View.read (Elt F) arg3.view f1) 1 8 := by
    delta run_rest.sl.r_66 run_rest.sl.r_58
    simp only [er_59]; rfl
  have er_69 : run_rest.sl.r_69 c arg2 arg3 arg4 arg7 f0 f1 f2 f5 = aS (View.ld (View.read (Elt F) arg7.view f5) rB) (qH (View.read (Elt F) arg2.view f0) 1) (View.read (Elt F) arg3.view f1) (View.read (Elt F) arg4.view f2) 1 8 := by
    delta run_rest.sl.r_69 run_rest.sl.r_68 run_rest.sl.r_67 run_rest.sl.r_58
    simp only [ev474, er_59, er_60]; rfl
  have er_71 : run_rest.sl.r_71 c arg2 arg3 arg7 f0 f1 f5 = mS (View.ld (View.read (Elt F) arg7.view f5) rA) (qH (View.read (Elt F) arg2.view f0) 0) (View.read (Elt F) arg3.view f1) 0 9 := by
    delta run_rest.sl.r_71 run_rest.sl.r_62 run_rest.sl.r_61
    simp only [er_63]; rfl
  have er_72 : run_rest.sl.r_72 c arg2 arg3 arg4 arg7 f0 f1 f2 f5 = aS (View.ld (View.read (Elt F) arg7.view f5) rA) (qH (View.read (Elt F) arg2.view f0) 0) (View.read (Elt F) arg3.view f1) (View.read (Elt F) arg4.view f2) 0 9 := by
    delta run_rest.sl.r_72 run_rest.sl.r_62 run_rest.sl.r_61
    simp only [er_64, er_63, ev499]; rfl
  have er_75 : run_rest.sl.r_75 c arg2 arg3 arg7 f0 f1 f5 = mS (View.ld (View.read (Elt F) arg7.view f5) rB) (qH (View.read (Elt F) arg2.view f0) 1) (View.read (Elt F) arg3.view f1) 1 9 := by
    delta run_rest.sl.r_75 run_rest.sl.r_65
    simp only [er_66]; rfl
  have er_76 : run_rest.sl.r_76 c arg2 arg3 arg4 arg7 f0 f1 f2 f5 = aS (View.ld (View.read (Elt F) arg7.view f5) rB) (qH (View.read (Elt F) arg2.view f0) 1) (View.read (Elt F) arg3.view f1) (View.read (Elt F) arg4.view f2) 1 9 := by
    delta run_rest.sl.r_76 run_rest.sl.r_65
    simp only [ev524, er_66, er_69]; rfl
  have er_78 : run_rest.sl.r_78 c arg2 arg3 arg7 f0 f1 f5 = mS (View.ld (View.read (Elt F) arg7.view f5) rA) (qH (View.read (Elt F) arg2.view f0) 0) (View.read (Elt F) arg3.view f1) 0 10 := by
    delta run_rest.sl.r_78 run_rest.sl.r_70
    simp only [er_71]; rfl
  have er_80 : run_rest.sl.r_80 c arg2 arg3 arg4 arg7 f0 f1 f2 f5 = aS (View.ld (View.read (Elt F) arg7.view f5) rA) (qH (View.read (Elt F) arg2.view f0) 0) (View.read (Elt F) arg3.view f1) (View.read (Elt F) arg4.view f2) 0 10 := by
    delta run_rest.sl.r_80 run_rest.sl.r_79 run_rest.sl.r_70
    simp only [ev549, er_71, er_72, er_78]; rfl
  have er_82 : run_rest.sl.r_82 c arg2 arg3 arg7 f0 f1 f5 = mS (View.ld (View.read (Elt F) arg7.view f5) rB) (qH (View.read (Elt F) arg2.view f0) 1) (View.read (Elt F) arg3.view f1) 1 10 := by
    delta run_rest.sl.r_82 run_rest.sl.r_74 run_rest.sl.r_73
    simp only [er_75]; rfl
  have er_86 : run_rest.sl.r_86 c arg2 arg3 arg4 arg7 f0 f1 f2 f5 = aS (View.ld (View.read (Elt F) arg7.view f5) rB) (qH (View.read (Elt F) arg2.view f0) 1) (View.read (Elt F) arg3.view f1) (View.read (Elt F) arg4.view f2) 1 10 := by
    delta run_rest.sl.r_86 run_rest.sl.r_85 run_rest.sl.r_84 run_rest.sl.r_83 run_rest.sl.r_74 run_rest.sl.r_73
    simp only [er_75, ev574, er_76]; rfl
  have er_88 : run_rest.sl.r_88 c arg2 arg3 arg7 f0 f1 f5 = mS (View.ld (View.read (Elt F) arg7.view f5) rA) (qH (View.read (Elt F) arg2.view f0) 0) (View.read (Elt F) arg3.view f1) 0 11 := by
    delta run_rest.sl.r_88 run_rest.sl.r_77
    simp only [er_78]; rfl
  have er_89 : run_rest.sl.r_89 c arg2 arg3 arg4 arg7 f0 f1 f2 f5 = aS (View.ld (View.read (Elt F) arg7.view f5) rA) (qH (View.read (Elt F) arg2.view f0) 0) (View.read (Elt F) arg3.view f1) (View.read (Elt F) arg4.view f2) 0 11 := by
    delta run_rest.sl.r_89 run_rest.sl.r_77
    simp only [ev599, er_80, er_78]; rfl
  have er_93 : run_rest.sl.r_93 c arg2 arg3 arg7 f0 f1 f5 = mS (View.ld (View.read (Elt F) arg7.view f5) rB) (qH (View.read (Elt F) arg2.view f0) 1) (View.read (Elt F) arg3.view f1) 1 11 := by
    delta run_rest.sl.r_93 run_rest.sl.r_81
    simp only [er_82]; rfl
  have er_94 : run_rest.sl.r_94 c arg2 arg3 arg4 arg7 f0 f1 f2 f5 = aS (View.ld (View.read (Elt F) arg7.view f5) rB) (qH (View.read (Elt F) arg2.view f0) 1) (View.read (Elt F) arg3.view f1) (View.read (Elt F) arg4.view f2) 1 11 := by
    delta run_rest.sl.r_94 run_rest.sl.r_81
    simp only [ev624, er_86, er_82]; rfl
  have efin : k0_pay11 (k0_pay164 (run_rest.sl.r_95 c arg2 arg3 arg4 arg7 f0 f1 f2 f5) (run_rest.sl.r_96 c arg2 arg3 arg5 arg7 f0 f1 f3 f5) (run_rest.sl.v656 c arg4 f2)) (k0_pay10 (k0_pay167 (run_rest.sl.r_92 c arg2 arg3 f0 f1) (run_rest.sl.r_93 c arg2 arg3 arg7 f0 f1 f5) (run_rest.sl.r_94 c arg2 arg3 arg4 arg7 f0 f1 f2 f5)) (k0_pay168 (run_rest.sl.r_92 c arg2 arg3 f0 f1) (run_rest.sl.r_93 c arg2 arg3 arg7 f0 f1 f5) (run_rest.sl.v670 c arg2 arg3 arg5 arg7 f0 f1 f3)) (run_rest.sl.v679 c arg4 f2)) = outRest (View.ld (View.read (Elt F) arg7.view f5) rA) (View.ld (View.read (Elt F) arg7.view f5) rB) (View.read (Elt F) arg2.view f0) (View.read (Elt F) arg3.view f1) (View.read (Elt F) arg4.view f2) := by
    delta run_rest.sl.v679 run_rest.sl.v656 run_rest.sl.r_96 run_rest.sl.r_95 run_rest.sl.r_92 run_rest.sl.r_90 run_rest.sl.r_87
    simp only [er_88, er_93, ev670, er_94, ev647, er_89]; rfl
  have ecar : Carried (View.read (Elt F) arg5.view f3) (View.read (Elt F) arg3.view f1) (View.read (Elt F) arg7.view (arg7.view.writes (Elt F) f5 (run_rest.sl.H5_26 c arg2 arg3 arg5 f0 f1 f3))) :=
    ⟨(ld_writes_skip _ _ _ _ _ _ rfl).trans (ld_writes_hit _ _ _ _ _), ld_writes_hit _ _ _ _ _⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_out _)).trans ((canon_out _).trans ?_)
    exact efin
  iexists _; isplitr
  swap
  · iexists _; isplitr
    swap; · iexact H5
    ipureintro; rfl
  ipureintro
  exact ecar

end Cert.Attn
-- ==== Proof.AttnLaunch.lean ====
/- The attention call: what each point finds and leaves, and the run of the program. -/
module

public import proofs.«01_k».proof.Proof.AttnRun
public import Idealize.ShloMosaic.Lib.Pipeline.ValueKit

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem idx : ∀ t : Fin grid0.N, win0_0.index t = ![t.val % 65, t.val / 65] ∧ win0_1.index t = ![0, t.val / 65] ∧ win0_2.index t = ![0, t.val / 65]
    ∧ win0_3.index t = ![min (t.val % 65 + 1) 64, t.val / 65] ∧ win0_4.index t = ![t.val % 65, t.val / 65] := by decide +kernel

/-- The body takes its first branch exactly at the first query block of a pair. -/
theorem branch : ∀ t : Fin grid0.N, (Scalar.cmpi .ne (Scalar.extui (Scalar.cmpi .eq (BitVec.ofNat 32 (grid0.coords t 1).val) 0#32)) 0#32 = 1#1) ↔ t.val % 65 = 0 := by
  decide +kernel

/-- The next point's query block is the one this point looks ahead to. -/
theorem iblk_ahead (c : Dev nD) (t t' : Fin cfg0.N) (h : t'.val = t.val + 1) (h' : t'.val % 65 ≠ 0) : (iblk m c 0 t' : Vec F S256x256 .bf16) = iblk m c 3 t := by
  funext y
  have e : ((win0_0.blk t').view.emb y) = ((win0_3.blk t).view.emb y) := by
    funext a
    refine Fin.ext (((Pipeline.Window.rect_emb_val_off win0_0 t' y a).trans ?_).trans (Pipeline.Window.rect_emb_val_off win0_3 t y a).symm)
    rw [(idx t').1, (idx t).2.2.2.1, show t'.val % 65 = min (t.val % 65 + 1) 64 by omega, show t'.val / 65 = t.val / 65 by omega]
  show V m c main_v7 ((win0_0.blk t').view.emb y) = V m c main_v7 ((win0_3.blk t).view.emb y)
  rw [e]

/-- The keys stay in place along a pair's query blocks. -/
theorem iblk_keys (c : Dev nD) (t t' : Fin cfg0.N) (h : t'.val = t.val + 1) (h' : t'.val % 65 ≠ 0) : (iblk m c 1 t' : Vec F S16640x256 .bf16) = iblk m c 1 t := by
  funext y
  have e : ((win0_1.blk t').view.emb y) = ((win0_1.blk t).view.emb y) := by
    funext a
    refine Fin.ext (((Pipeline.Window.rect_emb_val_off win0_1 t' y a).trans ?_).trans (Pipeline.Window.rect_emb_val_off win0_1 t y a).symm)
    rw [(idx t').2.1, (idx t).2.1, show t'.val / 65 = t.val / 65 by omega]
  show V m c main_v10 ((win0_1.blk t').view.emb y) = V m c main_v10 ((win0_1.blk t).view.emb y)
  rw [e]

/-- A query block's first scores, one head. -/
def firstScores (x0 : Vec F S256x256 .bf16) (x1 : Vec F S16640x256 .bf16) (h : ℕ) : Vec F S1x256x1280 .f32 :=
  k0_pay29 (k0_pay28 (qH x0 h) (kblk x1 h 0))

/-- What point `t` leaves in the output's buffer. -/
def outAt (c : Dev nD) (t : Fin cfg0.N) : Vec F S256x128 .f32 :=
  if t.val % 65 = 0 then outFirst (iblk m c 0 t) (iblk m c 1 t) (iblk m c 2 t)
  else outRest (firstScores (iblk m c 0 t) (iblk m c 1 t) 0) (firstScores (iblk m c 0 t) (iblk m c 1 t) 1) (iblk m c 0 t) (iblk m c 1 t) (iblk m c 2 t)

/-- Before point `k`, unless a pair begins there, the slots hold its query block's first scores. -/
def Ready (c : Dev nD) (k : ℕ) (S : Vec F S6x256x1280 .f32) : Prop :=
  ∀ t : Fin cfg0.N, t.val = k → t.val % 65 ≠ 0 → Carried (iblk m c 0 t) (iblk m c 1 t) S

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ k := iprop((∃ S, ⌜Ready m c k.val S⌝ ∗ owns (c : Thread nD τ) (Memref.whole cc0_scratch0) fullShare S) ∗ ∃ r, prngReg c r)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem Ready.step (c : Dev nD) (t : Fin cfg0.N) (S : Vec F S6x256x1280 .f32) (h : Carried (iblk m c 3 t) (iblk m c 1 t) S) : Ready m c t.succ.val S := by
  intro t' ht' h'
  rw [iblk_ahead m c t t' ht' h', iblk_keys m c t t' ht' h']
  exact h

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, after0_0, after0_1, after0_2, after0_3, after0_4]
  rw [show (dats m 0 c).Φ t.castSucc = iprop((∃ S, ⌜Ready m c t.val S⌝ ∗ owns (c : Thread nD τ) (Memref.whole cc0_scratch0) fullShare S) ∗ ∃ r, prngReg c r) from rfl,
    show (dats m 0 c).Φ t.succ = iprop((∃ S, ⌜Ready m c t.succ.val S⌝ ∗ owns (c : Thread nD τ) (Memref.whole cc0_scratch0) fullShare S) ∗ ∃ r, prngReg c r) from rfl]
  iintro ⟨⟨⟨%S, %hS, HS⟩, Hr⟩, Ho, ⟨%d0, H0⟩, ⟨%d1, H1⟩, ⟨%d2, H2⟩, ⟨%d3, H3⟩, ⟨%d4, H4⟩⟩
  by_cases ht : t.val % 65 = 0
  · rw [show outAt m c t = outFirst (iblk m c 0 t) (iblk m c 1 t) (iblk m c 2 t) from if_pos ht]
    iapply (run_first c Set.univ (grid0.coords t) _ _ _ _ _ _ _ _ _ _ _ _ ((branch t).mpr ht) (iblk m c 0 t) (iblk m c 1 t) (iblk m c 2 t) (iblk m c 3 t) S _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, ⟨%S', %hS', HS⟩⟩
    isplitl [HS Hr]
    · isplitl [HS]
      · iexists S'; isplitr
        · ipureintro; exact Ready.step m c t S' hS'
        iexact HS
      iexact Hr
    isplitl [Ho]; · iexact Ho
    isplitl [H0]; · iexact H0
    isplitl [H1]; · iexact H1
    isplitl [H2]; · iexact H2
    isplitl [H3]; · iexact H3
    iexact H4
  · rw [show outAt m c t = outRest (View.ld S rA) (View.ld S rB) (iblk m c 0 t) (iblk m c 1 t) (iblk m c 2 t) from by
      rw [(hS t rfl ht).1, (hS t rfl ht).2]; exact if_neg ht]
    iapply (run_rest c Set.univ (grid0.coords t) _ _ _ _ _ _ _ _ _ _ _ _ (fun h => ht ((branch t).mp h)) (iblk m c 0 t) (iblk m c 1 t) (iblk m c 2 t) (iblk m c 3 t) S _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, ⟨%S', %hS', HS⟩⟩
    isplitl [HS Hr]
    · isplitl [HS]
      · iexists S'; isplitr
        · ipureintro; exact Ready.step m c t S' hS'
        iexact HS
      iexact Hr
    isplitl [Ho]; · iexact Ho
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem ready_zero (c : Dev nD) (S : Vec F S6x256x1280 .f32) : Ready m c 0 S := by
  intro t ht h; rw [ht] at h; exact absurd rfl h

omit [FloatOps F] in
/-- Owning the whole scratch is its region at the contents. -/
theorem scratch_owned (c : Dev nD) (X : Vec F S6x256x1280 .f32) :
    (owns (c : Thread nD τ) (Memref.whole cc0_scratch0) fullShare X : sProp 𝕄)
      = iprop(∃ f : Buf (Elt F) ((c : Thread nD τ).loc cc0_scratch0), ⌜f = X⌝ ∗ (((c : Thread nD τ).loc cc0_scratch0) ↦{fullShare} f)) := by
  unfold owns; simp only [Memref.view_whole, View.read_whole, View.set_whole]

theorem phi_in (c : Dev nD) : Pipeline.ΦA spec0 c ⊢ (dats (F := F) m 0 c).Φ 0 := by
  rw [show (dats m 0 c).Φ 0 = iprop((∃ S, ⌜Ready m c 0 S⌝ ∗ owns (c : Thread nD τ) (Memref.whole cc0_scratch0) fullShare S) ∗ ∃ r, prngReg c r) from rfl]
  unfold Pipeline.ΦA
  rw [scopedRest0_eq]
  simp only [scratch_owned]
  iintro ⟨⟨%f, H⟩, Hr⟩
  isplitl [H]
  · iexists f; isplitr
    · ipureintro; exact ready_zero m c f
    iexists f; isplitr
    · ipureintro; rfl
    iexact H
  iexact Hr

theorem phi_out (c : Dev nD) : (dats (F := F) m 0 c).Φ (Fin.last cfg0.N) ⊢ Pipeline.ΦA spec0 c := by
  rw [show (dats m 0 c).Φ (Fin.last cfg0.N) = iprop((∃ S, ⌜Ready m c cfg0.N S⌝ ∗ owns (c : Thread nD τ) (Memref.whole cc0_scratch0) fullShare S) ∗ ∃ r, prngReg c r) from rfl]
  unfold Pipeline.ΦA
  rw [scopedRest0_eq]
  simp only [scratch_owned]
  iintro ⟨⟨%S, -, ⟨%f, -, H⟩⟩, Hr⟩
  isplitl [H]
  · iexists f; iexact H
  iexact Hr

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_main_quiescent m ρ))

end Cert.Attn
-- ==== Proof.AttnKernel.lean ====
/- The attention kernel's block, read at a row and a lane. -/
module

public import proofs.«01_k».proof.Proof.AttnModel
public import proofs.«01_k».proof.Proof.AttnLaunch

@[expose] public section

set_option maxRecDepth 16384

noncomputable section

namespace Cert.Attn

open Idealize.ShloMosaic Cert.KernelIdeal Cert.KernelIdeal.Gen

theorem neg_inf : Ideal.ofBits .f32 0xFF800000#32 = ⊥ := by
  simp [Ideal.ofBits, Ideal.ieee]

theorem qH_at (x : Vec Ideal S256x256 .bf16) (h : Fin 2) (r : Fin 256) (d : Fin 128) :
    qH x h.val (ix2 r d) = x (ix2 r ⟨128 * h.val + d.val, by omega⟩) := by
  pointwise [qH, k0_pay1]
  simp only [Nat.mod_eq_of_lt h.isLt]

theorem kblk_at (x : Vec Ideal S16640x256 .bf16) (h : Fin 2) (n : Fin 13) (j : Fin 1280) (d : Fin 128) :
    kblk x h.val n.val (ix2 j d) = x (ix2 ⟨1280 * n.val + j.val, by omega⟩ ⟨128 * h.val + d.val, by omega⟩) := by
  unfold kblk
  refine congrArg x (funext fun a => Fin.ext ?_)
  have hh := Nat.mod_eq_of_lt h.isLt
  have hn := Nat.mod_eq_of_lt n.isLt
  match a with
  | ⟨0, _⟩ =>
    show (0 + 1280 * (n.val % 13)) + 1 * j.val = 1280 * n.val + j.val
    omega
  | ⟨1, _⟩ =>
    show (128 * (h.val % 2) + 0) + 1 * d.val = 128 * h.val + d.val
    omega

theorem cblk_at (x : Vec Ideal S16640x256 .bf16) (h : Fin 2) (j : Fin 256) (d : Fin 128) :
    cblk x h.val (ix2 j d) = x (ix2 ⟨j.val, by omega⟩ ⟨128 * h.val + d.val, by omega⟩) := by
  unfold cblk
  refine congrArg x (funext fun a => Fin.ext ?_)
  have hh := Nat.mod_eq_of_lt h.isLt
  match a with
  | ⟨0, _⟩ =>
    show (0 + 0) + 1 * j.val = j.val
    omega
  | ⟨1, _⟩ =>
    show (128 * (h.val % 2) + 0) + 1 * d.val = 128 * h.val + d.val
    omega

theorem pay28_at (q : FVec Ideal S256x128 .bf16) (k : Vec Ideal S1280x128 .bf16) (r : Fin 256) (j : Fin 1280) :
    k0_pay28 q k (ix2 r j) = ∑ d : Fin 128, q (ix2 r d) * k (ix2 j d) := by
  pointwise [k0_pay28]

theorem pay29_at (s : FVec Ideal S256x1280 .f32) (r : Fin 256) (j : Fin 1280) : k0_pay29 s (ix3 0 r j) = s (ix2 r j) := by
  pointwise [k0_pay29]

theorem pay157_at (s : FVec Ideal S256x1280 .f32) (r : Fin 256) (o : Fin 1) :
    k0_pay157 s (ix2 r o) = (Finset.univ : Finset (Fin 1280)).fold max ⊥ (fun j => s (ix2 r j)) := by
  pointwise [k0_pay157]
  rw [neg_inf]

theorem pay26_at (s : FVec Ideal S256x1280 .f32) (r : Fin 256) (o : Fin 1) :
    k0_pay26 k0_pay5 (k0_pay29 s) (ix2 r o) = max ⊥ ((Finset.univ : Finset (Fin 1280)).fold max ⊥ (fun j => s (ix2 r j))) := by
  pointwise [k0_pay26, k0_pay5, k0_pay29]
  rw [neg_inf]

theorem pay27_at (s : FVec Ideal S256x1280 .f32) (v : Vec Ideal S1280x128 .bf16) (r : Fin 256) (l : Fin 128) :
    k0_pay27 k0_pay5 k0_pay6 (k0_pay29 s) (k0_pay29 s) v (ix2 r l)
      = Ideal.exp2 (⊥ - k0_pay26 k0_pay5 (k0_pay29 s) (ix2 r 0)) * 0
        + ∑ j : Fin 1280, Ideal.exp2 (s (ix2 r j) - k0_pay26 k0_pay5 (k0_pay29 s) (ix2 r 0)) * v (ix2 j l) := by
  pointwise [k0_pay27, k0_pay5, k0_pay6]
  simp only [neg_inf, pay29_at]; rfl

theorem pay61_at (acc : FVec Ideal S256x128 .f32) (m a : FVec Ideal S256x1 .f32) (s : FVec Ideal S256x1280 .f32) (v : Vec Ideal S1280x128 .bf16)
    (r : Fin 256) (l : Fin 128) :
    k0_pay61 acc m a (k0_pay29 s) v (ix2 r l)
      = a (ix2 r 0) * acc (ix2 r l) + ∑ j : Fin 1280, Ideal.exp2 (s (ix2 r j) - m (ix2 r 0)) * v (ix2 j l) := by
  pointwise [k0_pay61]
  simp only [pay29_at]; rfl

theorem pay61_step (acc : FVec Ideal S256x128 .f32) (m m' : FVec Ideal S256x1 .f32) (s : FVec Ideal S256x1280 .f32) (v : Vec Ideal S1280x128 .bf16)
    (r : Fin 256) (l : Fin 128) :
    k0_pay61 acc m' (exp2 (subf m m')) (k0_pay29 s) v (ix2 r l)
      = Ideal.exp2 (m (ix2 r 0) - m' (ix2 r 0)) * acc (ix2 r l) + ∑ j : Fin 1280, Ideal.exp2 (s (ix2 r j) - m' (ix2 r 0)) * v (ix2 j l) := by
  rw [pay61_at]
  rfl

theorem pay13_at (q k : FVec Ideal S256x128 .bf16) (r : Fin 256) (j : Fin 256) :
    k0_pay13 q k (ix3 0 r j) = ∑ d : Fin 128, q (ix2 r d) * k (ix2 j d) := by
  pointwise [k0_pay13]

theorem pay14_at (s : FVec Ideal S1x256x256 .f32) (r : Fin 256) (o : Fin 1) :
    k0_pay14 k0_pay5 s (ix2 r o) = max ⊥ ((Finset.univ : Finset (Fin 256)).fold max ⊥ (fun j => s (ix3 0 r j))) := by
  pointwise [k0_pay14, k0_pay5]
  rw [neg_inf]

theorem pay17_at (s : FVec Ideal S1x256x256 .f32) (v : Vec Ideal S256x128 .bf16) (r : Fin 256) (l : Fin 128) :
    k0_pay17 (k0_pay15 k0_pay5 k0_pay6 s) (k0_pay16 k0_pay5 s s) v (ix2 r l)
      = Ideal.exp2 (⊥ - k0_pay14 (F := Ideal) k0_pay5 s (ix2 r 0)) * 0
        + ∑ j : Fin 256, Ideal.exp2 (s (ix3 0 r j) - k0_pay14 (F := Ideal) k0_pay5 s (ix2 r 0)) * v (ix2 j l) := by
  pointwise [k0_pay17, k0_pay15, k0_pay16, k0_pay5, k0_pay6]
  simp only [neg_inf]; rfl

theorem lane : ∀ l : Fin 128, IntOp.cmpi CmpIPredicate.slt (BitVec.ofNat 32 l.val) 64#32 = if l.val < 64 then 1#1 else 0#1 := by decide +kernel

theorem pay11_at (a b : FVec Ideal S256x128 .f32) (r : Fin 256) (l : Fin 128) :
    k0_pay11 a b (ix2 r l) = if l.val < 64 then Ideal.div (a (ix2 r l)) (a (ix2 r 64)) else Ideal.div (b (ix2 r l)) (b (ix2 r 0)) := by
  pointwise [k0_pay11]
  have e : IntOp.cmpi CmpIPredicate.slt (BitVec.ofNat 32 l.val) 64#32 = if l.val < 64 then 1#1 else 0#1 := lane l
  rw [e]
  split <;> rfl

/-- An array's row by its number. -/
def rowOf (x : Vec Ideal S16640x256 .bf16) (k : ℕ) (l : Fin 256) : EReal := x (ix2 (Fin.ofNat 16640 k) l)

/-- A head's lane within its pair. -/
def laneOf (h : Fin 2) (d : Fin 128) : Fin 256 := ⟨128 * h.val + d.val, by omega⟩

theorem rowOf_eq (x : Vec Ideal S16640x256 .bf16) (k : ℕ) (hk : k < 16640) (l : Fin 256) : x (ix2 ⟨k, hk⟩ l) = rowOf x k l := by
  unfold rowOf
  congr 2
  exact Fin.ext (Nat.mod_eq_of_lt hk).symm

/-- The scores of a row are the reals `s`. -/
def Scores (x0 : Vec Ideal S256x256 .bf16) (x1 : Vec Ideal S16640x256 .bf16) (h : Fin 2) (r : Fin 256) (s : ℕ → ℝ) (N : ℕ) : Prop :=
  ∀ k < N, ∑ d : Fin 128, x0 (ix2 r (laneOf h d)) * rowOf x1 k (laneOf h d) = (s k : EReal)

section Row

variable (x0 : Vec Ideal S256x256 .bf16) (x1 x2 : Vec Ideal S16640x256 .bf16) (h : Fin 2) (r : Fin 256) (s : ℕ → ℝ)

theorem score_at (hs : Scores x0 x1 h r s 16640) (n : ℕ) (hn : n < 13) (j : Fin 1280) :
    k0_pay28 (qH x0 h.val) (kblk x1 h.val n) (ix2 r j) = (s (1280 * n + j.val) : EReal) := by
  rw [pay28_at, ← hs (1280 * n + j.val) (by omega)]
  refine Finset.sum_congr rfl fun d _ => ?_
  rw [qH_at, kblk_at x1 h ⟨n, hn⟩, rowOf_eq x1]
  rfl

theorem value_at (n : ℕ) (hn : n < 13) (j : Fin 1280) (l : Fin 128) :
    kblk x2 h.val n (ix2 j l) = rowOf x2 (1280 * n + j.val) (laneOf h l) := by
  rw [kblk_at x2 h ⟨n, hn⟩, rowOf_eq x2]
  rfl

/-- After chunk `n` the sums hold every key so far. -/
theorem chunks (hs : Scores x0 x1 h r s 16640) (n : ℕ) (hn : n < 13) :
    ∃ μ : ℝ, mS (firstScores x0 x1 h.val) (qH x0 h.val) x1 h.val n (ix2 r 0) = (μ : EReal)
      ∧ ∀ l : Fin 128, aS (firstScores x0 x1 h.val) (qH x0 h.val) x1 x2 h.val n (ix2 r l)
          = weighed s (fun k => rowOf x2 k (laneOf h l)) μ (1280 * (n + 1)) := by
  induction n with
  | zero =>
    have hm : ∃ μ : ℝ, k0_pay26 k0_pay5 (firstScores x0 x1 h.val) (ix2 r 0) = (μ : EReal) := by
      unfold firstScores
      rw [pay26_at, max_eq_right bot_le]
      exact fold_max_real (by norm_num) _ fun j => ⟨_, score_at x0 x1 h r s hs 0 hn j⟩
    obtain ⟨μ, hμ⟩ := hm
    refine ⟨μ, hμ, fun l => ?_⟩
    show k0_pay27 k0_pay5 k0_pay6 (firstScores x0 x1 h.val) (firstScores x0 x1 h.val) (kblk x2 h.val 0) (ix2 r l) = _
    unfold firstScores at hμ ⊢
    rw [pay27_at, hμ, ← weighed_first s _ μ (1280 * (0 + 1)) (Ideal.exp2 (⊥ - (μ : EReal)))]
    refine congrArg (_ + ·) (Finset.sum_congr rfl fun j _ => ?_)
    rw [score_at x0 x1 h r s hs 0 hn j, value_at x2 h 0 hn j l, Nat.mul_zero, Nat.zero_add]
  | succ n ih =>
    obtain ⟨μ, hμ, hA⟩ := ih (by omega)
    have hm : ∃ μ' : ℝ, mS (firstScores x0 x1 h.val) (qH x0 h.val) x1 h.val (n + 1) (ix2 r 0) = (μ' : EReal) := by
      obtain ⟨b, hb⟩ : ∃ b : ℝ, (k0_pay157 (F := Ideal) (k0_pay28 (qH x0 h.val) (kblk x1 h.val (n + 1))) (ix2 r 0)) = (b : EReal) := by
        rw [pay157_at]
        exact fold_max_real (by norm_num) _ fun j => ⟨_, score_at x0 x1 h r s hs (n + 1) hn j⟩
      obtain ⟨μ', hμ'⟩ := max_real ⟨μ, rfl⟩ ⟨b, rfl⟩
      exact ⟨μ', (congrArg₂ max hμ hb).trans hμ'⟩
    obtain ⟨μ', hμ'⟩ := hm
    refine ⟨μ', hμ', fun l => ?_⟩
    show k0_pay61 (aS (firstScores x0 x1 h.val) (qH x0 h.val) x1 x2 h.val n) (mS (firstScores x0 x1 h.val) (qH x0 h.val) x1 h.val (n + 1))
      (exp2 (subf (mS (firstScores x0 x1 h.val) (qH x0 h.val) x1 h.val n) (mS (firstScores x0 x1 h.val) (qH x0 h.val) x1 h.val (n + 1))))
      (k0_pay29 (k0_pay28 (qH x0 h.val) (kblk x1 h.val (n + 1)))) (kblk x2 h.val (n + 1)) (ix2 r l) = _
    have hj : ∀ j : Fin 1280, Ideal.exp2 (k0_pay28 (qH x0 h.val) (kblk x1 h.val (n + 1)) (ix2 r j) - (μ' : EReal)) * kblk x2 h.val (n + 1) (ix2 j l)
        = Ideal.exp2 ((s (1280 * (n + 1) + j.val) : EReal) - (μ' : EReal)) * rowOf x2 (1280 * (n + 1) + j.val) (laneOf h l) := fun j => by
      rw [score_at x0 x1 h r s hs (n + 1) hn j, value_at x2 h (n + 1) hn j l]
    rw [pay61_step, hμ, hμ', hA l, Finset.sum_congr rfl fun j _ => hj j, weighed_step s (fun k => rowOf x2 k (laneOf h l)) μ μ' (1280 * (n + 1)) 1280]
    rfl

/-- The context rows' sums, in one chunk. -/
theorem context (hs : Scores x0 x1 h r s 256) :
    ∃ μ : ℝ, ∀ l : Fin 128, aFirst x0 x1 x2 h.val (ix2 r l) = weighed s (fun k => rowOf x2 k (laneOf h l)) μ 256 := by
  have hk : ∀ j : Fin 256, k0_pay13 (qH x0 h.val) (cblk x1 h.val) (ix3 0 r j) = (s j.val : EReal) := fun j => by
    rw [pay13_at, ← hs j.val j.isLt]
    refine Finset.sum_congr rfl fun d _ => ?_
    rw [qH_at, cblk_at, rowOf_eq x1]
    rfl
  have hm : ∃ μ : ℝ, k0_pay14 (F := Ideal) k0_pay5 (k0_pay13 (qH x0 h.val) (cblk x1 h.val)) (ix2 r 0) = (μ : EReal) := by
    rw [pay14_at, max_eq_right bot_le]
    exact fold_max_real (by norm_num) _ fun j => ⟨_, hk j⟩
  obtain ⟨μ, hμ⟩ := hm
  refine ⟨μ, fun l => ?_⟩
  unfold aFirst
  rw [pay17_at, hμ, ← weighed_first s _ μ 256 (Ideal.exp2 (⊥ - (μ : EReal)))]
  refine congrArg (_ + ·) (Finset.sum_congr rfl fun j _ => ?_)
  rw [hk j, cblk_at, rowOf_eq x2]
  rfl

end Row

end Cert.Attn

end
-- ==== Proof.AttnHost.lean ====
/- The attention kernel's operands, read at an index. -/
module

public import proofs.«01_k».proof.Proof.AttnKernel
public import Idealize.ShloMosaic.Lib.StableHlo.ReadAt
public import Idealize.ShloMosaic.Lib.Pipeline.ValueKit

@[expose] public section

set_option maxRecDepth 16384

noncomputable section

namespace Cert.Attn

open Idealize.ShloMosaic Idealize.ShloMosaic.TcCoe Idealize.ShloMosaic.Tactic
open Idealize.ShloMosaic.Pipeline (Dat Cfg Window)
open Cert.KernelIdeal Cert.KernelIdeal.Gen

variable (m : (ℓ : Loc nD τ sig) → Buf (Elt Ideal) ℓ)

/-- The argument arrays: queries, keys, values. -/
def argQ (c : Dev nD) : S16640x8x96.Idx → EReal := m ((c : Thread nD τ).loc main_arg0)
def argK (c : Dev nD) : S16640x8x96.Idx → EReal := m ((c : Thread nD τ).loc main_arg1)
def argV (c : Dev nD) : S16640x8x64.Idx → EReal := m ((c : Thread nD τ).loc main_arg2)

theorem query_at (c : Dev nD) (R : Fin 16640) (C : Fin 1024) : V m c main_v7 (ix2 R C) =
    if h : C.val / 128 < 8 ∧ C.val % 128 < 96 then argQ m c (ix3 R ⟨C.val / 128, h.1⟩ ⟨C.val % 128, h.2⟩)
        * Ideal.div (Ideal.rsqrt (Ideal.ofBits .f32 0x42C00000#32)) (Ideal.log (Ideal.ofBits .f32 0x40000000#32))
      else FloatOps.sitofp (F := Ideal) .f32 0#32 := by
  unfold V
  simp only [hostOps0, hostOps0_1, hostOps0_2, hostOps0_3, hostOps0_4, List.flatten_cons, List.flatten_nil, List.append_nil, List.cons_append, List.nil_append]
  after_reads_at
  rfl

theorem key_at (c : Dev nD) (R : Fin 16640) (C : Fin 1024) : V m c main_v10 (ix2 R C) =
    if h : C.val / 128 < 8 ∧ C.val % 128 < 96 then argK m c (ix3 R ⟨C.val / 128, h.1⟩ ⟨C.val % 128, h.2⟩)
      else FloatOps.sitofp (F := Ideal) .f32 0#32 := by
  unfold V
  simp only [hostOps0, hostOps0_1, hostOps0_2, hostOps0_3, hostOps0_4, List.flatten_cons, List.flatten_nil, List.append_nil, List.cons_append, List.nil_append]
  after_reads_at
  rfl

set_option maxHeartbeats 1000000 in
theorem value_even (c : Dev nD) (R : Fin 16640) (C : Fin 1024) (H : Fin 8) (j : Fin 64) (hH : H.val = C.val / 256 * 2) (hj : j.val = C.val % 256) :
    V m c main_v19 (ix2 R C) = argV m c (ix3 R H j) := by
  have h : C.val % 256 < 64 := hj ▸ j.isLt
  unfold V
  simp only [hostOps0, hostOps0_1, hostOps0_2, hostOps0_3, hostOps0_4, List.flatten_cons, List.flatten_nil, List.append_nil, List.cons_append, List.nil_append]
  after_reads_at
  rw [dif_pos h]
  after_reads_at
  refine congrArg (argV m c) ?_
  funext a
  match a with
  | ⟨0, _⟩ => rfl
  | ⟨1, _⟩ => exact Fin.ext hH.symm
  | ⟨2, _⟩ => exact Fin.ext hj.symm

set_option maxHeartbeats 1000000 in
theorem value_ones (c : Dev nD) (R : Fin 16640) (C : Fin 1024) (h1 : 64 ≤ C.val % 256) (h2 : C.val % 256 < 192) :
    V m c main_v19 (ix2 R C) = (1 : EReal) := by
  unfold V
  simp only [hostOps0, hostOps0_1, hostOps0_2, hostOps0_3, hostOps0_4, List.flatten_cons, List.flatten_nil, List.append_nil, List.cons_append, List.nil_append]
  after_reads_at
  rw [dif_neg (by omega)]
  by_cases h : C.val % 256 < 128
  · rw [dif_pos (by omega)]
    after_reads_at
  · rw [dif_neg (by omega), dif_pos (by omega)]
    after_reads_at

set_option maxHeartbeats 1000000 in
theorem value_odd (c : Dev nD) (R : Fin 16640) (C : Fin 1024) (H : Fin 8) (j : Fin 64) (hH : H.val = C.val / 256 * 2 + 1)
    (hj : j.val + 192 = C.val % 256) : V m c main_v19 (ix2 R C) = argV m c (ix3 R H j) := by
  have h : C.val % 256 < 256 := Nat.mod_lt _ (by decide)
  unfold V
  simp only [hostOps0, hostOps0_1, hostOps0_2, hostOps0_3, hostOps0_4, List.flatten_cons, List.flatten_nil, List.append_nil, List.cons_append, List.nil_append]
  after_reads_at
  rw [dif_neg (by omega), dif_neg (by omega), dif_neg (by omega)]
  after_reads_at
  refine congrArg (argV m c) ?_
  funext a
  match a with
  | ⟨0, _⟩ => rfl
  | ⟨1, _⟩ => exact Fin.ext hH.symm
  | ⟨2, _⟩ => exact Fin.ext (show C.val % 256 - 64 - 64 - 64 = j.val by omega)

end Cert.Attn

end
-- ==== Proof.AttnArray.lean ====
/- The attention kernel's result array, read at an index. -/
module

public import proofs.«01_k».proof.Proof.AttnHost

@[expose] public section

set_option maxRecDepth 16384

noncomputable section

namespace Cert.Attn

open Idealize.ShloMosaic Idealize.ShloMosaic.TcCoe Idealize.ShloMosaic.Tactic
open Idealize.ShloMosaic.Pipeline (Dat Cfg Window)
open Cert.KernelIdeal Cert.KernelIdeal.Gen

variable (m : (ℓ : Loc nD τ sig) → Buf (Elt Ideal) ℓ)

theorem lt_grid (t : Fin cfg0.N) : t.val < 260 := t.isLt

theorem blk0_at (c : Dev nD) (t : Fin cfg0.N) (r : Fin 256) (l : Fin 256) (R : Fin 16640) (C : Fin 1024)
    (hR : R.val = 256 * (t.val % 65) + r.val) (hC : C.val = 256 * (t.val / 65) + l.val) :
    iblk m c 0 t (ix2 r l) = V m c main_v7 (ix2 R C) := by
  have e : ((win0_0.blk t).view.emb (ix2 r l)) = ix2 R C := by
    funext a
    refine Fin.ext ((Pipeline.Window.rect_emb_val_off win0_0 t (ix2 r l) a).trans ?_)
    rw [(idx t).1]
    match a with
    | ⟨0, _⟩ => exact (congrArg (· + r.val) (Nat.mul_comm _ _)).trans hR.symm
    | ⟨1, _⟩ => exact (congrArg (· + l.val) (Nat.mul_comm _ _)).trans hC.symm
  show V m c main_v7 ((win0_0.blk t).view.emb (ix2 r l)) = _
  rw [e]

theorem blk1_at (c : Dev nD) (t : Fin cfg0.N) (k : Fin 16640) (l : Fin 256) (C : Fin 1024) (hC : C.val = 256 * (t.val / 65) + l.val) :
    iblk m c 1 t (ix2 k l) = V m c main_v10 (ix2 k C) := by
  have e : ((win0_1.blk t).view.emb (ix2 k l)) = ix2 k C := by
    funext a
    refine Fin.ext ((Pipeline.Window.rect_emb_val_off win0_1 t (ix2 k l) a).trans ?_)
    rw [(idx t).2.1]
    match a with
    | ⟨0, _⟩ => exact (congrArg (· + k.val) (Nat.zero_mul _)).trans (Nat.zero_add _)
    | ⟨1, _⟩ => exact (congrArg (· + l.val) (Nat.mul_comm _ _)).trans hC.symm
  show V m c main_v10 ((win0_1.blk t).view.emb (ix2 k l)) = _
  rw [e]

theorem blk2_at (c : Dev nD) (t : Fin cfg0.N) (k : Fin 16640) (l : Fin 256) (C : Fin 1024) (hC : C.val = 256 * (t.val / 65) + l.val) :
    iblk m c 2 t (ix2 k l) = V m c main_v19 (ix2 k C) := by
  have e : ((win0_2.blk t).view.emb (ix2 k l)) = ix2 k C := by
    funext a
    refine Fin.ext ((Pipeline.Window.rect_emb_val_off win0_2 t (ix2 k l) a).trans ?_)
    rw [(idx t).2.2.1]
    match a with
    | ⟨0, _⟩ => exact (congrArg (· + k.val) (Nat.zero_mul _)).trans (Nat.zero_add _)
    | ⟨1, _⟩ => exact (congrArg (· + l.val) (Nat.mul_comm _ _)).trans hC.symm
  show V m c main_v19 ((win0_2.blk t).view.emb (ix2 k l)) = _
  rw [e]

/-- The factor the kernel puts on its queries. -/
theorem factor : Ideal.div (Ideal.rsqrt (Ideal.ofBits .f32 0x42C00000#32)) (Ideal.log (Ideal.ofBits .f32 0x40000000#32))
    = (((Real.sqrt 96)⁻¹ / Real.log 2 : ℝ) : EReal) := by
  have h96 : Ideal.ofBits .f32 0x42C00000#32 = ((96 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have hs : ¬((96 : ℝ) < 0) := by norm_num
  have hz : ¬((96 : ℝ) = 0) := by norm_num
  have hl : ¬((2 : ℝ) ≤ 0) := by norm_num
  rw [h96, h2, Ideal.rsqrt_coe, if_neg hs, if_neg hz, Ideal.log_coe, if_neg hl, Ideal.div_coe (Real.log_pos (by norm_num)).ne', ← EReal.coe_mul,
    mul_one_div]

theorem sitofp_zero : FloatOps.sitofp (F := Ideal) .f32 0#32 = (0 : EReal) := by
  show ((((0#32 : BitVec 32).toInt : ℤ) : ℝ) : EReal) = 0
  simp

end Cert.Attn

end
-- ==== Proof.AttnBlock.lean ====
/- The attention kernel's output blocks, element by element, and the array they fill. -/
module

public import proofs.«01_k».proof.Proof.AttnArray

@[expose] public section

set_option maxRecDepth 16384

noncomputable section

namespace Cert.Attn

open Idealize.ShloMosaic Idealize.ShloMosaic.TcCoe Idealize.ShloMosaic.Tactic
open Idealize.ShloMosaic.Pipeline (Dat Cfg Window)
open Cert.KernelIdeal Cert.KernelIdeal.Gen

variable (m : (ℓ : Loc nD τ sig) → Buf (Elt Ideal) ℓ) (c : Dev nD)
  (hq : ∀ i, argQ m c i = ((argQ m c i).toReal : EReal)) (hk : ∀ i, argK m c i = ((argK m c i).toReal : EReal))

include hq hk in
/-- The scores of a row of a block are those of the row, over `log 2`. -/
theorem scores_at (t : Fin cfg0.N) (r : Fin 256) (h : Fin 2) (R : Fin 16640) (H : Fin 8) (hR : R.val = 256 * (t.val % 65) + r.val)
    (hH : H.val = 2 * (t.val / 65) + h.val) :
    Scores (iblk m c 0 t) (iblk m c 1 t) h r (fun n => scoreOf (argQ m c) (argK m c) R H n / Real.log 2) 16640 := by
  intro k hkn
  have ht := lt_grid t
  have hh := h.isLt
  have hC : ∀ d : Fin 128, 256 * (t.val / 65) + (laneOf h d).val < 1024 := fun d => by
    show 256 * (t.val / 65) + (128 * h.val + d.val) < 1024
    omega
  have hdiv : ∀ d : Fin 128, (256 * (t.val / 65) + (laneOf h d).val) / 128 = H.val := fun d => by
    show (256 * (t.val / 65) + (128 * h.val + d.val)) / 128 = H.val
    omega
  have hmod : ∀ d : Fin 128, (256 * (t.val / 65) + (laneOf h d).val) % 128 = d.val := fun d => by
    show (256 * (t.val / 65) + (128 * h.val + d.val)) % 128 = d.val
    omega
  have hrow : rowOf (iblk m c 1 t) k = fun l => iblk m c 1 t (ix2 (Fin.ofNat 16640 k) l) := rfl
  refine (padded_sum (fun d => (argQ m c (ix3 R H d)).toReal) (fun d => (argK m c (ix3 (Fin.ofNat 16640 k) H d)).toReal) ((Real.sqrt 96)⁻¹ / Real.log 2)
    (fun d => iblk m c 0 t (ix2 r (laneOf h d))) (fun d => rowOf (iblk m c 1 t) k (laneOf h d)) ?_ ?_ ?_).trans ?_
  · intro d hd
    show iblk m c 0 t (ix2 r (laneOf h d)) = _
    rw [blk0_at m c t r (laneOf h d) R ⟨_, hC d⟩ hR rfl, query_at, dif_pos ⟨(hdiv d).trans_lt H.isLt, (hmod d).trans_lt hd⟩, factor, EReal.coe_mul, ← hq]
    congr 2
    exact congrArg₂ (ix3 R) (Fin.ext (hdiv d)) (Fin.ext (hmod d))
  · intro d hd
    show iblk m c 0 t (ix2 r (laneOf h d)) = _
    rw [blk0_at m c t r (laneOf h d) R ⟨_, hC d⟩ hR rfl, query_at, dif_neg (fun hn => absurd ((hmod d).symm.trans_lt hn.2) (by omega)), sitofp_zero]
  · intro d hd
    show iblk m c 1 t (ix2 (Fin.ofNat 16640 k) (laneOf h d)) = _
    rw [blk1_at m c t (Fin.ofNat 16640 k) (laneOf h d) ⟨_, hC d⟩ rfl, key_at, dif_pos ⟨(hdiv d).trans_lt H.isLt, (hmod d).trans_lt hd⟩, ← hk]
    congr 1
    exact congrArg₂ (ix3 _) (Fin.ext (hdiv d)) (Fin.ext (hmod d))
  · congr 1
    unfold scoreOf
    ring

/-- What point `t` has summed for one head. -/
def sums (t : Fin cfg0.N) (h : ℕ) : FVec Ideal S256x128 .f32 :=
  if t.val % 65 = 0 then aFirst (iblk m c 0 t) (iblk m c 1 t) (iblk m c 2 t) h
  else aS (firstScores (iblk m c 0 t) (iblk m c 1 t) h) (qH (iblk m c 0 t) h) (iblk m c 1 t) (iblk m c 2 t) h 12

theorem out_sums (t : Fin cfg0.N) : outAt m c t = k0_pay11 (sums m c t 0) (sums m c t 1) := by
  unfold outAt sums
  split <;> rfl

include hq hk in
theorem sums_at (t : Fin cfg0.N) (r : Fin 256) (h : Fin 2) (R : Fin 16640) (H : Fin 8) (hR : R.val = 256 * (t.val % 65) + r.val)
    (hH : H.val = 2 * (t.val / 65) + h.val) : ∃ μ : ℝ, ∀ l : Fin 128, sums m c t h.val (ix2 r l) =
      weighed (fun n => scoreOf (argQ m c) (argK m c) R H n / Real.log 2) (fun n => rowOf (iblk m c 2 t) n (laneOf h l)) μ
        (if R.val < 256 then 256 else 16640) := by
  have hs := scores_at m c hq hk t r h R H hR hH
  have hr := r.isLt
  unfold sums
  by_cases h0 : t.val % 65 = 0
  · rw [if_pos h0, if_pos (by omega)]
    exact context (iblk m c 0 t) (iblk m c 1 t) (iblk m c 2 t) h r _ fun k hk => hs k (by omega)
  · rw [if_neg h0, if_neg (by omega)]
    obtain ⟨μ, -, ha⟩ := chunks (iblk m c 0 t) (iblk m c 1 t) (iblk m c 2 t) h r _ hs 12 (by norm_num)
    exact ⟨μ, ha⟩

include hq hk in
/-- A lane of values over the lane of ones. -/
theorem quotient_at (t : Fin cfg0.N) (r : Fin 256) (h : Fin 2) (R : Fin 16640) (H : Fin 8) (hR : R.val = 256 * (t.val % 65) + r.val)
    (hH : H.val = 2 * (t.val / 65) + h.val) (l o : Fin 128) (j : Fin 64)
    (hl : ∀ k, rowOf (iblk m c 2 t) k (laneOf h l) = argV m c (ix3 (Fin.ofNat 16640 k) H j)) (ho : ∀ k, rowOf (iblk m c 2 t) k (laneOf h o) = 1) :
    Ideal.div (sums m c t h.val (ix2 r l)) (sums m c t h.val (ix2 r o)) = attention (argQ m c) (argK m c) (argV m c) R H j := by
  obtain ⟨μ, hμ⟩ := sums_at m c hq hk t r h R H hR hH
  rw [hμ, hμ, funext hl, funext ho]
  exact div_weighed _ _ _ (by split <;> norm_num)

include hq hk in
theorem block_at (t : Fin cfg0.N) (r : Fin 256) (l : Fin 128) (R : Fin 16640) (H : Fin 8) (j : Fin 64) (hR : R.val = 256 * (t.val % 65) + r.val)
    (hH : H.val = 2 * (t.val / 65) + l.val / 64) (hj : j.val = l.val % 64) :
    outAt m c t (ix2 r l) = attention (argQ m c) (argK m c) (argV m c) R H j := by
  have ht := lt_grid t
  have hl := l.isLt
  rw [out_sums, pay11_at]
  by_cases h : l.val < 64
  · rw [if_pos h]
    refine quotient_at m c hq hk t r 0 R H hR (hH.trans (by show _ = 2 * (t.val / 65) + 0; omega)) l 64 j (fun k => ?_) fun k => ?_
    · have hC : 256 * (t.val / 65) + (laneOf 0 l).val < 1024 := by
        show 256 * (t.val / 65) + (128 * 0 + l.val) < 1024
        omega
      show iblk m c 2 t (ix2 (Fin.ofNat 16640 k) (laneOf 0 l)) = _
      rw [blk2_at m c t _ (laneOf 0 l) ⟨_, hC⟩ rfl]
      refine value_even m c _ _ H j ?_ ?_
      · show H.val = (256 * (t.val / 65) + (128 * 0 + l.val)) / 256 * 2
        omega
      · show j.val = (256 * (t.val / 65) + (128 * 0 + l.val)) % 256
        omega
    · have hC : 256 * (t.val / 65) + (laneOf 0 64).val < 1024 := by
        show 256 * (t.val / 65) + (128 * 0 + 64) < 1024
        omega
      show iblk m c 2 t (ix2 (Fin.ofNat 16640 k) (laneOf 0 64)) = _
      rw [blk2_at m c t _ (laneOf 0 64) ⟨_, hC⟩ rfl]
      refine value_ones m c _ _ ?_ ?_
      · show 64 ≤ (256 * (t.val / 65) + (128 * 0 + 64)) % 256
        omega
      · show (256 * (t.val / 65) + (128 * 0 + 64)) % 256 < 192
        omega
  · rw [if_neg h]
    refine quotient_at m c hq hk t r 1 R H hR (hH.trans (by show _ = 2 * (t.val / 65) + 1; omega)) l 0 j (fun k => ?_) fun k => ?_
    · have hC : 256 * (t.val / 65) + (laneOf 1 l).val < 1024 := by
        show 256 * (t.val / 65) + (128 * 1 + l.val) < 1024
        omega
      show iblk m c 2 t (ix2 (Fin.ofNat 16640 k) (laneOf 1 l)) = _
      rw [blk2_at m c t _ (laneOf 1 l) ⟨_, hC⟩ rfl]
      refine value_odd m c _ _ H j ?_ ?_
      · show H.val = (256 * (t.val / 65) + (128 * 1 + l.val)) / 256 * 2 + 1
        omega
      · show j.val + 192 = (256 * (t.val / 65) + (128 * 1 + l.val)) % 256
        omega
    · have hC : 256 * (t.val / 65) + (laneOf 1 0).val < 1024 := by
        show 256 * (t.val / 65) + (128 * 1 + 0) < 1024
        omega
      show iblk m c 2 t (ix2 (Fin.ofNat 16640 k) (laneOf 1 0)) = _
      rw [blk2_at m c t _ (laneOf 1 0) ⟨_, hC⟩ rfl]
      refine value_ones m c _ _ ?_ ?_
      · show 64 ≤ (256 * (t.val / 65) + (128 * 1 + 0)) % 256
        omega
      · show (256 * (t.val / 65) + (128 * 1 + 0)) % 256 < 192
        omega

include hq hk in
/-- The result array, at an index, is the attention of the arguments. -/
theorem out_array : (dats m 0 c).arrAt 4 cfg0.N = fun p : S16640x512.Idx =>
    attention (argQ m c) (argK m c) (argV m c) (p 0) ⟨(p 1).val / 64, by have := (p 1).isLt; show (p 1).val / 64 < 8; have h : (p 1).val < 512 := this; omega⟩
      ⟨(p 1).val % 64, Nat.mod_lt _ (by norm_num)⟩ := by
  refine (dats m 0 c).arrAt_eq_of_covers 4 _ (by decide +kernel) fun t _ y => ?_
  blk_simp
  rw [after0_4]
  obtain ⟨r, l, rfl⟩ : ∃ (r : Fin 256) (l : Fin 128), y = ix2 r l := ⟨y 0, y 1, eq_ix2 y⟩
  have ht := lt_grid t
  have hr := r.isLt
  have hl := l.isLt
  have e : ((win0_4.blk t).view.emb (ix2 r l)) = ix2 ⟨256 * (t.val % 65) + r.val, by omega⟩ ⟨128 * (t.val / 65) + l.val, by omega⟩ := by
    funext a
    refine Fin.ext ((Pipeline.Window.rect_emb_val_off win0_4 t (ix2 r l) a).trans ?_)
    rw [(idx t).2.2.2.2]
    match a with
    | ⟨0, _⟩ => exact congrArg (· + r.val) (Nat.mul_comm _ _)
    | ⟨1, _⟩ => exact congrArg (· + l.val) (Nat.mul_comm _ _)
  refine (block_at m c hq hk t r l ⟨256 * (t.val % 65) + r.val, by omega⟩ ⟨(128 * (t.val / 65) + l.val) / 64, by omega⟩
    ⟨(128 * (t.val / 65) + l.val) % 64, Nat.mod_lt _ (by norm_num)⟩ rfl (show (128 * (t.val / 65) + l.val) / 64 = _ by omega)
    (show (128 * (t.val / 65) + l.val) % 64 = _ by omega)).trans ?_
  have e1 : win0_4.index t 1 * 128 + l.val = 128 * (t.val / 65) + l.val := by
    rw [(idx t).2.2.2.2]
    exact congrArg (· + l.val) (Nat.mul_comm _ _)
  exact congr (congr (congrArg (attention (argQ m c) (argK m c) (argV m c)) (congrFun e 0).symm) (Fin.ext (congrArg (· / 64) e1.symm)))
    (Fin.ext (congrArg (· % 64) e1.symm))

end Cert.Attn

end
-- ==== Proof.AttnFinite.lean ====
/- The precondition of the attention's value claim, read: queries and keys are real numbers. -/
module

public import proofs.«01_k».proof.Defs
public import Idealize.ShloMosaic.Lib.Pointwise
public import Idealize.ShloMosaic.Lib.IdealHost

@[expose] public section

noncomputable section

namespace Cert.Attn

open Idealize.ShloMosaic

theorem both_one : ∀ a b : BitVec 1, a &&& b = 1#1 → a = 1#1 ∧ b = 1#1 := by decide

/-- A value whose magnitude is below `+∞` is a real number. -/
theorem real_of_lt (x : EReal) (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => rfl

theorem reals_of_finite [Cert.Pre_finite.Facts] (q k : Cert.Pre_finite.S16640x8x96.Idx → EReal) (v : Cert.Pre_finite.S16640x8x64.Idx → EReal)
    (h : Cert.Pre_finite.fn (F := Ideal) q k v = fun _ => 1#1) : (∀ i, q i = ((q i).toReal : EReal)) ∧ ∀ i, k i = ((k i).toReal : EReal) := by
  have hb : ∀ i, Ideal.cmp .olt (max (q i) (-(q i))) (Ideal.ofBits .f32 0x7F800000#32) = 1#1
      ∧ Ideal.cmp .olt (max (k i) (-(k i))) (Ideal.ofBits .f32 0x7F800000#32) = 1#1 := fun i => both_one _ _ (congrFun h i)
  exact ⟨fun i => real_of_lt _ (hb i).1, fun i => real_of_lt _ (hb i).2⟩

end Cert.Attn

end
-- ==== Proof.AttnReference.lean ====
/- The attention's reference, read at an index. -/
module

public import proofs.«01_k».proof.Proof.AttnModel
public import proofs.«01_k».proof.Proof.Gen.ReferenceIdeal.Read
public import Idealize.ShloMosaic.Lib.KernelVsHost
public import Idealize.ShloMosaic.Lib.Pointwise

@[expose] public section

set_option maxRecDepth 16384

noncomputable section

namespace Cert.Attn.Ref

open Idealize.ShloMosaic Idealize.ShloMosaic.TcCoe Cert.ReferenceIdeal Cert.ReferenceIdeal.Read

/-- Every element of the array is a real number. -/
def AllReal {S : Shape} (x : S.Idx → EReal) : Prop := ∀ i, x i = ((x i).toReal : EReal)

variable (x0 x1 : (⟨S16640x8x96, .f32⟩ : BufTy).Contents (Elt Ideal)) (x2 : (⟨S16640x8x64, .f32⟩ : BufTy).Contents (Elt Ideal))

theorem scale : Ideal.rsqrt (Ideal.ofBits .f32 0x42C00000#32) = (((Real.sqrt 96)⁻¹ : ℝ) : EReal) := by
  have h96 : Ideal.ofBits .f32 0x42C00000#32 = ((96 : ℝ) : EReal) := by
    simp [Ideal.ofBits, Ideal.ieee]
    rw [← EReal.coe_mul]
    norm_num
  have hs : ¬((96 : ℝ) < 0) := by norm_num
  have hz : ¬((96 : ℝ) = 0) := by norm_num
  rw [h96, Ideal.rsqrt_coe, if_neg hs, if_neg hz]

theorem score_real (h0 : AllReal x0) (h1 : AllReal x1) (R K : Fin 16640) (H : Fin 8) :
    (∑ d : Fin 96, x0 (ix3 R H d) * x1 (ix3 K H d)) * Ideal.rsqrt (Ideal.ofBits .f32 0x42C00000#32) = (scoreOf x0 x1 R H K.val : EReal) := by
  have hk : Fin.ofNat 16640 K.val = K := Fin.ext (Nat.mod_eq_of_lt K.isLt)
  rw [scale, scoreOf, hk, mul_comm (Real.sqrt 96)⁻¹, EReal.coe_mul, coe_sum]
  congr 1
  refine Finset.sum_congr rfl fun d _ => ?_
  rw [EReal.coe_mul, ← h0, ← h1]

theorem score_context (h0 : AllReal x0) (h1 : AllReal x1) (H : Fin 8) (r k : Fin 256) :
    val_main_v6 (F := Ideal) x0 x1 (ix3 H r k) = (scoreOf x0 x1 ⟨r.val, by omega⟩ H k.val : EReal) := by
  refine Eq.trans ?_ (score_real x0 x1 h0 h1 ⟨r.val, by omega⟩ ⟨k.val, by omega⟩ H)
  pointwise [val_main_v6, val_main_v5, val_main_v4, val_main_cst, val_main_v3, val_main_v0, val_main_v1]

theorem score_rest (h0 : AllReal x0) (h1 : AllReal x1) (H : Fin 8) (r : Fin 16384) (k : Fin 16640) :
    val_main_v24 (F := Ideal) x0 x1 (ix3 H r k) = (scoreOf x0 x1 ⟨256 + r.val, by omega⟩ H k.val : EReal) := by
  refine Eq.trans ?_ (score_real x0 x1 h0 h1 ⟨256 + r.val, by omega⟩ k H)
  pointwise [val_main_v24, val_main_v23, val_main_v22, val_main_cst_3, val_main_v21, val_main_v20]

theorem neg_inf : Ideal.ofBits .f32 0xFF800000#32 = ⊥ := by
  simp [Ideal.ofBits, Ideal.ieee]

theorem top_context (h0 : AllReal x0) (h1 : AllReal x1) (H : Fin 8) (r : Fin 256) :
    ∃ μ : ℝ, val_main_v9 (F := Ideal) x0 x1 (ix2 H r) = (μ : EReal) := by
  have e : val_main_v7 (F := Ideal) x0 x1 (ix2 H r) = (Finset.univ : Finset (Fin 256)).fold max ⊥ (fun k => val_main_v6 (F := Ideal) x0 x1 (ix3 H r k)) := by
    unfold val_main_v7 val_main_cst_0
    rw [hostReduce_maximumf_eq_multiReduction (F := Ideal) (φ := .f32) (s := S8x256x256) (t := S8x256) (val_main_v6 (F := Ideal) x0 x1) 0xFF800000#32 Gen.reducesTo_S8x256x256_S8x256_d2 Gen.h_S_ (by decide) (Or.inl rfl) rfl]
    pointwise
    rw [neg_inf]
  obtain ⟨μ, hμ⟩ := fold_max_real (n := 256) (by norm_num) (fun k => val_main_v6 (F := Ideal) x0 x1 (ix3 H r k)) fun k => ⟨_, score_context x0 x1 h0 h1 H r k⟩
  refine ⟨μ, ?_⟩
  rw [val_main_v9_apply, e, hμ, val_main_v8_apply, val_main_cst_1_apply]
  show max (Ideal.ofBits .f32 0xFF800000#32) (μ : EReal) = _
  rw [neg_inf, max_bot_left]

theorem top_rest (h0 : AllReal x0) (h1 : AllReal x1) (H : Fin 8) (r : Fin 16384) :
    ∃ μ : ℝ, val_main_v27 (F := Ideal) x0 x1 (ix2 H r) = (μ : EReal) := by
  have e : val_main_v25 (F := Ideal) x0 x1 (ix2 H r) = (Finset.univ : Finset (Fin 16640)).fold max ⊥ (fun k => val_main_v24 (F := Ideal) x0 x1 (ix3 H r k)) := by
    unfold val_main_v25 val_main_cst_4
    rw [hostReduce_maximumf_eq_multiReduction (F := Ideal) (φ := .f32) (s := S8x16384x16640) (t := S8x16384) (val_main_v24 (F := Ideal) x0 x1) 0xFF800000#32 Gen.reducesTo_S8x16384x16640_S8x16384_d2 Gen.h_S_ (by decide) (Or.inl rfl) rfl]
    pointwise
    rw [neg_inf]
  obtain ⟨μ, hμ⟩ := fold_max_real (n := 16640) (by norm_num) (fun k => val_main_v24 (F := Ideal) x0 x1 (ix3 H r k)) fun k => ⟨_, score_rest x0 x1 h0 h1 H r k⟩
  refine ⟨μ, ?_⟩
  rw [val_main_v27_apply, e, hμ, val_main_v26_apply, val_main_cst_5_apply]
  show max (Ideal.ofBits .f32 0xFF800000#32) (μ : EReal) = _
  rw [neg_inf, max_bot_left]

theorem exp_context (h0 : AllReal x0) (h1 : AllReal x1) (H : Fin 8) (r : Fin 256) : ∃ μ : ℝ, ∀ k : Fin 256,
    val_main_v13 (F := Ideal) x0 x1 (ix3 H r k) = Ideal.exp ((scoreOf x0 x1 ⟨r.val, by omega⟩ H k.val : EReal) - (μ : EReal)) := by
  obtain ⟨μ, hμ⟩ := top_context x0 x1 h0 h1 H r
  refine ⟨μ, fun k => ?_⟩
  rw [← score_context x0 x1 h0 h1 H r k, ← hμ]
  pointwise [val_main_v13, val_main_v12, val_main_v11, val_main_v10]

theorem exp_rest (h0 : AllReal x0) (h1 : AllReal x1) (H : Fin 8) (r : Fin 16384) : ∃ μ : ℝ, ∀ k : Fin 16640,
    val_main_v31 (F := Ideal) x0 x1 (ix3 H r k) = Ideal.exp ((scoreOf x0 x1 ⟨256 + r.val, by omega⟩ H k.val : EReal) - (μ : EReal)) := by
  obtain ⟨μ, hμ⟩ := top_rest x0 x1 h0 h1 H r
  refine ⟨μ, fun k => ?_⟩
  rw [← score_rest x0 x1 h0 h1 H r k, ← hμ]
  pointwise [val_main_v31, val_main_v30, val_main_v29, val_main_v28]

theorem context_at (h0 : AllReal x0) (h1 : AllReal x1) (r : Fin 256) (H : Fin 8) (j : Fin 64) :
    val_main_v19 (F := Ideal) x0 x1 x2 (ix3 r H j) = attention x0 x1 x2 ⟨r.val, by omega⟩ H j := by
  obtain ⟨μ, hμ⟩ := exp_context x0 x1 h0 h1 H r
  have e : val_main_v19 (F := Ideal) x0 x1 x2 (ix3 r H j) = ∑ k : Fin 256, x2 (ix3 ⟨k.val, by omega⟩ H j)
      * Ideal.div (val_main_v13 (F := Ideal) x0 x1 (ix3 H r k)) (∑ i : Fin 256, val_main_v13 (F := Ideal) x0 x1 (ix3 H r i)) := by
    pointwise [val_main_v19, val_main_v18, val_main_v2, val_main_v17, val_main_v16, val_main_v15, val_main_v14, val_main_cst_2]
  rw [e]
  simp only [hμ]
  unfold attention
  rw [if_pos r.isLt, ← sum_div (scoreOf x0 x1 ⟨r.val, by omega⟩ H) _ μ (n := 256) (by norm_num)]
  refine Finset.sum_congr rfl fun k _ => ?_
  congr 2
  exact congrArg (ix3 · H j) (Fin.ext (Nat.mod_eq_of_lt (by omega)).symm)

theorem rest_at (h0 : AllReal x0) (h1 : AllReal x1) (r : Fin 16384) (H : Fin 8) (j : Fin 64) :
    val_main_v37 (F := Ideal) x0 x1 x2 (ix3 r H j) = attention x0 x1 x2 ⟨256 + r.val, by omega⟩ H j := by
  obtain ⟨μ, hμ⟩ := exp_rest x0 x1 h0 h1 H r
  have e : val_main_v37 (F := Ideal) x0 x1 x2 (ix3 r H j) = ∑ k : Fin 16640, x2 (ix3 k H j)
      * Ideal.div (val_main_v31 (F := Ideal) x0 x1 (ix3 H r k)) (∑ i : Fin 16640, val_main_v31 (F := Ideal) x0 x1 (ix3 H r i)) := by
    pointwise [val_main_v37, val_main_v36, val_main_v35, val_main_v34, val_main_v33, val_main_v32, val_main_cst_6]
  rw [e]
  simp only [hμ]
  unfold attention
  rw [if_neg (show ¬ 256 + r.val < 256 by omega), ← sum_div (scoreOf x0 x1 ⟨256 + r.val, by omega⟩ H) _ μ (n := 16640) (by norm_num)]
  refine Finset.sum_congr rfl fun k _ => ?_
  have hk : Fin.ofNat 16640 k.val = k := Fin.ext (Nat.mod_eq_of_lt k.isLt)
  rw [hk]

theorem result_at (h0 : AllReal x0) (h1 : AllReal x1) (R : Fin 16640) (J : Fin 512) :
    val_main_v39 (F := Ideal) x0 x1 x2 (ix2 R J) = attention x0 x1 x2 R ⟨J.val / 64, by omega⟩ ⟨J.val % 64, Nat.mod_lt _ (by norm_num)⟩ := by
  by_cases h : R.val < 256
  · refine Eq.trans ?_ (context_at x0 x1 x2 h0 h1 ⟨R.val, h⟩ ⟨J.val / 64, by omega⟩ ⟨J.val % 64, Nat.mod_lt _ (by norm_num)⟩)
    pointwise [val_main_v39, val_main_v38]
    rw [dif_pos h]
  · have e : (⟨256 + (R.val - 256), by omega⟩ : Fin 16640) = R := Fin.ext (show 256 + (R.val - 256) = R.val by omega)
    have hr := rest_at x0 x1 x2 h0 h1 ⟨R.val - 256, by omega⟩ ⟨J.val / 64, by omega⟩ ⟨J.val % 64, Nat.mod_lt _ (by norm_num)⟩
    rw [show (⟨256 + (⟨R.val - 256, by omega⟩ : Fin 16384).val, by omega⟩ : Fin 16640) = R from e] at hr
    rw [← hr]
    pointwise [val_main_v39, val_main_v38]
    rw [dif_neg h]

end Cert.Attn.Ref

end
-- ==== Proof.AttnClaim.lean ====
/- The attention call: on the extended reals the kernel's result is its reference's. -/
module

public import proofs.«01_k».proof.Defs
public import proofs.«01_k».proof.Proof.AttnBlock
public import proofs.«01_k».proof.Proof.AttnFinite
public import proofs.«01_k».proof.Proof.AttnReference
public import proofs.«01_k».proof.Proof.Gen.ReferenceIdeal.Run
public import proofs.«01_k».proof.Proof.Gen.Pre_finite
public import Idealize.ShloMosaic.Lib.Claim

@[expose] public section

noncomputable section

namespace Cert.Attn

open Idealize.ShloMosaic Idealize.ShloMosaic.TcCoe Idealize.SL.Sem

section Run
open Cert.KernelIdeal Cert.KernelIdeal.Gen

variable {F : FTy → Type} [FloatOps F] (m : (ℓ : Loc nD τ sig) → Buf (Elt F) ℓ) (ρ : Dev nD → PrngReg)

/-- The kernel's run ends with the output array written by its points and its arguments as they were. -/
theorem run_blocks : θ_run defs (onTc (τ := τ) (main (F := F))) ⟨m, fun _ => 0, ρ⟩ fun r => ∀ c : Dev nD,
    r.2.mem ((c.tc : Thread nD τ).loc main_v20) = (dats m 0 c).arrAt 4 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h.1 c).1 4, h.2.1 c⟩) (θ_run_and (run_main m ρ) (frame m ρ))

end Run

/-- The kernel's run and the reference's end in one and the same result, when queries and keys are finite. -/
theorem algebraic : Cert.algebraic_KernelIdeal_ReferenceIdeal_pre_finite := by
  pair_intro
  · run_from run_blocks (F := Ideal) m g
  · run_from Cert.ReferenceIdeal.Value.run (F := Ideal) m' g'
    obtain ⟨h0, h1, h2⟩ := hagree c
    obtain ⟨hq, hk⟩ := reals_of_finite _ _ _ (hpre c)
    rw [Cert.ReferenceIdeal.Read.val_main_v39_eq, h0, h1, h2]
    refine Eq.trans ?_ (out_array m c hq hk).symm
    funext p
    obtain ⟨r, j, rfl⟩ : ∃ (r : Fin 16640) (j : Fin 512), p = ix2 r j := ⟨p 0, p 1, eq_ix2 p⟩
    exact Ref.result_at _ _ _ hq hk r j

end Cert.Attn

end
-- ==== Proof.AttnFrames.lean ====
/- The attention kernel's frame at machine words: its program has the same text as its idealized form. -/
module

public import proofs.«01_k».proof.Defs
public import proofs.«01_k».proof.Proof.AttnLaunch
public import proofs.«01_k».proof.Proof.Gen.Kernel

@[expose] public section

set_option maxRecDepth 16384

noncomputable section

namespace Cert.Attn

open Idealize.ShloMosaic Idealize.ShloMosaic.TcCoe Idealize.SL.Sem

variable {F : FTy → Type} [FloatOps F]

theorem body_eq : @Cert.Kernel.cc0__mla_attn_kernel F _ _ = @Cert.KernelIdeal.cc0__mla_attn_kernel F _ _ := rfl

theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) bodies_eq

theorem frame_words : Cert.quiescent_Kernel := fun m g _ => by
  rw [defs_eq]
  exact (θ_run Cert.KernelIdeal.defs _ _).mono (fun _ h => h) (frame (F := Bits) m g)

end Cert.Attn

end
-- ==== Proof.DiffModel.lean ====
/- Differential attention on the extended reals: two softmax maps over the same values, their difference normalised. -/
module

public import proofs.«01_k».proof.Proof.AttnModel

@[expose] public section

noncomputable section

namespace Cert.Diff

open Idealize.ShloMosaic
open Cert.Attn (weight attend coe_sum total_pos)

/-- The query row's scaled score with the key row `n`, in one of the two maps. -/
def scoreOf (q k : (⟨4, ![16640, 4, 2, 64]⟩ : Shape).Idx → EReal) (R : Fin 16640) (H : Fin 4) (M : Fin 2) (n : ℕ) : ℝ :=
  (1 / 8) * ∑ d : Fin 64, (q (ix4 R H M d)).toReal * (k (ix4 (Fin.ofNat 16640 n) H M d)).toReal

/-- The first map's attention less `lam` times the second's; the context rows see the context alone, the other rows see every row. -/
def difference (q k : (⟨4, ![16640, 4, 2, 64]⟩ : Shape).Idx → EReal) (v : (⟨3, ![16640, 4, 128]⟩ : Shape).Idx → EReal) (lam : EReal)
    (R : Fin 16640) (H : Fin 4) (j : Fin 128) : EReal :=
  attend (scoreOf q k R H 0) (fun n => v (ix3 (Fin.ofNat 16640 n) H j)) (if R.val < 256 then 256 else 16640)
    - lam * attend (scoreOf q k R H 1) (fun n => v (ix3 (Fin.ofNat 16640 n) H j)) (if R.val < 256 then 256 else 16640)

/-- A row of 128 divided by its root mean square, times a gain and the output scale. -/
def normed (o : Fin 128 → EReal) (g : EReal) (j : Fin 128) : EReal :=
  o j * Ideal.rsqrt (Ideal.div (∑ l, o l * o l) (Ideal.ofBits .f32 0x43000000#32) + Ideal.ofBits .f32 0x358637BD#32) * g * Ideal.ofBits .f32 0x3F24FD5C#32

/-- A softmax weight, whatever is taken off the scores. -/
theorem softmax_at (s : ℕ → ℝ) (μ : ℝ) {n : ℕ} (hn : 0 < n) (k : ℕ) :
    Ideal.div (Ideal.exp ((s k : EReal) - (μ : EReal))) (∑ j : Fin n, Ideal.exp ((s j.val : EReal) - (μ : EReal))) = (weight s n k : EReal) := by
  have hw : ∀ k, Ideal.exp ((s k : EReal) - (μ : EReal)) = ((Real.exp (s k) * Real.exp (-μ) : ℝ) : EReal) := fun k => by
    rw [← EReal.coe_sub, Ideal.exp_coe, sub_eq_add_neg, Real.exp_add]
  have hz := total_pos s hn
  have hp := Real.exp_pos (-μ)
  have hd : ∑ j : Fin n, Ideal.exp ((s j.val : EReal) - (μ : EReal)) = (((∑ j ∈ Finset.range n, Real.exp (s j)) * Real.exp (-μ) : ℝ) : EReal) := by
    rw [Finset.sum_mul, coe_sum, Finset.sum_range]
    exact Finset.sum_congr rfl fun k _ => hw _
  rw [hd, hw, Ideal.div_coe (mul_pos hz hp).ne', ← EReal.coe_mul]
  congr 1
  unfold weight
  field_simp

/-- Attention to real values is a real number. -/
theorem attend_real (s : ℕ → ℝ) (w : ℕ → ℝ) (n : ℕ) :
    attend s (fun k => (w k : EReal)) n = ((∑ k ∈ Finset.range n, weight s n k * w k : ℝ) : EReal) := by
  unfold attend
  rw [coe_sum]
  exact Finset.sum_congr rfl fun k _ => (EReal.coe_mul _ _).symm

/-- Weighing real values by the difference of two maps is the difference of weighing them by each. -/
theorem mixed (s1 s2 : ℕ → ℝ) (v : ℕ → EReal) (hv : ∀ k, v k = ((v k).toReal : EReal)) (lam : EReal) (hl : lam = (lam.toReal : EReal)) (n : ℕ) :
    ∑ k : Fin n, v k.val * ((weight s1 n k.val : EReal) * 1 + (weight s2 n k.val : EReal) * -lam) = attend s1 v n - lam * attend s2 v n := by
  obtain ⟨w, rfl⟩ : ∃ w : ℕ → ℝ, v = fun k => (w k : EReal) := ⟨fun k => (v k).toReal, funext hv⟩
  obtain ⟨L, rfl⟩ : ∃ L : ℝ, lam = (L : EReal) := ⟨_, hl⟩
  rw [attend_real, attend_real, ← EReal.coe_mul, ← EReal.coe_sub, Finset.mul_sum, ← Finset.sum_sub_distrib, coe_sum, Finset.sum_range]
  refine Finset.sum_congr rfl fun k _ => ?_
  rw [mul_one, ← EReal.coe_neg, ← EReal.coe_mul, ← EReal.coe_add, ← EReal.coe_mul]
  congr 1
  ring

/-- Products of two rows of 128 reals, of which the first, scaled, is kept on one half alone. -/
theorem half_sum (a b : Fin 64 → ℝ) (c : ℝ) (M : Fin 2) (Q K : Fin 128 → EReal)
    (hQ : ∀ d : Fin 64, Q ⟨64 * M.val + d.val, by omega⟩ = ((a d * c : ℝ) : EReal)) (hQ0 : ∀ d : Fin 128, d.val / 64 ≠ M.val → Q d = 0)
    (hK : ∀ d : Fin 64, K ⟨64 * M.val + d.val, by omega⟩ = (b d : EReal)) :
    ∑ d : Fin 128, Q d * K d = ((c * ∑ d, a d * b d : ℝ) : EReal) := by
  rw [Fin.sum_univ_two_halves 64 64 rfl, Finset.mul_sum, coe_sum]
  have hp : ∀ d : Fin 64, Q ⟨64 * M.val + d.val, by omega⟩ * K ⟨64 * M.val + d.val, by omega⟩ = ((c * (a d * b d) : ℝ) : EReal) := fun d => by
    rw [hQ, hK, ← EReal.coe_mul]
    congr 1; ring
  have hM : M.val = 0 ∨ M.val = 1 := by omega
  rcases hM with hM | hM
  · have h0 : ∑ k : Fin 64, Q ⟨64 + k.val, by omega⟩ * K ⟨64 + k.val, by omega⟩ = 0 :=
      Finset.sum_eq_zero fun k _ => by rw [hQ0 _ (show (64 + k.val) / 64 ≠ M.val by omega), zero_mul]
    rw [h0, add_zero]
    refine Finset.sum_congr rfl fun d _ => ?_
    have e : (⟨d.val, by omega⟩ : Fin 128) = ⟨64 * M.val + d.val, by omega⟩ := Fin.ext (show d.val = 64 * M.val + d.val by omega)
    exact (congrArg₂ (· * ·) (congrArg Q e) (congrArg K e)).trans (hp d)
  · have h0 : ∑ k : Fin 64, Q ⟨k.val, by omega⟩ * K ⟨k.val, by omega⟩ = 0 :=
      Finset.sum_eq_zero fun k _ => by rw [hQ0 _ (show k.val / 64 ≠ M.val by omega), zero_mul]
    rw [h0, zero_add]
    refine Finset.sum_congr rfl fun d _ => ?_
    have e : (⟨64 + d.val, by omega⟩ : Fin 128) = ⟨64 * M.val + d.val, by omega⟩ := Fin.ext (show 64 + d.val = 64 * M.val + d.val by omega)
    exact (congrArg₂ (· * ·) (congrArg Q e) (congrArg K e)).trans (hp d)

end Cert.Diff

end
-- ==== Proof.DiffRun.lean ====
/- The differential attention kernel's body, run once on any blocks. -/
module

public import proofs.«01_k».proof.Proof.Gen.Kernel3Ideal.Frame
public import proofs.«01_k».proof.Proof.Gen.Kernel3Ideal.Skeleton
public import proofs.«01_k».proof.Proof.AttnRun

@[expose] public section

set_option maxRecDepth 16384

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen
open Cert.Attn (ld_writes_hit ld_writes_skip)

variable {F : FTy → Type} [FloatOps F]

local notation "𝕄" => MT nD τ sig Unit (Elt F) ℕ (UR sig nD τ) ℕ

/-- A query block as the body loads it. -/
def qld (x : Vec F S256x128 .bf16) : Vec F S256x128 .bf16 :=
  View.ld x (Rect.unit (s := S256x128) ![0, 0] S256x128.size inb_S256x128_S256x128_0_0)

/-- A row of 128 lanes as the body loads it. -/
def rld (x : Vec F S1x128 .f32) : Vec F S1x128 .f32 :=
  View.ld x (Rect.unit (s := S1x128) ![0, 0] S1x128.size inb_S1x128_S1x128_0_0)

/-- The queries of one of the two maps: its 64 lanes, zeros in the others. -/
def qM (x : Vec F S256x128 .bf16) : ℕ → FVec F S256x128 .bf16
  | 0 => k0_pay153 (qld x)
  | _ => k0_pay155 (qld x)

theorem inbK (n : ℕ) : ∀ a, (![1280 * (n % 13), 0] : Fin 2 → ℕ) a + S1280x128.size a ≤ S16640x128.size a := by
  intro a; fin_cases a
  · show 1280 * (n % 13) + 1280 ≤ 16640; omega
  · show 0 + 128 ≤ 128; omega

theorem inbV (n : ℕ) : ∀ a, (![1280 * (n % 13), 0] : Fin 2 → ℕ) a + S1280x256.size a ≤ S16640x256.size a := by
  intro a; fin_cases a
  · show 1280 * (n % 13) + 1280 ≤ 16640; omega
  · show 0 + 256 ≤ 256; omega

/-- A chunk of 1280 rows of the keys. -/
def kblk (x : Vec F S16640x128 .bf16) (n : ℕ) : Vec F S1280x128 .bf16 :=
  View.ld x (Rect.unit (s := S16640x128) ![1280 * (n % 13), 0] S1280x128.size (inbK n))

/-- A chunk of 1280 rows of the values and ones. -/
def vblk (x : Vec F S16640x256 .bf16) (n : ℕ) : Vec F S1280x256 .bf16 :=
  View.ld x (Rect.unit (s := S16640x256) ![1280 * (n % 13), 0] S1280x256.size (inbV n))

/-- The first 256 rows of the keys. -/
def kctx (x : Vec F S16640x128 .bf16) : Vec F S256x128 .bf16 :=
  View.ld x (Rect.unit (s := S16640x128) ![0, 0] S256x128.size inb_S16640x128_S256x128_0_0)

/-- The first 256 rows of the values and ones. -/
def vctx (x : Vec F S16640x256 .bf16) : Vec F S256x256 .bf16 :=
  View.ld x (Rect.unit (s := S16640x256) ![0, 0] S256x256.size inb_S16640x256_S256x256_0_0)

/-- The scratch slots that carry the next query block's first scores. -/
abbrev rA : Rect S6x256x1280 := Rect.unit (s := S6x256x1280) ![2, 0, 0] S1x256x1280.size inb_S6x256x1280_S1x256x1280_2_0_0
abbrev rB : Rect S6x256x1280 := Rect.unit (s := S6x256x1280) ![5, 0, 0] S1x256x1280.size inb_S6x256x1280_S1x256x1280_5_0_0

/-- The running row maxima after chunk `n`. -/
def mS (s0 : Vec F S1x256x1280 .f32) (q : FVec F S256x128 .bf16) (x1 : Vec F S16640x128 .bf16) : ℕ → FVec F S256x1 .f32
  | 0 => k0_pay9 k0_pay157 s0
  | n + 1 => k0_pay27 (k0_pay8 q (kblk x1 (n + 1))) (mS s0 q x1 n)

/-- The running sums after chunk `n`. -/
def aS (s0 : Vec F S1x256x1280 .f32) (q : FVec F S256x128 .bf16) (x1 : Vec F S16640x128 .bf16) (x2 : Vec F S16640x256 .bf16) : ℕ → FVec F S256x256 .f32
  | 0 => k0_pay10 k0_pay157 k0_pay158 s0 s0 (vblk x2 0)
  | n + 1 => k0_pay28 (k0_pay8 q (kblk x1 (n + 1))) (mS s0 q x1 n) (aS s0 q x1 x2 n) (k0_pay2 q (kblk x1 (n + 1))) (vblk x2 (n + 1))

/-- The output block from the two maps' sums. -/
def combine (a b : FVec F S256x256 .f32) (x4 x5 : Vec F S1x128 .f32) : Vec F S256x128 .f32 :=
  k0_pay1 b (k0_pay165 a) (k0_pay166 (rld x4)) (k0_pay167 b) (rld x5)

/-- The output block at a query block past the first, from the carried first scores. -/
def outRest (sa sb : Vec F S1x256x1280 .f32) (x0 : Vec F S256x128 .bf16) (x1 : Vec F S16640x128 .bf16) (x2 : Vec F S16640x256 .bf16) (x4 x5 : Vec F S1x128 .f32) : Vec F S256x128 .f32 :=
  combine (aS sa (qM x0 0) x1 x2 12) (aS sb (qM x0 1) x1 x2 12) x4 x5

/-- One map's sums at the first query block, over the first 256 rows. -/
def aFirst (x0 : Vec F S256x128 .bf16) (x1 : Vec F S16640x128 .bf16) (x2 : Vec F S16640x256 .bf16) (h : ℕ) : FVec F S256x256 .f32 :=
  k0_pay4 k0_pay157 k0_pay158 (k0_pay3 (qM x0 h) (kctx x1)) (k0_pay3 (qM x0 h) (kctx x1)) (vctx x2)

/-- The output block at the first query block. -/
def outFirst (x0 : Vec F S256x128 .bf16) (x1 : Vec F S16640x128 .bf16) (x2 : Vec F S16640x256 .bf16) (x4 x5 : Vec F S1x128 .f32) : Vec F S256x128 .f32 :=
  combine (aFirst x0 x1 x2 0) (aFirst x0 x1 x2 1) x4 x5

/-- The slots hold the first scores of the queries `x3`. -/
def Carried (x3 : Vec F S256x128 .bf16) (x1 : Vec F S16640x128 .bf16) (S : Vec F S6x256x1280 .f32) : Prop :=
  View.ld S rA = k0_pay2 (qM x3 0) (kblk x1 0) ∧ View.ld S rB = k0_pay2 (qM x3 1) (kblk x1 0)

theorem cover_out (p0 : Vec F S256x128 .f32) (y : S256x128.Idx) :
    ∃ pc ∈ ([⟨Rect.unit (s := S256x128) ![0, 0] ![256, 128] inb_S256x128_S256x128_0_0, p0⟩] : List (View.Piece (Elt F) S256x128 .f32)), y ∈ pc.1.set :=
  View.cover_of_tiled [⟨Rect.unit (s := S256x128) ![0, 0] ![256, 128] inb_S256x128_S256x128_0_0, p0⟩] ![256, 128] (by rfl) y

theorem canon_out (p0 : Vec F S256x128 .f32) :
    View.canon ([⟨Rect.unit (s := S256x128) ![0, 0] ![256, 128] inb_S256x128_S256x128_0_0, p0⟩] : List (View.Piece (Elt F) S256x128 .f32)) = p0 :=
  View.canon_cons_unit_lit inb_S256x128_S256x128_0_0 p0 [] (by intro a; fin_cases a <;> rfl)

set_option maxHeartbeats 4000000 in
theorem run_first (c : Dev nD) (E : Set ℕ) (i : grid0.Coords) (arg2 : Memref sig .tc .vmem S256x128 .bf16) (harg2 : arg2.IsWhole) (arg3 : Memref sig .tc .vmem S16640x128 .bf16) (harg3 : arg3.IsWhole) (arg4 : Memref sig .tc .vmem S16640x256 .bf16) (harg4 : arg4.IsWhole) (arg5 : Memref sig .tc .vmem S256x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S6x256x1280 .f32) (harg9 : arg9.IsWhole)
    (hi : Scalar.cmpi .ne (Scalar.extui (Scalar.cmpi .eq (BitVec.ofNat 32 (i 1).val) 0#32)) 0#32 = 1#1)
    (x0 : Vec F S256x128 .bf16) (x1 : Vec F S16640x128 .bf16) (x2 : Vec F S16640x256 .bf16) (x3 : Vec F S256x128 .bf16) (x4 : Vec F S1x128 .f32) (x5 : Vec F S1x128 .f32) (S : Vec F S6x256x1280 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outFirst x0 x1 x2 x4 x5) ∗ (∃ S', ⌜Carried x3 x1 S'⌝ ∗ owns (c : Thread nD τ) arg9 fullShare S')) -∗ K ⟨⟩))
      ⊢ wp frame (wpE (defs₀ (F := F)) Variants.none c none) E (cc0__diff_attn_kernel i arg2 harg2 arg3 harg3 arg4 harg4 arg5 harg5 arg6 harg6 arg7 harg7 arg8 harg8 arg9 harg9) K := by
  simp only [cc0__diff_attn_kernel_eq_skeleton]; unfold cc0__diff_attn_kernel_skel
  simp only [k0_part18_eq_skeleton]; unfold k0_part18_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec
  sl_step
  have ev76 : run_first.sl.v76 c arg2 arg3 arg5 arg9 f0 f1 f3 = k0_pay3 (qM (View.read (Elt F) arg2.view f0) 0) (kctx (View.read (Elt F) arg3.view f1)) := View.readCov_cons_toLoadRect _ _ _ _
  have ev107 : run_first.sl.v107 c arg2 arg3 arg5 arg9 f0 f1 f3 = k0_pay3 (qM (View.read (Elt F) arg2.view f0) 1) (kctx (View.read (Elt F) arg3.view f1)) := View.readCov_cons_toLoadRect _ _ _ _
  have er : run_first.sl.r c arg2 arg3 arg4 arg5 arg9 f0 f1 f2 f3 = aFirst (View.read (Elt F) arg2.view f0) (View.read (Elt F) arg3.view f1) (View.read (Elt F) arg4.view f2) 0 := by
    delta run_first.sl.r; simp only [ev76]; rfl
  have efb : k0_pay163 (run_first.sl.v107 c arg2 arg3 arg5 arg9 f0 f1 f3) (run_first.sl.v107 c arg2 arg3 arg5 arg9 f0 f1 f3) (View.readAt (Elt F) arg4.view (Rect.unit (s := S16640x256) ![0, 0] ![256, 256] inb_S16640x256_S256x256_0_0).toLoadRect f2) = aFirst (View.read (Elt F) arg2.view f0) (View.read (Elt F) arg3.view f1) (View.read (Elt F) arg4.view f2) 1 := by
    simp only [ev107]; rfl
  have efin : k0_pay1 (k0_pay163 (run_first.sl.v107 c arg2 arg3 arg5 arg9 f0 f1 f3) (run_first.sl.v107 c arg2 arg3 arg5 arg9 f0 f1 f3) (View.readAt (Elt F) arg4.view (Rect.unit (s := S16640x256) ![0, 0] ![256, 256] inb_S16640x256_S256x256_0_0).toLoadRect f2)) (k0_pay165 (run_first.sl.r c arg2 arg3 arg4 arg5 arg9 f0 f1 f2 f3)) (k0_pay166 (View.readAt (Elt F) arg6.view (Rect.unit (s := S1x128) ![0, 0] ![1, 128] inb_S1x128_S1x128_0_0).toLoadRect f4)) (k0_pay167 (k0_pay163 (run_first.sl.v107 c arg2 arg3 arg5 arg9 f0 f1 f3) (run_first.sl.v107 c arg2 arg3 arg5 arg9 f0 f1 f3) (View.readAt (Elt F) arg4.view (Rect.unit (s := S16640x256) ![0, 0] ![256, 256] inb_S16640x256_S256x256_0_0).toLoadRect f2))) (View.readAt (Elt F) arg7.view (Rect.unit (s := S1x128) ![0, 0] ![1, 128] inb_S1x128_S1x128_0_0).toLoadRect f5) = outFirst (View.read (Elt F) arg2.view f0) (View.read (Elt F) arg3.view f1) (View.read (Elt F) arg4.view f2) (View.read (Elt F) arg6.view f4) (View.read (Elt F) arg7.view f5) := by
    rw [er, efb]; rfl
  have ecar : Carried (View.read (Elt F) arg5.view f3) (View.read (Elt F) arg3.view f1) (View.read (Elt F) arg9.view (arg9.view.writes (Elt F) f7 (run_first.sl.H7_4 c arg2 arg3 arg5 f0 f1 f3))) :=
    ⟨(ld_writes_skip _ _ _ _ _ _ rfl).trans ((ld_writes_skip _ _ _ _ _ _ rfl).trans ((ld_writes_skip _ _ _ _ _ _ rfl).trans (ld_writes_hit _ _ _ _ _))),
     (ld_writes_skip _ _ _ _ _ _ rfl).trans (ld_writes_hit _ _ _ _ _)⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_out _)).trans ((canon_out _).trans ?_)
    exact efin
  iexists _; isplitr
  swap
  · iexists _; isplitr
    swap; · iexact H7
    ipureintro; rfl
  ipureintro
  exact ecar

set_option maxHeartbeats 4000000 in
theorem run_rest (c : Dev nD) (E : Set ℕ) (i : grid0.Coords) (arg2 : Memref sig .tc .vmem S256x128 .bf16) (harg2 : arg2.IsWhole) (arg3 : Memref sig .tc .vmem S16640x128 .bf16) (harg3 : arg3.IsWhole) (arg4 : Memref sig .tc .vmem S16640x256 .bf16) (harg4 : arg4.IsWhole) (arg5 : Memref sig .tc .vmem S256x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S6x256x1280 .f32) (harg9 : arg9.IsWhole)
    (hi : ¬ Scalar.cmpi .ne (Scalar.extui (Scalar.cmpi .eq (BitVec.ofNat 32 (i 1).val) 0#32)) 0#32 = 1#1)
    (x0 : Vec F S256x128 .bf16) (x1 : Vec F S16640x128 .bf16) (x2 : Vec F S16640x256 .bf16) (x3 : Vec F S256x128 .bf16) (x4 : Vec F S1x128 .f32) (x5 : Vec F S1x128 .f32) (S : Vec F S6x256x1280 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outRest (View.ld S rA) (View.ld S rB) x0 x1 x2 x4 x5) ∗ (∃ S', ⌜Carried x3 x1 S'⌝ ∗ owns (c : Thread nD τ) arg9 fullShare S')) -∗ K ⟨⟩))
      ⊢ wp frame (wpE (defs₀ (F := F)) Variants.none c none) E (cc0__diff_attn_kernel i arg2 harg2 arg3 harg3 arg4 harg4 arg5 harg5 arg6 harg6 arg7 harg7 arg8 harg8 arg9 harg9) K := by
  simp only [cc0__diff_attn_kernel_eq_skeleton]; unfold cc0__diff_attn_kernel_skel
  simp only [k0_part18_eq_skeleton]; unfold k0_part18_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec
  sl_step
  have ev129 : run_rest.sl.v129 c arg2 arg3 arg9 f0 f1 = k0_pay2 (qM (View.read (Elt F) arg2.view f0) 0) (kblk (View.read (Elt F) arg3.view f1) 1) := (View.readCov_skip _ _ _ _ _ rfl).trans ((View.readCov_skip _ _ _ _ _ rfl).trans (View.readCov_cons_toLoadRect _ _ _ _))
  have ev152 : run_rest.sl.v152 c arg2 arg3 arg9 f0 f1 = k0_pay2 (qM (View.read (Elt F) arg2.view f0) 1) (kblk (View.read (Elt F) arg3.view f1) 1) := (View.readCov_skip _ _ _ _ _ rfl).trans ((View.readCov_skip _ _ _ _ _ rfl).trans (View.readCov_cons_toLoadRect _ _ _ _))
  have ev175 : run_rest.sl.v175 c arg2 arg3 arg9 f0 f1 = k0_pay2 (qM (View.read (Elt F) arg2.view f0) 0) (kblk (View.read (Elt F) arg3.view f1) 2) := (View.readCov_skip _ _ _ _ _ rfl).trans ((View.readCov_skip _ _ _ _ _ rfl).trans (View.readCov_cons_toLoadRect _ _ _ _))
  have ev198 : run_rest.sl.v198 c arg2 arg3 arg9 f0 f1 = k0_pay2 (qM (View.read (Elt F) arg2.view f0) 1) (kblk (View.read (Elt F) arg3.view f1) 2) := (View.readCov_skip _ _ _ _ _ rfl).trans ((View.readCov_skip _ _ _ _ _ rfl).trans (View.readCov_cons_toLoadRect _ _ _ _))
  have ev221 : run_rest.sl.v221 c arg2 arg3 arg9 f0 f1 = k0_pay2 (qM (View.read (Elt F) arg2.view f0) 0) (kblk (View.read (Elt F) arg3.view f1) 3) := (View.readCov_skip _ _ _ _ _ rfl).trans ((View.readCov_skip _ _ _ _ _ rfl).trans (View.readCov_cons_toLoadRect _ _ _ _))
  have ev244 : run_rest.sl.v244 c arg2 arg3 arg9 f0 f1 = k0_pay2 (qM (View.read (Elt F) arg2.view f0) 1) (kblk (View.read (Elt F) arg3.view f1) 3) := (View.readCov_skip _ _ _ _ _ rfl).trans ((View.readCov_skip _ _ _ _ _ rfl).trans (View.readCov_cons_toLoadRect _ _ _ _))
  have ev267 : run_rest.sl.v267 c arg2 arg3 arg9 f0 f1 = k0_pay2 (qM (View.read (Elt F) arg2.view f0) 0) (kblk (View.read (Elt F) arg3.view f1) 4) := (View.readCov_skip _ _ _ _ _ rfl).trans ((View.readCov_skip _ _ _ _ _ rfl).trans (View.readCov_cons_toLoadRect _ _ _ _))
  have ev290 : run_rest.sl.v290 c arg2 arg3 arg9 f0 f1 = k0_pay2 (qM (View.read (Elt F) arg2.view f0) 1) (kblk (View.read (Elt F) arg3.view f1) 4) := (View.readCov_skip _ _ _ _ _ rfl).trans ((View.readCov_skip _ _ _ _ _ rfl).trans (View.readCov_cons_toLoadRect _ _ _ _))
  have ev313 : run_rest.sl.v313 c arg2 arg3 arg9 f0 f1 = k0_pay2 (qM (View.read (Elt F) arg2.view f0) 0) (kblk (View.read (Elt F) arg3.view f1) 5) := (View.readCov_skip _ _ _ _ _ rfl).trans ((View.readCov_skip _ _ _ _ _ rfl).trans (View.readCov_cons_toLoadRect _ _ _ _))
  have ev336 : run_rest.sl.v336 c arg2 arg3 arg9 f0 f1 = k0_pay2 (qM (View.read (Elt F) arg2.view f0) 1) (kblk (View.read (Elt F) arg3.view f1) 5) := (View.readCov_skip _ _ _ _ _ rfl).trans ((View.readCov_skip _ _ _ _ _ rfl).trans (View.readCov_cons_toLoadRect _ _ _ _))
  have ev359 : run_rest.sl.v359 c arg2 arg3 arg9 f0 f1 = k0_pay2 (qM (View.read (Elt F) arg2.view f0) 0) (kblk (View.read (Elt F) arg3.view f1) 6) := (View.readCov_skip _ _ _ _ _ rfl).trans ((View.readCov_skip _ _ _ _ _ rfl).trans (View.readCov_cons_toLoadRect _ _ _ _))
  have ev382 : run_rest.sl.v382 c arg2 arg3 arg9 f0 f1 = k0_pay2 (qM (View.read (Elt F) arg2.view f0) 1) (kblk (View.read (Elt F) arg3.view f1) 6) := (View.readCov_skip _ _ _ _ _ rfl).trans ((View.readCov_skip _ _ _ _ _ rfl).trans (View.readCov_cons_toLoadRect _ _ _ _))
  have ev405 : run_rest.sl.v405 c arg2 arg3 arg9 f0 f1 = k0_pay2 (qM (View.read (Elt F) arg2.view f0) 0) (kblk (View.read (Elt F) arg3.view f1) 7) := (View.readCov_skip _ _ _ _ _ rfl).trans ((View.readCov_skip _ _ _ _ _ rfl).trans (View.readCov_cons_toLoadRect _ _ _ _))
  have ev428 : run_rest.sl.v428 c arg2 arg3 arg9 f0 f1 = k0_pay2 (qM (View.read (Elt F) arg2.view f0) 1) (kblk (View.read (Elt F) arg3.view f1) 7) := (View.readCov_skip _ _ _ _ _ rfl).trans ((View.readCov_skip _ _ _ _ _ rfl).trans (View.readCov_cons_toLoadRect _ _ _ _))
  have ev451 : run_rest.sl.v451 c arg2 arg3 arg9 f0 f1 = k0_pay2 (qM (View.read (Elt F) arg2.view f0) 0) (kblk (View.read (Elt F) arg3.view f1) 8) := (View.readCov_skip _ _ _ _ _ rfl).trans ((View.readCov_skip _ _ _ _ _ rfl).trans (View.readCov_cons_toLoadRect _ _ _ _))
  have ev474 : run_rest.sl.v474 c arg2 arg3 arg9 f0 f1 = k0_pay2 (qM (View.read (Elt F) arg2.view f0) 1) (kblk (View.read (Elt F) arg3.view f1) 8) := (View.readCov_skip _ _ _ _ _ rfl).trans ((View.readCov_skip _ _ _ _ _ rfl).trans (View.readCov_cons_toLoadRect _ _ _ _))
  have ev497 : run_rest.sl.v497 c arg2 arg3 arg9 f0 f1 = k0_pay2 (qM (View.read (Elt F) arg2.view f0) 0) (kblk (View.read (Elt F) arg3.view f1) 9) := (View.readCov_skip _ _ _ _ _ rfl).trans ((View.readCov_skip _ _ _ _ _ rfl).trans (View.readCov_cons_toLoadRect _ _ _ _))
  have ev520 : run_rest.sl.v520 c arg2 arg3 arg9 f0 f1 = k0_pay2 (qM (View.read (Elt F) arg2.view f0) 1) (kblk (View.read (Elt F) arg3.view f1) 9) := (View.readCov_skip _ _ _ _ _ rfl).trans ((View.readCov_skip _ _ _ _ _ rfl).trans (View.readCov_cons_toLoadRect _ _ _ _))
  have ev543 : run_rest.sl.v543 c arg2 arg3 arg9 f0 f1 = k0_pay2 (qM (View.read (Elt F) arg2.view f0) 0) (kblk (View.read (Elt F) arg3.view f1) 10) := (View.readCov_skip _ _ _ _ _ rfl).trans ((View.readCov_skip _ _ _ _ _ rfl).trans (View.readCov_cons_toLoadRect _ _ _ _))
  have ev566 : run_rest.sl.v566 c arg2 arg3 arg9 f0 f1 = k0_pay2 (qM (View.read (Elt F) arg2.view f0) 1) (kblk (View.read (Elt F) arg3.view f1) 10) := (View.readCov_skip _ _ _ _ _ rfl).trans ((View.readCov_skip _ _ _ _ _ rfl).trans (View.readCov_cons_toLoadRect _ _ _ _))
  have ev589 : run_rest.sl.v589 c arg2 arg3 arg9 f0 f1 = k0_pay2 (qM (View.read (Elt F) arg2.view f0) 0) (kblk (View.read (Elt F) arg3.view f1) 11) := (View.readCov_skip _ _ _ _ _ rfl).trans ((View.readCov_skip _ _ _ _ _ rfl).trans (View.readCov_cons_toLoadRect _ _ _ _))
  have ev612 : run_rest.sl.v612 c arg2 arg3 arg9 f0 f1 = k0_pay2 (qM (View.read (Elt F) arg2.view f0) 1) (kblk (View.read (Elt F) arg3.view f1) 11) := (View.readCov_skip _ _ _ _ _ rfl).trans ((View.readCov_skip _ _ _ _ _ rfl).trans (View.readCov_cons_toLoadRect _ _ _ _))
  have ev633 : run_rest.sl.v633 c arg2 arg3 arg5 arg9 f0 f1 f3 = k0_pay2 (qM (View.read (Elt F) arg2.view f0) 0) (kblk (View.read (Elt F) arg3.view f1) 12) := (View.readCov_skip _ _ _ _ _ rfl).trans ((View.readCov_skip _ _ _ _ _ rfl).trans (View.readCov_cons_toLoadRect _ _ _ _))
  have ev654 : run_rest.sl.v654 c arg2 arg3 arg5 arg9 f0 f1 f3 = k0_pay2 (qM (View.read (Elt F) arg2.view f0) 1) (kblk (View.read (Elt F) arg3.view f1) 12) := (View.readCov_skip _ _ _ _ _ rfl).trans ((View.readCov_skip _ _ _ _ _ rfl).trans (View.readCov_cons_toLoadRect _ _ _ _))
  have er_1 : run_rest.sl.r_1 c arg9 f7 = mS (View.ld (View.read (Elt F) arg9.view f7) rA) (qM (View.read (Elt F) arg2.view f0) 0) (View.read (Elt F) arg3.view f1) 0 := by
    delta run_rest.sl.r_1 run_rest.sl.v72
    rfl
  have er_2 : run_rest.sl.r_2 c arg4 arg9 f2 f7 = aS (View.ld (View.read (Elt F) arg9.view f7) rA) (qM (View.read (Elt F) arg2.view f0) 0) (View.read (Elt F) arg3.view f1) (View.read (Elt F) arg4.view f2) 0 := by
    delta run_rest.sl.r_2 run_rest.sl.v72
    rfl
  have er_5 : run_rest.sl.r_5 c arg9 f7 = mS (View.ld (View.read (Elt F) arg9.view f7) rB) (qM (View.read (Elt F) arg2.view f0) 1) (View.read (Elt F) arg3.view f1) 0 := by
    delta run_rest.sl.r_5 run_rest.sl.v99
    rfl
  have er_6 : run_rest.sl.r_6 c arg4 arg9 f2 f7 = aS (View.ld (View.read (Elt F) arg9.view f7) rB) (qM (View.read (Elt F) arg2.view f0) 1) (View.read (Elt F) arg3.view f1) (View.read (Elt F) arg4.view f2) 0 := by
    delta run_rest.sl.r_6 run_rest.sl.v99
    rfl
  have er_8 : run_rest.sl.r_8 c arg2 arg3 arg9 f0 f1 f7 = mS (View.ld (View.read (Elt F) arg9.view f7) rA) (qM (View.read (Elt F) arg2.view f0) 0) (View.read (Elt F) arg3.view f1) 1 := by
    delta run_rest.sl.r_8 run_rest.sl.r
    simp only [er_1]; rfl
  have er_11 : run_rest.sl.r_11 c arg2 arg3 arg4 arg9 f0 f1 f2 f7 = aS (View.ld (View.read (Elt F) arg9.view f7) rA) (qM (View.read (Elt F) arg2.view f0) 0) (View.read (Elt F) arg3.view f1) (View.read (Elt F) arg4.view f2) 1 := by
    delta run_rest.sl.r_11 run_rest.sl.r_10 run_rest.sl.r_9 run_rest.sl.r
    simp only [ev129, er_1, er_2]; rfl
  have er_13 : run_rest.sl.r_13 c arg2 arg3 arg9 f0 f1 f7 = mS (View.ld (View.read (Elt F) arg9.view f7) rB) (qM (View.read (Elt F) arg2.view f0) 1) (View.read (Elt F) arg3.view f1) 1 := by
    delta run_rest.sl.r_13 run_rest.sl.r_4 run_rest.sl.r_3
    simp only [er_5]; rfl
  have er_14 : run_rest.sl.r_14 c arg2 arg3 arg4 arg9 f0 f1 f2 f7 = aS (View.ld (View.read (Elt F) arg9.view f7) rB) (qM (View.read (Elt F) arg2.view f0) 1) (View.read (Elt F) arg3.view f1) (View.read (Elt F) arg4.view f2) 1 := by
    delta run_rest.sl.r_14 run_rest.sl.r_4 run_rest.sl.r_3
    simp only [ev152, er_5, er_6]; rfl
  have er_16 : run_rest.sl.r_16 c arg2 arg3 arg9 f0 f1 f7 = mS (View.ld (View.read (Elt F) arg9.view f7) rA) (qM (View.read (Elt F) arg2.view f0) 0) (View.read (Elt F) arg3.view f1) 2 := by
    delta run_rest.sl.r_16 run_rest.sl.r_7
    simp only [er_8]; rfl
  have er_17 : run_rest.sl.r_17 c arg2 arg3 arg4 arg9 f0 f1 f2 f7 = aS (View.ld (View.read (Elt F) arg9.view f7) rA) (qM (View.read (Elt F) arg2.view f0) 0) (View.read (Elt F) arg3.view f1) (View.read (Elt F) arg4.view f2) 2 := by
    delta run_rest.sl.r_17 run_rest.sl.r_7
    simp only [ev175, er_11, er_8]; rfl
  have er_19 : run_rest.sl.r_19 c arg2 arg3 arg9 f0 f1 f7 = mS (View.ld (View.read (Elt F) arg9.view f7) rB) (qM (View.read (Elt F) arg2.view f0) 1) (View.read (Elt F) arg3.view f1) 2 := by
    delta run_rest.sl.r_19 run_rest.sl.r_12
    simp only [er_13]; rfl
  have er_20 : run_rest.sl.r_20 c arg2 arg3 arg4 arg9 f0 f1 f2 f7 = aS (View.ld (View.read (Elt F) arg9.view f7) rB) (qM (View.read (Elt F) arg2.view f0) 1) (View.read (Elt F) arg3.view f1) (View.read (Elt F) arg4.view f2) 2 := by
    delta run_rest.sl.r_20 run_rest.sl.r_12
    simp only [er_14, ev198, er_13]; rfl
  have er_22 : run_rest.sl.r_22 c arg2 arg3 arg9 f0 f1 f7 = mS (View.ld (View.read (Elt F) arg9.view f7) rA) (qM (View.read (Elt F) arg2.view f0) 0) (View.read (Elt F) arg3.view f1) 3 := by
    delta run_rest.sl.r_22 run_rest.sl.r_15
    simp only [er_16]; rfl
  have er_23 : run_rest.sl.r_23 c arg2 arg3 arg4 arg9 f0 f1 f2 f7 = aS (View.ld (View.read (Elt F) arg9.view f7) rA) (qM (View.read (Elt F) arg2.view f0) 0) (View.read (Elt F) arg3.view f1) (View.read (Elt F) arg4.view f2) 3 := by
    delta run_rest.sl.r_23 run_rest.sl.r_15
    simp only [er_17, er_16, ev221]; rfl
  have er_25 : run_rest.sl.r_25 c arg2 arg3 arg9 f0 f1 f7 = mS (View.ld (View.read (Elt F) arg9.view f7) rB) (qM (View.read (Elt F) arg2.view f0) 1) (View.read (Elt F) arg3.view f1) 3 := by
    delta run_rest.sl.r_25 run_rest.sl.r_18
    simp only [er_19]; rfl
  have er_29 : run_rest.sl.r_29 c arg2 arg3 arg4 arg9 f0 f1 f2 f7 = aS (View.ld (View.read (Elt F) arg9.view f7) rB) (qM (View.read (Elt F) arg2.view f0) 1) (View.read (Elt F) arg3.view f1) (View.read (Elt F) arg4.view f2) 3 := by
    delta run_rest.sl.r_29 run_rest.sl.r_28 run_rest.sl.r_27 run_rest.sl.r_26 run_rest.sl.r_18
    simp only [er_20, er_19, ev244]; rfl
  have er_31 : run_rest.sl.r_31 c arg2 arg3 arg9 f0 f1 f7 = mS (View.ld (View.read (Elt F) arg9.view f7) rA) (qM (View.read (Elt F) arg2.view f0) 0) (View.read (Elt F) arg3.view f1) 4 := by
    delta run_rest.sl.r_31 run_rest.sl.r_21
    simp only [er_22]; rfl
  have er_32 : run_rest.sl.r_32 c arg2 arg3 arg4 arg9 f0 f1 f2 f7 = aS (View.ld (View.read (Elt F) arg9.view f7) rA) (qM (View.read (Elt F) arg2.view f0) 0) (View.read (Elt F) arg3.view f1) (View.read (Elt F) arg4.view f2) 4 := by
    delta run_rest.sl.r_32 run_rest.sl.r_21
    simp only [er_22, er_23, ev267]; rfl
  have er_35 : run_rest.sl.r_35 c arg2 arg3 arg9 f0 f1 f7 = mS (View.ld (View.read (Elt F) arg9.view f7) rB) (qM (View.read (Elt F) arg2.view f0) 1) (View.read (Elt F) arg3.view f1) 4 := by
    delta run_rest.sl.r_35 run_rest.sl.r_24
    simp only [er_25]; rfl
  have er_36 : run_rest.sl.r_36 c arg2 arg3 arg4 arg9 f0 f1 f2 f7 = aS (View.ld (View.read (Elt F) arg9.view f7) rB) (qM (View.read (Elt F) arg2.view f0) 1) (View.read (Elt F) arg3.view f1) (View.read (Elt F) arg4.view f2) 4 := by
    delta run_rest.sl.r_36 run_rest.sl.r_24
    simp only [er_29, er_25, ev290]; rfl
  have er_38 : run_rest.sl.r_38 c arg2 arg3 arg9 f0 f1 f7 = mS (View.ld (View.read (Elt F) arg9.view f7) rA) (qM (View.read (Elt F) arg2.view f0) 0) (View.read (Elt F) arg3.view f1) 5 := by
    delta run_rest.sl.r_38 run_rest.sl.r_30
    simp only [er_31]; rfl
  have er_42 : run_rest.sl.r_42 c arg2 arg3 arg4 arg9 f0 f1 f2 f7 = aS (View.ld (View.read (Elt F) arg9.view f7) rA) (qM (View.read (Elt F) arg2.view f0) 0) (View.read (Elt F) arg3.view f1) (View.read (Elt F) arg4.view f2) 5 := by
    delta run_rest.sl.r_42 run_rest.sl.r_41 run_rest.sl.r_40 run_rest.sl.r_39 run_rest.sl.r_30
    simp only [er_32, ev313, er_31]; rfl
  have er_44 : run_rest.sl.r_44 c arg2 arg3 arg9 f0 f1 f7 = mS (View.ld (View.read (Elt F) arg9.view f7) rB) (qM (View.read (Elt F) arg2.view f0) 1) (View.read (Elt F) arg3.view f1) 5 := by
    delta run_rest.sl.r_44 run_rest.sl.r_34 run_rest.sl.r_33
    simp only [er_35]; rfl
  have er_45 : run_rest.sl.r_45 c arg2 arg3 arg4 arg9 f0 f1 f2 f7 = aS (View.ld (View.read (Elt F) arg9.view f7) rB) (qM (View.read (Elt F) arg2.view f0) 1) (View.read (Elt F) arg3.view f1) (View.read (Elt F) arg4.view f2) 5 := by
    delta run_rest.sl.r_45 run_rest.sl.r_34 run_rest.sl.r_33
    simp only [ev336, er_35, er_36]; rfl
  have er_47 : run_rest.sl.r_47 c arg2 arg3 arg9 f0 f1 f7 = mS (View.ld (View.read (Elt F) arg9.view f7) rA) (qM (View.read (Elt F) arg2.view f0) 0) (View.read (Elt F) arg3.view f1) 6 := by
    delta run_rest.sl.r_47 run_rest.sl.r_37
    simp only [er_38]; rfl
  have er_49 : run_rest.sl.r_49 c arg2 arg3 arg4 arg9 f0 f1 f2 f7 = aS (View.ld (View.read (Elt F) arg9.view f7) rA) (qM (View.read (Elt F) arg2.view f0) 0) (View.read (Elt F) arg3.view f1) (View.read (Elt F) arg4.view f2) 6 := by
    delta run_rest.sl.r_49 run_rest.sl.r_48 run_rest.sl.r_37
    simp only [er_47, ev359, er_38, er_42]; rfl
  have er_51 : run_rest.sl.r_51 c arg2 arg3 arg9 f0 f1 f7 = mS (View.ld (View.read (Elt F) arg9.view f7) rB) (qM (View.read (Elt F) arg2.view f0) 1) (View.read (Elt F) arg3.view f1) 6 := by
    delta run_rest.sl.r_51 run_rest.sl.r_43
    simp only [er_44]; rfl
  have er_52 : run_rest.sl.r_52 c arg2 arg3 arg4 arg9 f0 f1 f2 f7 = aS (View.ld (View.read (Elt F) arg9.view f7) rB) (qM (View.read (Elt F) arg2.view f0) 1) (View.read (Elt F) arg3.view f1) (View.read (Elt F) arg4.view f2) 6 := by
    delta run_rest.sl.r_52 run_rest.sl.r_43
    simp only [ev382, er_44, er_45]; rfl
  have er_55 : run_rest.sl.r_55 c arg2 arg3 arg9 f0 f1 f7 = mS (View.ld (View.read (Elt F) arg9.view f7) rA) (qM (View.read (Elt F) arg2.view f0) 0) (View.read (Elt F) arg3.view f1) 7 := by
    delta run_rest.sl.r_55 run_rest.sl.r_46
    simp only [er_47]; rfl
  have er_56 : run_rest.sl.r_56 c arg2 arg3 arg4 arg9 f0 f1 f2 f7 = aS (View.ld (View.read (Elt F) arg9.view f7) rA) (qM (View.read (Elt F) arg2.view f0) 0) (View.read (Elt F) arg3.view f1) (View.read (Elt F) arg4.view f2) 7 := by
    delta run_rest.sl.r_56 run_rest.sl.r_46
    simp only [er_49, ev405, er_47]; rfl
  have er_58 : run_rest.sl.r_58 c arg2 arg3 arg9 f0 f1 f7 = mS (View.ld (View.read (Elt F) arg9.view f7) rB) (qM (View.read (Elt F) arg2.view f0) 1) (View.read (Elt F) arg3.view f1) 7 := by
    delta run_rest.sl.r_58 run_rest.sl.r_50
    simp only [er_51]; rfl
  have er_61 : run_rest.sl.r_61 c arg2 arg3 arg4 arg9 f0 f1 f2 f7 = aS (View.ld (View.read (Elt F) arg9.view f7) rB) (qM (View.read (Elt F) arg2.view f0) 1) (View.read (Elt F) arg3.view f1) (View.read (Elt F) arg4.view f2) 7 := by
    delta run_rest.sl.r_61 run_rest.sl.r_60 run_rest.sl.r_59 run_rest.sl.r_50
    simp only [er_52, er_51, ev428]; rfl
  have er_63 : run_rest.sl.r_63 c arg2 arg3 arg9 f0 f1 f7 = mS (View.ld (View.read (Elt F) arg9.view f7) rA) (qM (View.read (Elt F) arg2.view f0) 0) (View.read (Elt F) arg3.view f1) 8 := by
    delta run_rest.sl.r_63 run_rest.sl.r_54 run_rest.sl.r_53
    simp only [er_55]; rfl
  have er_64 : run_rest.sl.r_64 c arg2 arg3 arg4 arg9 f0 f1 f2 f7 = aS (View.ld (View.read (Elt F) arg9.view f7) rA) (qM (View.read (Elt F) arg2.view f0) 0) (View.read (Elt F) arg3.view f1) (View.read (Elt F) arg4.view f2) 8 := by
    delta run_rest.sl.r_64 run_rest.sl.r_54 run_rest.sl.r_53
    simp only [er_55, er_56, ev451]; rfl
  have er_67 : run_rest.sl.r_67 c arg2 arg3 arg9 f0 f1 f7 = mS (View.ld (View.read (Elt F) arg9.view f7) rB) (qM (View.read (Elt F) arg2.view f0) 1) (View.read (Elt F) arg3.view f1) 8 := by
    delta run_rest.sl.r_67 run_rest.sl.r_57
    simp only [er_58]; rfl
  have er_68 : run_rest.sl.r_68 c arg2 arg3 arg4 arg9 f0 f1 f2 f7 = aS (View.ld (View.read (Elt F) arg9.view f7) rB) (qM (View.read (Elt F) arg2.view f0) 1) (View.read (Elt F) arg3.view f1) (View.read (Elt F) arg4.view f2) 8 := by
    delta run_rest.sl.r_68 run_rest.sl.r_57
    simp only [ev474, er_61, er_58]; rfl
  have er_70 : run_rest.sl.r_70 c arg2 arg3 arg9 f0 f1 f7 = mS (View.ld (View.read (Elt F) arg9.view f7) rA) (qM (View.read (Elt F) arg2.view f0) 0) (View.read (Elt F) arg3.view f1) 9 := by
    delta run_rest.sl.r_70 run_rest.sl.r_62
    simp only [er_63]; rfl
  have er_71 : run_rest.sl.r_71 c arg2 arg3 arg4 arg9 f0 f1 f2 f7 = aS (View.ld (View.read (Elt F) arg9.view f7) rA) (qM (View.read (Elt F) arg2.view f0) 0) (View.read (Elt F) arg3.view f1) (View.read (Elt F) arg4.view f2) 9 := by
    delta run_rest.sl.r_71 run_rest.sl.r_62
    simp only [ev497, er_64, er_63]; rfl
  have er_73 : run_rest.sl.r_73 c arg2 arg3 arg9 f0 f1 f7 = mS (View.ld (View.read (Elt F) arg9.view f7) rB) (qM (View.read (Elt F) arg2.view f0) 1) (View.read (Elt F) arg3.view f1) 9 := by
    delta run_rest.sl.r_73 run_rest.sl.r_66 run_rest.sl.r_65
    simp only [er_67]; rfl
  have er_74 : run_rest.sl.r_74 c arg2 arg3 arg4 arg9 f0 f1 f2 f7 = aS (View.ld (View.read (Elt F) arg9.view f7) rB) (qM (View.read (Elt F) arg2.view f0) 1) (View.read (Elt F) arg3.view f1) (View.read (Elt F) arg4.view f2) 9 := by
    delta run_rest.sl.r_74 run_rest.sl.r_66 run_rest.sl.r_65
    simp only [ev520, er_68, er_67]; rfl
  have er_76 : run_rest.sl.r_76 c arg2 arg3 arg9 f0 f1 f7 = mS (View.ld (View.read (Elt F) arg9.view f7) rA) (qM (View.read (Elt F) arg2.view f0) 0) (View.read (Elt F) arg3.view f1) 10 := by
    delta run_rest.sl.r_76 run_rest.sl.r_69
    simp only [er_70]; rfl
  have er_79 : run_rest.sl.r_79 c arg2 arg3 arg4 arg9 f0 f1 f2 f7 = aS (View.ld (View.read (Elt F) arg9.view f7) rA) (qM (View.read (Elt F) arg2.view f0) 0) (View.read (Elt F) arg3.view f1) (View.read (Elt F) arg4.view f2) 10 := by
    delta run_rest.sl.r_79 run_rest.sl.r_78 run_rest.sl.r_77 run_rest.sl.r_69
    simp only [er_76, ev543, er_71, er_70]; rfl
  have er_81 : run_rest.sl.r_81 c arg2 arg3 arg9 f0 f1 f7 = mS (View.ld (View.read (Elt F) arg9.view f7) rB) (qM (View.read (Elt F) arg2.view f0) 1) (View.read (Elt F) arg3.view f1) 10 := by
    delta run_rest.sl.r_81 run_rest.sl.r_72
    simp only [er_73]; rfl
  have er_82 : run_rest.sl.r_82 c arg2 arg3 arg4 arg9 f0 f1 f2 f7 = aS (View.ld (View.read (Elt F) arg9.view f7) rB) (qM (View.read (Elt F) arg2.view f0) 1) (View.read (Elt F) arg3.view f1) (View.read (Elt F) arg4.view f2) 10 := by
    delta run_rest.sl.r_82 run_rest.sl.r_72
    simp only [er_73, er_74, ev566]; rfl
  have er_85 : run_rest.sl.r_85 c arg2 arg3 arg9 f0 f1 f7 = mS (View.ld (View.read (Elt F) arg9.view f7) rA) (qM (View.read (Elt F) arg2.view f0) 0) (View.read (Elt F) arg3.view f1) 11 := by
    delta run_rest.sl.r_85 run_rest.sl.r_75
    simp only [er_76]; rfl
  have er_86 : run_rest.sl.r_86 c arg2 arg3 arg4 arg9 f0 f1 f2 f7 = aS (View.ld (View.read (Elt F) arg9.view f7) rA) (qM (View.read (Elt F) arg2.view f0) 0) (View.read (Elt F) arg3.view f1) (View.read (Elt F) arg4.view f2) 11 := by
    delta run_rest.sl.r_86 run_rest.sl.r_75
    simp only [er_79, ev589, er_76]; rfl
  have er_88 : run_rest.sl.r_88 c arg2 arg3 arg9 f0 f1 f7 = mS (View.ld (View.read (Elt F) arg9.view f7) rB) (qM (View.read (Elt F) arg2.view f0) 1) (View.read (Elt F) arg3.view f1) 11 := by
    delta run_rest.sl.r_88 run_rest.sl.r_80
    simp only [er_81]; rfl
  have er_92 : run_rest.sl.r_92 c arg2 arg3 arg4 arg9 f0 f1 f2 f7 = aS (View.ld (View.read (Elt F) arg9.view f7) rB) (qM (View.read (Elt F) arg2.view f0) 1) (View.read (Elt F) arg3.view f1) (View.read (Elt F) arg4.view f2) 11 := by
    delta run_rest.sl.r_92 run_rest.sl.r_91 run_rest.sl.r_90 run_rest.sl.r_89 run_rest.sl.r_80
    simp only [er_81, er_82, ev612]; rfl
  have er_93 : run_rest.sl.r_93 c arg2 arg3 arg4 arg5 arg9 f0 f1 f2 f3 f7 = aS (View.ld (View.read (Elt F) arg9.view f7) rA) (qM (View.read (Elt F) arg2.view f0) 0) (View.read (Elt F) arg3.view f1) (View.read (Elt F) arg4.view f2) 12 := by
    delta run_rest.sl.r_93 run_rest.sl.r_84 run_rest.sl.r_83
    simp only [ev633, er_85, er_86]; rfl
  have efb : k0_pay164 (run_rest.sl.r_92 c arg2 arg3 arg4 arg9 f0 f1 f2 f7) (run_rest.sl.r_94 c arg2 arg3 arg9 f0 f1 f7) (run_rest.sl.r_95 c arg2 arg3 arg5 arg9 f0 f1 f3) (run_rest.sl.r_96 c arg2 arg3 arg9 f0 f1 f7) (View.readAt (Elt F) arg4.view (Rect.unit (s := S16640x256) ![15360, 0] ![1280, 256] inb_S16640x256_S1280x256_15360_0).toLoadRect f2) = aS (View.ld (View.read (Elt F) arg9.view f7) rB) (qM (View.read (Elt F) arg2.view f0) 1) (View.read (Elt F) arg3.view f1) (View.read (Elt F) arg4.view f2) 12 := by
    delta run_rest.sl.r_96 run_rest.sl.r_95 run_rest.sl.r_94 run_rest.sl.r_87
    simp only [er_88, er_92, ev654]; rfl
  have efin : k0_pay1 (k0_pay164 (run_rest.sl.r_92 c arg2 arg3 arg4 arg9 f0 f1 f2 f7) (run_rest.sl.r_94 c arg2 arg3 arg9 f0 f1 f7) (run_rest.sl.r_95 c arg2 arg3 arg5 arg9 f0 f1 f3) (run_rest.sl.r_96 c arg2 arg3 arg9 f0 f1 f7) (View.readAt (Elt F) arg4.view (Rect.unit (s := S16640x256) ![15360, 0] ![1280, 256] inb_S16640x256_S1280x256_15360_0).toLoadRect f2)) (k0_pay165 (run_rest.sl.r_93 c arg2 arg3 arg4 arg5 arg9 f0 f1 f2 f3 f7)) (k0_pay166 (View.readAt (Elt F) arg6.view (Rect.unit (s := S1x128) ![0, 0] ![1, 128] inb_S1x128_S1x128_0_0).toLoadRect f4)) (k0_pay167 (k0_pay164 (run_rest.sl.r_92 c arg2 arg3 arg4 arg9 f0 f1 f2 f7) (run_rest.sl.r_94 c arg2 arg3 arg9 f0 f1 f7) (run_rest.sl.r_95 c arg2 arg3 arg5 arg9 f0 f1 f3) (run_rest.sl.r_96 c arg2 arg3 arg9 f0 f1 f7) (View.readAt (Elt F) arg4.view (Rect.unit (s := S16640x256) ![15360, 0] ![1280, 256] inb_S16640x256_S1280x256_15360_0).toLoadRect f2))) (View.readAt (Elt F) arg7.view (Rect.unit (s := S1x128) ![0, 0] ![1, 128] inb_S1x128_S1x128_0_0).toLoadRect f5) = outRest (View.ld (View.read (Elt F) arg9.view f7) rA) (View.ld (View.read (Elt F) arg9.view f7) rB) (View.read (Elt F) arg2.view f0) (View.read (Elt F) arg3.view f1) (View.read (Elt F) arg4.view f2) (View.read (Elt F) arg6.view f4) (View.read (Elt F) arg7.view f5) := by
    rw [efb, er_93]; rfl
  have ecar : Carried (View.read (Elt F) arg5.view f3) (View.read (Elt F) arg3.view f1) (View.read (Elt F) arg9.view (arg9.view.writes (Elt F) f7 (run_rest.sl.H7_26 c arg2 arg3 arg5 f0 f1 f3))) :=
    ⟨(ld_writes_skip _ _ _ _ _ _ rfl).trans (ld_writes_hit _ _ _ _ _), ld_writes_hit _ _ _ _ _⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_out _)).trans ((canon_out _).trans ?_)
    exact efin
  iexists _; isplitr
  swap
  · iexists _; isplitr
    swap; · iexact H7
    ipureintro; rfl
  ipureintro
  exact ecar

end Cert.Diff
-- ==== Proof.DiffLaunch.lean ====
/- The differential attention call: what each point finds and leaves, and the run of the program. -/
module

public import proofs.«01_k».proof.Proof.DiffRun
public import Idealize.ShloMosaic.Lib.Pipeline.ValueKit

@[expose] public section

set_option maxRecDepth 16384

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem idx : ∀ t : Fin grid0.N, win0_0.index t = ![t.val % 65, t.val / 65] ∧ win0_1.index t = ![0, t.val / 65] ∧ win0_2.index t = ![0, t.val / 65]
    ∧ win0_3.index t = ![min (t.val % 65 + 1) 64, t.val / 65] ∧ win0_4.index t = ![0, 0] ∧ win0_5.index t = ![0, 0] ∧ win0_6.index t = ![t.val % 65, t.val / 65] := by decide +kernel

/-- The body takes its first branch exactly at the first query block of a pair. -/
theorem branch : ∀ t : Fin grid0.N, (Scalar.cmpi .ne (Scalar.extui (Scalar.cmpi .eq (BitVec.ofNat 32 (grid0.coords t 1).val) 0#32)) 0#32 = 1#1) ↔ t.val % 65 = 0 := by
  decide +kernel

/-- The next point's query block is the one this point looks ahead to. -/
theorem iblk_ahead (c : Dev nD) (t t' : Fin cfg0.N) (h : t'.val = t.val + 1) (h' : t'.val % 65 ≠ 0) : (iblk m c 0 t' : Vec F S256x128 .bf16) = iblk m c 3 t := by
  funext y
  have e : ((win0_0.blk t').view.emb y) = ((win0_3.blk t).view.emb y) := by
    funext a
    refine Fin.ext (((Pipeline.Window.rect_emb_val_off win0_0 t' y a).trans ?_).trans (Pipeline.Window.rect_emb_val_off win0_3 t y a).symm)
    rw [(idx t').1, (idx t).2.2.2.1, show t'.val % 65 = min (t.val % 65 + 1) 64 by omega, show t'.val / 65 = t.val / 65 by omega]
  show V m c main_v5 ((win0_0.blk t').view.emb y) = V m c main_v5 ((win0_3.blk t).view.emb y)
  rw [e]

/-- The keys stay in place along a pair's query blocks. -/
theorem iblk_keys (c : Dev nD) (t t' : Fin cfg0.N) (h : t'.val = t.val + 1) (h' : t'.val % 65 ≠ 0) : (iblk m c 1 t' : Vec F S16640x128 .bf16) = iblk m c 1 t := by
  funext y
  have e : ((win0_1.blk t').view.emb y) = ((win0_1.blk t).view.emb y) := by
    funext a
    refine Fin.ext (((Pipeline.Window.rect_emb_val_off win0_1 t' y a).trans ?_).trans (Pipeline.Window.rect_emb_val_off win0_1 t y a).symm)
    rw [(idx t').2.1, (idx t).2.1, show t'.val / 65 = t.val / 65 by omega]
  show V m c main_v7 ((win0_1.blk t').view.emb y) = V m c main_v7 ((win0_1.blk t).view.emb y)
  rw [e]

/-- A query block's first scores, one map. -/
def firstScores (x0 : Vec F S256x128 .bf16) (x1 : Vec F S16640x128 .bf16) (h : ℕ) : Vec F S1x256x1280 .f32 :=
  k0_pay2 (qM x0 h) (kblk x1 0)

/-- What point `t` leaves in the output's buffer. -/
def outAt (c : Dev nD) (t : Fin cfg0.N) : Vec F S256x128 .f32 :=
  if t.val % 65 = 0 then outFirst (iblk m c 0 t) (iblk m c 1 t) (iblk m c 2 t) (iblk m c 4 t) (iblk m c 5 t)
  else outRest (firstScores (iblk m c 0 t) (iblk m c 1 t) 0) (firstScores (iblk m c 0 t) (iblk m c 1 t) 1) (iblk m c 0 t) (iblk m c 1 t) (iblk m c 2 t)
    (iblk m c 4 t) (iblk m c 5 t)

/-- Before point `k`, unless a pair begins there, the slots hold its query block's first scores. -/
def Ready (c : Dev nD) (k : ℕ) (S : Vec F S6x256x1280 .f32) : Prop :=
  ∀ t : Fin cfg0.N, t.val = k → t.val % 65 ≠ 0 → Carried (iblk m c 0 t) (iblk m c 1 t) S

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ k := iprop((∃ S, ⌜Ready m c k.val S⌝ ∗ owns (c : Thread nD τ) (Memref.whole cc0_scratch0) fullShare S) ∗ ∃ r, prngReg c r)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem Ready.step (c : Dev nD) (t : Fin cfg0.N) (S : Vec F S6x256x1280 .f32) (h : Carried (iblk m c 3 t) (iblk m c 1 t) S) : Ready m c t.succ.val S := by
  intro t' ht' h'
  rw [iblk_ahead m c t t' ht' h', iblk_keys m c t t' ht' h']
  exact h

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, after0_0, after0_1, after0_2, after0_3, after0_4, after0_5, after0_6]
  rw [show (dats m 0 c).Φ t.castSucc = iprop((∃ S, ⌜Ready m c t.val S⌝ ∗ owns (c : Thread nD τ) (Memref.whole cc0_scratch0) fullShare S) ∗ ∃ r, prngReg c r) from rfl,
    show (dats m 0 c).Φ t.succ = iprop((∃ S, ⌜Ready m c t.succ.val S⌝ ∗ owns (c : Thread nD τ) (Memref.whole cc0_scratch0) fullShare S) ∗ ∃ r, prngReg c r) from rfl]
  iintro ⟨⟨⟨%S, %hS, HS⟩, Hr⟩, Ho, ⟨%d0, H0⟩, ⟨%d1, H1⟩, ⟨%d2, H2⟩, ⟨%d3, H3⟩, ⟨%d4, H4⟩, ⟨%d5, H5⟩, ⟨%d6, H6⟩⟩
  by_cases ht : t.val % 65 = 0
  · rw [show outAt m c t = outFirst (iblk m c 0 t) (iblk m c 1 t) (iblk m c 2 t) (iblk m c 4 t) (iblk m c 5 t) from if_pos ht]
    iapply (run_first c Set.univ (grid0.coords t) _ _ _ _ _ _ _ _ _ _ _ _ _ _ _ _ ((branch t).mpr ht) (iblk m c 0 t) (iblk m c 1 t) (iblk m c 2 t) (iblk m c 3 t) (iblk m c 4 t) (iblk m c 5 t) S _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, ⟨%S', %hS', HS⟩⟩
    isplitl [HS Hr]
    · isplitl [HS]
      · iexists S'; isplitr
        · ipureintro; exact Ready.step m c t S' hS'
        iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show outAt m c t = outRest (View.ld S rA) (View.ld S rB) (iblk m c 0 t) (iblk m c 1 t) (iblk m c 2 t) (iblk m c 4 t) (iblk m c 5 t) from by
      rw [(hS t rfl ht).1, (hS t rfl ht).2]; exact if_neg ht]
    iapply (run_rest c Set.univ (grid0.coords t) _ _ _ _ _ _ _ _ _ _ _ _ _ _ _ _ (fun h => ht ((branch t).mp h)) (iblk m c 0 t) (iblk m c 1 t) (iblk m c 2 t) (iblk m c 3 t) (iblk m c 4 t) (iblk m c 5 t) S _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, ⟨%S', %hS', HS⟩⟩
    isplitl [HS Hr]
    · isplitl [HS]
      · iexists S'; isplitr
        · ipureintro; exact Ready.step m c t S' hS'
        iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem ready_zero (c : Dev nD) (S : Vec F S6x256x1280 .f32) : Ready m c 0 S := by
  intro t ht h; rw [ht] at h; exact absurd rfl h

omit [FloatOps F] in
/-- Owning the whole scratch is its region at the contents. -/
theorem scratch_owned (c : Dev nD) (X : Vec F S6x256x1280 .f32) :
    (owns (c : Thread nD τ) (Memref.whole cc0_scratch0) fullShare X : sProp 𝕄)
      = iprop(∃ f : Buf (Elt F) ((c : Thread nD τ).loc cc0_scratch0), ⌜f = X⌝ ∗ (((c : Thread nD τ).loc cc0_scratch0) ↦{fullShare} f)) := by
  unfold owns; simp only [Memref.view_whole, View.read_whole, View.set_whole]

theorem phi_in (c : Dev nD) : Pipeline.ΦA spec0 c ⊢ (dats (F := F) m 0 c).Φ 0 := by
  rw [show (dats m 0 c).Φ 0 = iprop((∃ S, ⌜Ready m c 0 S⌝ ∗ owns (c : Thread nD τ) (Memref.whole cc0_scratch0) fullShare S) ∗ ∃ r, prngReg c r) from rfl]
  unfold Pipeline.ΦA
  rw [scopedRest0_eq]
  simp only [scratch_owned]
  iintro ⟨⟨%f, H⟩, Hr⟩
  isplitl [H]
  · iexists f; isplitr
    · ipureintro; exact ready_zero m c f
    iexists f; isplitr
    · ipureintro; rfl
    iexact H
  iexact Hr

theorem phi_out (c : Dev nD) : (dats (F := F) m 0 c).Φ (Fin.last cfg0.N) ⊢ Pipeline.ΦA spec0 c := by
  rw [show (dats m 0 c).Φ (Fin.last cfg0.N) = iprop((∃ S, ⌜Ready m c cfg0.N S⌝ ∗ owns (c : Thread nD τ) (Memref.whole cc0_scratch0) fullShare S) ∗ ∃ r, prngReg c r) from rfl]
  unfold Pipeline.ΦA
  rw [scopedRest0_eq]
  simp only [scratch_owned]
  iintro ⟨⟨%S, -, ⟨%f, -, H⟩⟩, Hr⟩
  isplitl [H]
  · iexists f; iexact H
  iexact Hr

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.Diff
-- ==== Proof.DiffKernel.lean ====
/- The differential attention kernel's block, read at a row and a lane. -/
module

public import proofs.«01_k».proof.Proof.DiffModel
public import proofs.«01_k».proof.Proof.DiffLaunch

@[expose] public section

set_option maxRecDepth 16384

noncomputable section

namespace Cert.Diff

open Idealize.ShloMosaic Cert.Kernel3Ideal Cert.Kernel3Ideal.Gen
open Cert.Attn (weighed weighed_first weighed_step fold_max_real max_real)

theorem neg_inf : Ideal.ofBits .f32 0xFF800000#32 = ⊥ := by
  simp [Ideal.ofBits, Ideal.ieee]

theorem qld_eq (x : Vec Ideal S256x128 .bf16) : qld x = x :=
  funext fun y => congrArg x (funext fun a => Fin.ext (match a with
    | ⟨0, _⟩ => (by show (0 + 1 * (y 0).val) = (y 0).val; omega)
    | ⟨1, _⟩ => (by show (0 + 1 * (y 1).val) = (y 1).val; omega)))

theorem rld_eq (x : Vec Ideal S1x128 .f32) : rld x = x :=
  funext fun y => congrArg x (funext fun a => Fin.ext (match a with
    | ⟨0, _⟩ => (by show (0 + 1 * (y 0).val) = (y 0).val; omega)
    | ⟨1, _⟩ => (by show (0 + 1 * (y 1).val) = (y 1).val; omega)))

theorem lane : ∀ l : Fin 128, IntOp.cmpi CmpIPredicate.slt (BitVec.ofNat 32 l.val) 64#32 = if l.val / 64 = 0 then 1#1 else 0#1 := by decide +kernel

theorem first_at (x : Vec Ideal S256x128 .bf16) (r : Fin 256) (d : Fin 128) : qM x 0 (ix2 r d) = if d.val / 64 = 0 then x (ix2 r d) else 0 := by
  unfold qM
  rw [qld_eq]
  pointwise [k0_pay153, k0_pay151, k0_pay150]
  have e := lane d
  rw [e]
  split <;> rfl

theorem second_at (x : Vec Ideal S256x128 .bf16) (r : Fin 256) (d : Fin 128) : qM x 1 (ix2 r d) = if d.val / 64 = 1 then x (ix2 r d) else 0 := by
  have hd := d.isLt
  unfold qM
  rw [qld_eq]
  pointwise [k0_pay155, k0_pay151, k0_pay150]
  have e := lane d
  rw [e]
  by_cases h : d.val / 64 = 0
  · rw [if_pos h, if_neg (by omega)]; rfl
  · rw [if_neg h, if_pos (by omega)]; rfl

theorem qM_at (x : Vec Ideal S256x128 .bf16) (h : Fin 2) (r : Fin 256) (d : Fin 128) :
    qM x h.val (ix2 r d) = if d.val / 64 = h.val then x (ix2 r d) else 0 :=
  match h with
  | ⟨0, _⟩ => first_at x r d
  | ⟨1, _⟩ => second_at x r d

theorem kblk_at (x : Vec Ideal S16640x128 .bf16) (n : Fin 13) (j : Fin 1280) (d : Fin 128) :
    kblk x n.val (ix2 j d) = x (ix2 ⟨1280 * n.val + j.val, by omega⟩ d) := by
  unfold kblk
  refine congrArg x (funext fun a => Fin.ext ?_)
  have hn := Nat.mod_eq_of_lt n.isLt
  match a with
  | ⟨0, _⟩ =>
    show 1280 * (n.val % 13) + 1 * j.val = 1280 * n.val + j.val
    omega
  | ⟨1, _⟩ =>
    show 0 + 1 * d.val = d.val
    omega

theorem vblk_at (x : Vec Ideal S16640x256 .bf16) (n : Fin 13) (j : Fin 1280) (d : Fin 256) :
    vblk x n.val (ix2 j d) = x (ix2 ⟨1280 * n.val + j.val, by omega⟩ d) := by
  unfold vblk
  refine congrArg x (funext fun a => Fin.ext ?_)
  have hn := Nat.mod_eq_of_lt n.isLt
  match a with
  | ⟨0, _⟩ =>
    show 1280 * (n.val % 13) + 1 * j.val = 1280 * n.val + j.val
    omega
  | ⟨1, _⟩ =>
    show 0 + 1 * d.val = d.val
    omega

theorem kctx_at (x : Vec Ideal S16640x128 .bf16) (j : Fin 256) (d : Fin 128) : kctx x (ix2 j d) = x (ix2 ⟨j.val, by omega⟩ d) := by
  unfold kctx
  refine congrArg x (funext fun a => Fin.ext ?_)
  match a with
  | ⟨0, _⟩ =>
    show 0 + 1 * j.val = j.val
    omega
  | ⟨1, _⟩ =>
    show 0 + 1 * d.val = d.val
    omega

theorem vctx_at (x : Vec Ideal S16640x256 .bf16) (j : Fin 256) (d : Fin 256) : vctx x (ix2 j d) = x (ix2 ⟨j.val, by omega⟩ d) := by
  unfold vctx
  refine congrArg x (funext fun a => Fin.ext ?_)
  match a with
  | ⟨0, _⟩ =>
    show 0 + 1 * j.val = j.val
    omega
  | ⟨1, _⟩ =>
    show 0 + 1 * d.val = d.val
    omega

theorem pay2_at (q : FVec Ideal S256x128 .bf16) (k : Vec Ideal S1280x128 .bf16) (r : Fin 256) (j : Fin 1280) :
    k0_pay2 q k (ix3 0 r j) = ∑ d : Fin 128, q (ix2 r d) * k (ix2 j d) := by
  pointwise [k0_pay2]

theorem pay8_at (q : FVec Ideal S256x128 .bf16) (k : Vec Ideal S1280x128 .bf16) (r : Fin 256) (o : Fin 1) :
    k0_pay8 q k (ix2 r o) = (Finset.univ : Finset (Fin 1280)).fold max ⊥ (fun j => ∑ d : Fin 128, q (ix2 r d) * k (ix2 j d)) := by
  pointwise [k0_pay8, k0_pay6]
  rw [neg_inf]

theorem pay9_at (s : FVec Ideal S1x256x1280 .f32) (r : Fin 256) (o : Fin 1) :
    k0_pay9 k0_pay157 s (ix2 r o) = max ⊥ ((Finset.univ : Finset (Fin 1280)).fold max ⊥ (fun j => s (ix3 0 r j))) := by
  pointwise [k0_pay9, k0_pay157]
  rw [neg_inf]

theorem pay10_at (s : FVec Ideal S1x256x1280 .f32) (v : Vec Ideal S1280x256 .bf16) (r : Fin 256) (l : Fin 256) :
    k0_pay10 k0_pay157 k0_pay158 s s v (ix2 r l)
      = Ideal.exp2 (⊥ - k0_pay9 (F := Ideal) k0_pay157 s (ix2 r 0)) * 0
        + ∑ j : Fin 1280, Ideal.exp2 (s (ix3 0 r j) - k0_pay9 (F := Ideal) k0_pay157 s (ix2 r 0)) * v (ix2 j l) := by
  pointwise [k0_pay10, k0_pay157, k0_pay158]
  simp only [neg_inf]; rfl

theorem pay28_at (b m : FVec Ideal S256x1 .f32) (acc : FVec Ideal S256x256 .f32) (s : FVec Ideal S1x256x1280 .f32) (v : Vec Ideal S1280x256 .bf16)
    (r : Fin 256) (l : Fin 256) :
    k0_pay28 b m acc s v (ix2 r l)
      = Ideal.exp2 (m (ix2 r 0) - k0_pay27 b m (ix2 r 0)) * acc (ix2 r l)
        + ∑ j : Fin 1280, Ideal.exp2 (s (ix3 0 r j) - k0_pay27 b m (ix2 r 0)) * v (ix2 j l) := by
  pointwise [k0_pay28]
  rfl

theorem pay3_at (q k : FVec Ideal S256x128 .bf16) (r : Fin 256) (j : Fin 256) :
    k0_pay3 q k (ix3 0 r j) = ∑ d : Fin 128, q (ix2 r d) * k (ix2 j d) := by
  pointwise [k0_pay3]

/-- The context's row maxima. -/
def topCtx (s : FVec Ideal S1x256x256 .f32) (r : Fin 256) : EReal := max ⊥ ((Finset.univ : Finset (Fin 256)).fold max ⊥ (fun j => s (ix3 0 r j)))

theorem pay4_at (s : FVec Ideal S1x256x256 .f32) (v : Vec Ideal S256x256 .bf16) (r : Fin 256) (l : Fin 256) :
    k0_pay4 k0_pay157 k0_pay158 s s v (ix2 r l)
      = Ideal.exp2 (⊥ - topCtx s r) * 0 + ∑ j : Fin 256, Ideal.exp2 (s (ix3 0 r j) - topCtx s r) * v (ix2 j l) := by
  unfold topCtx
  pointwise [k0_pay4, k0_pay157, k0_pay158]
  simp only [neg_inf]; rfl

theorem combine_at (a b : FVec Ideal S256x256 .f32) (x4 x5 : Vec Ideal S1x128 .f32) (r : Fin 256) (l : Fin 128) :
    combine a b x4 x5 (ix2 r l) = normed (fun j => Ideal.div (a (ix2 r ⟨j.val, by omega⟩)) (a (ix2 r 128))
      - x4 (ix2 0 j) * Ideal.div (b (ix2 r ⟨j.val, by omega⟩)) (b (ix2 r 128))) (x5 (ix2 0 l)) l := by
  unfold combine normed
  rw [rld_eq, rld_eq]
  pointwise [k0_pay1, k0_pay165, k0_pay166, k0_pay167]

/-- An array's row by its number. -/
def rowK (x : Vec Ideal S16640x128 .bf16) (k : ℕ) (l : Fin 128) : EReal := x (ix2 (Fin.ofNat 16640 k) l)
def rowV (x : Vec Ideal S16640x256 .bf16) (k : ℕ) (l : Fin 256) : EReal := x (ix2 (Fin.ofNat 16640 k) l)

theorem rowK_eq (x : Vec Ideal S16640x128 .bf16) (k : ℕ) (hk : k < 16640) (l : Fin 128) : x (ix2 ⟨k, hk⟩ l) = rowK x k l := by
  unfold rowK
  congr 2
  exact Fin.ext (Nat.mod_eq_of_lt hk).symm

theorem rowV_eq (x : Vec Ideal S16640x256 .bf16) (k : ℕ) (hk : k < 16640) (l : Fin 256) : x (ix2 ⟨k, hk⟩ l) = rowV x k l := by
  unfold rowV
  congr 2
  exact Fin.ext (Nat.mod_eq_of_lt hk).symm

/-- The scores of a row, in one map, are the reals `s`. -/
def Scores (x0 : Vec Ideal S256x128 .bf16) (x1 : Vec Ideal S16640x128 .bf16) (h : Fin 2) (r : Fin 256) (s : ℕ → ℝ) (N : ℕ) : Prop :=
  ∀ k < N, ∑ d : Fin 128, qM x0 h.val (ix2 r d) * rowK x1 k d = (s k : EReal)

section Row

variable (x0 : Vec Ideal S256x128 .bf16) (x1 : Vec Ideal S16640x128 .bf16) (x2 : Vec Ideal S16640x256 .bf16) (h : Fin 2) (r : Fin 256) (s : ℕ → ℝ)

theorem product_at (hs : Scores x0 x1 h r s 16640) (n : ℕ) (hn : n < 13) (j : Fin 1280) :
    ∑ d : Fin 128, qM x0 h.val (ix2 r d) * kblk x1 n (ix2 j d) = (s (1280 * n + j.val) : EReal) := by
  rw [← hs (1280 * n + j.val) (by omega)]
  refine Finset.sum_congr rfl fun d _ => ?_
  rw [kblk_at x1 ⟨n, hn⟩, rowK_eq x1]

theorem score_at (hs : Scores x0 x1 h r s 16640) (n : ℕ) (hn : n < 13) (j : Fin 1280) :
    k0_pay2 (qM x0 h.val) (kblk x1 n) (ix3 0 r j) = (s (1280 * n + j.val) : EReal) := by
  rw [pay2_at, product_at x0 x1 h r s hs n hn j]

theorem value_at (n : ℕ) (hn : n < 13) (j : Fin 1280) (l : Fin 256) : vblk x2 n (ix2 j l) = rowV x2 (1280 * n + j.val) l := by
  rw [vblk_at x2 ⟨n, hn⟩, rowV_eq x2]

/-- After chunk `n` the sums hold every key so far. -/
theorem chunks (hs : Scores x0 x1 h r s 16640) (n : ℕ) (hn : n < 13) :
    ∃ μ : ℝ, mS (firstScores x0 x1 h.val) (qM x0 h.val) x1 n (ix2 r 0) = (μ : EReal)
      ∧ ∀ l : Fin 256, aS (firstScores x0 x1 h.val) (qM x0 h.val) x1 x2 n (ix2 r l)
          = weighed s (fun k => rowV x2 k l) μ (1280 * (n + 1)) := by
  induction n with
  | zero =>
    have hm : ∃ μ : ℝ, k0_pay9 k0_pay157 (firstScores x0 x1 h.val) (ix2 r 0) = (μ : EReal) := by
      unfold firstScores
      rw [pay9_at, max_eq_right bot_le]
      exact fold_max_real (by norm_num) _ fun j => ⟨_, score_at x0 x1 h r s hs 0 hn j⟩
    obtain ⟨μ, hμ⟩ := hm
    refine ⟨μ, hμ, fun l => ?_⟩
    show k0_pay10 k0_pay157 k0_pay158 (firstScores x0 x1 h.val) (firstScores x0 x1 h.val) (vblk x2 0) (ix2 r l) = _
    rw [pay10_at, hμ, ← weighed_first s _ μ (1280 * (0 + 1)) (Ideal.exp2 (⊥ - (μ : EReal)))]
    refine congrArg (_ + ·) (Finset.sum_congr rfl fun j _ => ?_)
    unfold firstScores
    rw [score_at x0 x1 h r s hs 0 hn j, value_at x2 0 hn j l, Nat.mul_zero, Nat.zero_add]
  | succ n ih =>
    obtain ⟨μ, hμ, hA⟩ := ih (by omega)
    have hm : ∃ μ' : ℝ, mS (firstScores x0 x1 h.val) (qM x0 h.val) x1 (n + 1) (ix2 r 0) = (μ' : EReal) := by
      obtain ⟨b, hb⟩ : ∃ b : ℝ, (k0_pay8 (F := Ideal) (qM x0 h.val) (kblk x1 (n + 1)) (ix2 r 0)) = (b : EReal) := by
        rw [pay8_at]
        exact fold_max_real (by norm_num) _ fun j => ⟨_, product_at x0 x1 h r s hs (n + 1) hn j⟩
      obtain ⟨μ', hμ'⟩ := max_real ⟨μ, rfl⟩ ⟨b, rfl⟩
      exact ⟨μ', (congrArg₂ max hμ hb).trans hμ'⟩
    obtain ⟨μ', hμ'⟩ := hm
    refine ⟨μ', hμ', fun l => ?_⟩
    show k0_pay28 (k0_pay8 (qM x0 h.val) (kblk x1 (n + 1))) (mS (firstScores x0 x1 h.val) (qM x0 h.val) x1 n) (aS (firstScores x0 x1 h.val) (qM x0 h.val) x1 x2 n)
      (k0_pay2 (qM x0 h.val) (kblk x1 (n + 1))) (vblk x2 (n + 1)) (ix2 r l) = _
    have hj : ∀ j : Fin 1280, Ideal.exp2 (k0_pay2 (qM x0 h.val) (kblk x1 (n + 1)) (ix3 0 r j) - (μ' : EReal)) * vblk x2 (n + 1) (ix2 j l)
        = Ideal.exp2 ((s (1280 * (n + 1) + j.val) : EReal) - (μ' : EReal)) * rowV x2 (1280 * (n + 1) + j.val) l := fun j => by
      rw [score_at x0 x1 h r s hs (n + 1) hn j, value_at x2 (n + 1) hn j l]
    have hμ'' : k0_pay27 (k0_pay8 (qM x0 h.val) (kblk x1 (n + 1))) (mS (firstScores x0 x1 h.val) (qM x0 h.val) x1 n) (ix2 r 0) = (μ' : EReal) := hμ'
    rw [pay28_at, hμ, hμ'', hA l, Finset.sum_congr rfl fun j _ => hj j, weighed_step s (fun k => rowV x2 k l) μ μ' (1280 * (n + 1)) 1280]
    rfl

/-- The context rows' sums, in one chunk. -/
theorem context (hs : Scores x0 x1 h r s 256) :
    ∃ μ : ℝ, ∀ l : Fin 256, aFirst x0 x1 x2 h.val (ix2 r l) = weighed s (fun k => rowV x2 k l) μ 256 := by
  have hk : ∀ j : Fin 256, k0_pay3 (qM x0 h.val) (kctx x1) (ix3 0 r j) = (s j.val : EReal) := fun j => by
    rw [pay3_at, ← hs j.val j.isLt]
    refine Finset.sum_congr rfl fun d _ => ?_
    rw [kctx_at, rowK_eq x1]
  have hm : ∃ μ : ℝ, topCtx (k0_pay3 (qM x0 h.val) (kctx x1)) r = (μ : EReal) := by
    unfold topCtx
    rw [max_eq_right bot_le]
    exact fold_max_real (by norm_num) _ fun j => ⟨_, hk j⟩
  obtain ⟨μ, hμ⟩ := hm
  refine ⟨μ, fun l => ?_⟩
  unfold aFirst
  rw [pay4_at, hμ, ← weighed_first s _ μ 256 (Ideal.exp2 (⊥ - (μ : EReal)))]
  refine congrArg (_ + ·) (Finset.sum_congr rfl fun j _ => ?_)
  rw [hk j, vctx_at, rowV_eq x2]

end Row

end Cert.Diff

end
-- ==== Proof.DiffHost.lean ====
/- The differential attention kernel's operands, read at an index. -/
module

public import proofs.«01_k».proof.Proof.DiffKernel
public import Idealize.ShloMosaic.Lib.StableHlo.ReadAt
public import Idealize.ShloMosaic.Lib.Pipeline.ValueKit

@[expose] public section

set_option maxRecDepth 16384

noncomputable section

namespace Cert.Diff

open Idealize.ShloMosaic Idealize.ShloMosaic.TcCoe Idealize.ShloMosaic.Tactic
open Idealize.ShloMosaic.Pipeline (Dat Cfg Window)
open Cert.Kernel3Ideal Cert.Kernel3Ideal.Gen

variable (m : (ℓ : Loc nD τ sig) → Buf (Elt Ideal) ℓ)

/-- The argument arrays: queries, keys, values, lambda, gain. -/
def argQ (c : Dev nD) : S16640x4x2x64.Idx → EReal := m ((c : Thread nD τ).loc main_arg0)
def argK (c : Dev nD) : S16640x4x2x64.Idx → EReal := m ((c : Thread nD τ).loc main_arg1)
def argV (c : Dev nD) : S16640x4x128.Idx → EReal := m ((c : Thread nD τ).loc main_arg2)
def argL (c : Dev nD) : S_.Idx → EReal := m ((c : Thread nD τ).loc main_arg3)
def argG (c : Dev nD) : S128.Idx → EReal := m ((c : Thread nD τ).loc main_arg4)

theorem query_at (c : Dev nD) (R : Fin 16640) (C : Fin 512) (H : Fin 4) (M : Fin 2) (d : Fin 64) (hC : C.val = 128 * H.val + 64 * M.val + d.val) :
    V m c main_v5 (ix2 R C) = argQ m c (ix4 R H M d)
        * Ideal.div (Ideal.ofBits .f32 0x3E000000#32) (Ideal.log (Ideal.ofBits .f32 0x40000000#32)) := by
  unfold V
  simp only [hostOps0, List.flatten_cons, List.flatten_nil, List.append_nil, List.cons_append, List.nil_append]
  after_reads_at
  refine congrArg (· * _) (congrArg (argQ m c) ?_)
  funext a
  match a with
  | ⟨0, _⟩ => rfl
  | ⟨1, _⟩ => exact Fin.ext (by show C.val / 128 = H.val; omega)
  | ⟨2, _⟩ => exact Fin.ext (by show C.val / 64 % 2 = M.val; omega)
  | ⟨3, _⟩ => exact Fin.ext (by show C.val % 64 = d.val; omega)

theorem key_at (c : Dev nD) (R : Fin 16640) (C : Fin 512) (H : Fin 4) (M : Fin 2) (d : Fin 64) (hC : C.val = 128 * H.val + 64 * M.val + d.val) :
    V m c main_v7 (ix2 R C) = argK m c (ix4 R H M d) := by
  unfold V
  simp only [hostOps0, List.flatten_cons, List.flatten_nil, List.append_nil, List.cons_append, List.nil_append]
  after_reads_at
  refine congrArg (argK m c) ?_
  funext a
  match a with
  | ⟨0, _⟩ => rfl
  | ⟨1, _⟩ => exact Fin.ext (by show C.val / 128 = H.val; omega)
  | ⟨2, _⟩ => exact Fin.ext (by show C.val / 64 % 2 = M.val; omega)
  | ⟨3, _⟩ => exact Fin.ext (by show C.val % 64 = d.val; omega)

theorem value_at_lane (c : Dev nD) (R : Fin 16640) (C : Fin 1024) (H : Fin 4) (j : Fin 128) (hC : C.val = 256 * H.val + j.val) :
    V m c main_v11 (ix2 R C) = argV m c (ix3 R H j) := by
  unfold V
  simp only [hostOps0, List.flatten_cons, List.flatten_nil, List.append_nil, List.cons_append, List.nil_append]
  after_reads_at
  rw [dif_pos (by omega)]
  refine congrArg (argV m c) ?_
  funext a
  match a with
  | ⟨0, _⟩ => rfl
  | ⟨1, _⟩ => exact Fin.ext (by show C.val / 256 = H.val; omega)
  | ⟨2, _⟩ => exact Fin.ext (by show C.val % 256 = j.val; omega)

theorem ones_at_lane (c : Dev nD) (R : Fin 16640) (C : Fin 1024) (h : 128 ≤ C.val % 256) : V m c main_v11 (ix2 R C) = (1 : EReal) := by
  unfold V
  simp only [hostOps0, List.flatten_cons, List.flatten_nil, List.append_nil, List.cons_append, List.nil_append]
  after_reads_at
  rw [dif_neg (by omega)]
  after_reads_at

theorem lambda_at (c : Dev nD) (j : Fin 128) : V m c main_v12 (ix2 0 j) = argL m c (fun a => a.elim0) := by
  unfold V
  simp only [hostOps0, List.flatten_cons, List.flatten_nil, List.append_nil, List.cons_append, List.nil_append]
  after_reads_at
  exact congrArg (argL m c) (funext fun a => a.elim0)

theorem gain_at (c : Dev nD) (j : Fin 128) : V m c main_v13 (ix2 0 j) = argG m c (ix1 j) := by
  unfold V
  simp only [hostOps0, List.flatten_cons, List.flatten_nil, List.append_nil, List.cons_append, List.nil_append]
  after_reads_at
  rfl

end Cert.Diff

end
-- ==== Proof.DiffArray.lean ====
/- The differential attention kernel's blocks within its arrays. -/
module

public import proofs.«01_k».proof.Proof.DiffHost

@[expose] public section

set_option maxRecDepth 16384

noncomputable section

namespace Cert.Diff

open Idealize.ShloMosaic Idealize.ShloMosaic.TcCoe Idealize.ShloMosaic.Tactic
open Idealize.ShloMosaic.Pipeline (Dat Cfg Window)
open Cert.Kernel3Ideal Cert.Kernel3Ideal.Gen

variable (m : (ℓ : Loc nD τ sig) → Buf (Elt Ideal) ℓ)

theorem lt_grid (t : Fin cfg0.N) : t.val < 260 := t.isLt

theorem blk0_at (c : Dev nD) (t : Fin cfg0.N) (r : Fin 256) (l : Fin 128) (R : Fin 16640) (C : Fin 512)
    (hR : R.val = 256 * (t.val % 65) + r.val) (hC : C.val = 128 * (t.val / 65) + l.val) :
    iblk m c 0 t (ix2 r l) = V m c main_v5 (ix2 R C) := by
  have e : ((win0_0.blk t).view.emb (ix2 r l)) = ix2 R C := by
    funext a
    refine Fin.ext ((Pipeline.Window.rect_emb_val_off win0_0 t (ix2 r l) a).trans ?_)
    rw [(idx t).1]
    match a with
    | ⟨0, _⟩ => exact (congrArg (· + r.val) (Nat.mul_comm _ _)).trans hR.symm
    | ⟨1, _⟩ => exact (congrArg (· + l.val) (Nat.mul_comm _ _)).trans hC.symm
  show V m c main_v5 ((win0_0.blk t).view.emb (ix2 r l)) = _
  rw [e]

theorem blk1_at (c : Dev nD) (t : Fin cfg0.N) (k : Fin 16640) (l : Fin 128) (C : Fin 512) (hC : C.val = 128 * (t.val / 65) + l.val) :
    iblk m c 1 t (ix2 k l) = V m c main_v7 (ix2 k C) := by
  have e : ((win0_1.blk t).view.emb (ix2 k l)) = ix2 k C := by
    funext a
    refine Fin.ext ((Pipeline.Window.rect_emb_val_off win0_1 t (ix2 k l) a).trans ?_)
    rw [(idx t).2.1]
    match a with
    | ⟨0, _⟩ => exact (congrArg (· + k.val) (Nat.zero_mul _)).trans (Nat.zero_add _)
    | ⟨1, _⟩ => exact (congrArg (· + l.val) (Nat.mul_comm _ _)).trans hC.symm
  show V m c main_v7 ((win0_1.blk t).view.emb (ix2 k l)) = _
  rw [e]

theorem blk2_at (c : Dev nD) (t : Fin cfg0.N) (k : Fin 16640) (l : Fin 256) (C : Fin 1024) (hC : C.val = 256 * (t.val / 65) + l.val) :
    iblk m c 2 t (ix2 k l) = V m c main_v11 (ix2 k C) := by
  have e : ((win0_2.blk t).view.emb (ix2 k l)) = ix2 k C := by
    funext a
    refine Fin.ext ((Pipeline.Window.rect_emb_val_off win0_2 t (ix2 k l) a).trans ?_)
    rw [(idx t).2.2.1]
    match a with
    | ⟨0, _⟩ => exact (congrArg (· + k.val) (Nat.zero_mul _)).trans (Nat.zero_add _)
    | ⟨1, _⟩ => exact (congrArg (· + l.val) (Nat.mul_comm _ _)).trans hC.symm
  show V m c main_v11 ((win0_2.blk t).view.emb (ix2 k l)) = _
  rw [e]

theorem blk4_at (c : Dev nD) (t : Fin cfg0.N) (j : Fin 128) : iblk m c 4 t (ix2 0 j) = V m c main_v12 (ix2 0 j) := by
  have e : ((win0_4.blk t).view.emb (ix2 0 j)) = ix2 0 j := by
    funext a
    refine Fin.ext ((Pipeline.Window.rect_emb_val_off win0_4 t (ix2 0 j) a).trans ?_)
    rw [(idx t).2.2.2.2.1]
    match a with
    | ⟨0, _⟩ => exact (congrArg (· + 0) (Nat.zero_mul _)).trans (Nat.zero_add _)
    | ⟨1, _⟩ => exact (congrArg (· + j.val) (Nat.zero_mul _)).trans (Nat.zero_add _)
  show V m c main_v12 ((win0_4.blk t).view.emb (ix2 0 j)) = _
  rw [e]

theorem blk5_at (c : Dev nD) (t : Fin cfg0.N) (j : Fin 128) : iblk m c 5 t (ix2 0 j) = V m c main_v13 (ix2 0 j) := by
  have e : ((win0_5.blk t).view.emb (ix2 0 j)) = ix2 0 j := by
    funext a
    refine Fin.ext ((Pipeline.Window.rect_emb_val_off win0_5 t (ix2 0 j) a).trans ?_)
    rw [(idx t).2.2.2.2.2.1]
    match a with
    | ⟨0, _⟩ => exact (congrArg (· + 0) (Nat.zero_mul _)).trans (Nat.zero_add _)
    | ⟨1, _⟩ => exact (congrArg (· + j.val) (Nat.zero_mul _)).trans (Nat.zero_add _)
  show V m c main_v13 ((win0_5.blk t).view.emb (ix2 0 j)) = _
  rw [e]

theorem eighth : Ideal.ofBits .f32 0x3E000000#32 = ((1 / 8 : ℝ) : EReal) := by
  simp [Ideal.ofBits, Ideal.ieee]
  rw [← EReal.coe_mul]
  norm_num

/-- The factor the kernel puts on its queries. -/
theorem factor : Ideal.div (Ideal.ofBits .f32 0x3E000000#32) (Ideal.log (Ideal.ofBits .f32 0x40000000#32)) = ((1 / 8 / Real.log 2 : ℝ) : EReal) := by
  have h2 : Ideal.ofBits .f32 0x40000000#32 = ((2 : ℝ) : EReal) := by
    simp [Ideal.ofBits, Ideal.ieee]
    rw [← EReal.coe_mul]
    norm_num
  have hl : ¬((2 : ℝ) ≤ 0) := by norm_num
  rw [eighth, h2, Ideal.log_coe, if_neg hl, Ideal.div_coe (Real.log_pos (by norm_num)).ne', ← EReal.coe_mul, mul_one_div]

end Cert.Diff

end
-- ==== Proof.DiffBlock.lean ====
/- The differential attention kernel's output blocks, element by element, and the array they fill. -/
module

public import proofs.«01_k».proof.Proof.DiffArray

@[expose] public section

set_option maxRecDepth 16384

noncomputable section

namespace Cert.Diff

open Idealize.ShloMosaic Idealize.ShloMosaic.TcCoe Idealize.ShloMosaic.Tactic
open Idealize.ShloMosaic.Pipeline (Dat Cfg Window)
open Cert.Kernel3Ideal Cert.Kernel3Ideal.Gen
open Cert.Attn (weighed attend div_weighed)

variable (m : (ℓ : Loc nD τ sig) → Buf (Elt Ideal) ℓ) (c : Dev nD)
  (hq : ∀ i, argQ m c i = ((argQ m c i).toReal : EReal)) (hk : ∀ i, argK m c i = ((argK m c i).toReal : EReal))

include hq hk in
/-- The scores of a row of a block are those of the row, over `log 2`. -/
theorem scores_at (t : Fin cfg0.N) (r : Fin 256) (M : Fin 2) (R : Fin 16640) (H : Fin 4) (hR : R.val = 256 * (t.val % 65) + r.val)
    (hH : H.val = t.val / 65) :
    Scores (iblk m c 0 t) (iblk m c 1 t) M r (fun n => scoreOf (argQ m c) (argK m c) R H M n / Real.log 2) 16640 := by
  intro k hkn
  have hM := M.isLt
  have hH4 := H.isLt
  refine (half_sum (fun d => (argQ m c (ix4 R H M d)).toReal) (fun d => (argK m c (ix4 (Fin.ofNat 16640 k) H M d)).toReal) (1 / 8 / Real.log 2) M
    (fun d => qM (iblk m c 0 t) M.val (ix2 r d)) (fun d => rowK (iblk m c 1 t) k d) ?_ ?_ ?_).trans ?_
  · intro d
    have hd := d.isLt
    show qM (iblk m c 0 t) M.val (ix2 r ⟨64 * M.val + d.val, by omega⟩) = _
    rw [qM_at, if_pos (show (64 * M.val + d.val) / 64 = M.val by omega),
      blk0_at m c t r ⟨64 * M.val + d.val, by omega⟩ R ⟨128 * H.val + 64 * M.val + d.val, by omega⟩ hR (show 128 * H.val + 64 * M.val + d.val = 128 * (t.val / 65) + (64 * M.val + d.val) by omega),
      query_at m c R _ H M d rfl, factor, EReal.coe_mul, ← hq]
  · intro d hd
    show qM (iblk m c 0 t) M.val (ix2 r d) = _
    rw [qM_at, if_neg hd]
  · intro d
    have hd := d.isLt
    show iblk m c 1 t (ix2 (Fin.ofNat 16640 k) ⟨64 * M.val + d.val, by omega⟩) = _
    rw [blk1_at m c t (Fin.ofNat 16640 k) ⟨64 * M.val + d.val, by omega⟩ ⟨128 * H.val + 64 * M.val + d.val, by omega⟩
        (show 128 * H.val + 64 * M.val + d.val = 128 * (t.val / 65) + (64 * M.val + d.val) by omega),
      key_at m c _ _ H M d rfl, ← hk]
  · congr 1
    unfold scoreOf
    ring

/-- What point `t` has summed for one map. -/
def sums (t : Fin cfg0.N) (h : ℕ) : FVec Ideal S256x256 .f32 :=
  if t.val % 65 = 0 then aFirst (iblk m c 0 t) (iblk m c 1 t) (iblk m c 2 t) h
  else aS (firstScores (iblk m c 0 t) (iblk m c 1 t) h) (qM (iblk m c 0 t) h) (iblk m c 1 t) (iblk m c 2 t) 12

theorem out_sums (t : Fin cfg0.N) : outAt m c t = combine (sums m c t 0) (sums m c t 1) (iblk m c 4 t) (iblk m c 5 t) := by
  unfold outAt sums
  split <;> rfl

include hq hk in
theorem sums_at (t : Fin cfg0.N) (r : Fin 256) (M : Fin 2) (R : Fin 16640) (H : Fin 4) (hR : R.val = 256 * (t.val % 65) + r.val)
    (hH : H.val = t.val / 65) : ∃ μ : ℝ, ∀ l : Fin 256, sums m c t M.val (ix2 r l) =
      weighed (fun n => scoreOf (argQ m c) (argK m c) R H M n / Real.log 2) (fun n => rowV (iblk m c 2 t) n l) μ
        (if R.val < 256 then 256 else 16640) := by
  have hs := scores_at m c hq hk t r M R H hR hH
  have hr := r.isLt
  unfold sums
  by_cases h0 : t.val % 65 = 0
  · rw [if_pos h0, if_pos (by omega)]
    exact context (iblk m c 0 t) (iblk m c 1 t) (iblk m c 2 t) M r _ fun k hk => hs k (by omega)
  · rw [if_neg h0, if_neg (by omega)]
    obtain ⟨μ, -, ha⟩ := chunks (iblk m c 0 t) (iblk m c 1 t) (iblk m c 2 t) M r _ hs 12 (by norm_num)
    exact ⟨μ, ha⟩

include hq hk in
/-- A lane of values over the lane of ones. -/
theorem quotient_at (t : Fin cfg0.N) (r : Fin 256) (M : Fin 2) (R : Fin 16640) (H : Fin 4) (hR : R.val = 256 * (t.val % 65) + r.val)
    (hH : H.val = t.val / 65) (j : Fin 128) :
    Ideal.div (sums m c t M.val (ix2 r ⟨j.val, by omega⟩)) (sums m c t M.val (ix2 r 128))
      = attend (scoreOf (argQ m c) (argK m c) R H M) (fun n => argV m c (ix3 (Fin.ofNat 16640 n) H j)) (if R.val < 256 then 256 else 16640) := by
  have hH4 := H.isLt
  have hj := j.isLt
  have hl : ∀ k, rowV (iblk m c 2 t) k ⟨j.val, by omega⟩ = argV m c (ix3 (Fin.ofNat 16640 k) H j) := fun k => by
    show iblk m c 2 t (ix2 (Fin.ofNat 16640 k) ⟨j.val, by omega⟩) = _
    rw [blk2_at m c t _ ⟨j.val, by omega⟩ ⟨256 * H.val + j.val, by omega⟩ (show 256 * H.val + j.val = 256 * (t.val / 65) + j.val by omega),
      value_at_lane m c _ _ H j rfl]
  have ho : ∀ k, rowV (iblk m c 2 t) k 128 = 1 := fun k => by
    show iblk m c 2 t (ix2 (Fin.ofNat 16640 k) 128) = _
    rw [blk2_at m c t _ 128 ⟨256 * H.val + 128, by omega⟩ (show 256 * H.val + 128 = 256 * (t.val / 65) + 128 by omega),
      ones_at_lane m c _ _ (show 128 ≤ (256 * H.val + 128) % 256 by omega)]
  obtain ⟨μ, hμ⟩ := sums_at m c hq hk t r M R H hR hH
  rw [hμ, hμ, funext hl, funext ho]
  exact div_weighed _ _ _ (by split <;> norm_num)

/-- One element of the result: the difference of the maps' attention, normalised. -/
def result (R : Fin 16640) (H : Fin 4) (j : Fin 128) : EReal :=
  normed (difference (argQ m c) (argK m c) (argV m c) (argL m c (fun a => a.elim0)) R H) (argG m c (ix1 j)) j

include hq hk in
theorem block_at (t : Fin cfg0.N) (r : Fin 256) (l : Fin 128) (R : Fin 16640) (H : Fin 4) (hR : R.val = 256 * (t.val % 65) + r.val)
    (hH : H.val = t.val / 65) : outAt m c t (ix2 r l) = result m c R H l := by
  rw [out_sums, combine_at, blk5_at, gain_at]
  unfold result
  refine congrArg (normed · _ l) (funext fun j => ?_)
  have h0 := quotient_at m c hq hk t r 0 R H hR hH j
  have h1 := quotient_at m c hq hk t r 1 R H hR hH j
  rw [blk4_at, lambda_at]
  exact congrArg₂ (· - argL m c (fun a => a.elim0) * ·) h0 h1

include hq hk in
/-- The result array, at an index, is the normalised difference of the arguments' attention. -/
theorem out_array : (dats m 0 c).arrAt 6 cfg0.N = fun p : S16640x512.Idx =>
    result m c (p 0) ⟨(p 1).val / 128, by have := (p 1).isLt; show (p 1).val / 128 < 4; have h : (p 1).val < 512 := this; omega⟩
      ⟨(p 1).val % 128, Nat.mod_lt _ (by norm_num)⟩ := by
  refine (dats m 0 c).arrAt_eq_of_covers 6 _ (by decide +kernel) fun t _ y => ?_
  blk_simp
  rw [after0_6]
  obtain ⟨r, l, rfl⟩ : ∃ (r : Fin 256) (l : Fin 128), y = ix2 r l := ⟨y 0, y 1, eq_ix2 y⟩
  have ht := lt_grid t
  have hr := r.isLt
  have hl := l.isLt
  have e : ((win0_6.blk t).view.emb (ix2 r l)) = ix2 ⟨256 * (t.val % 65) + r.val, by omega⟩ ⟨128 * (t.val / 65) + l.val, by omega⟩ := by
    funext a
    refine Fin.ext ((Pipeline.Window.rect_emb_val_off win0_6 t (ix2 r l) a).trans ?_)
    rw [(idx t).2.2.2.2.2.2]
    match a with
    | ⟨0, _⟩ => exact congrArg (· + r.val) (Nat.mul_comm _ _)
    | ⟨1, _⟩ => exact congrArg (· + l.val) (Nat.mul_comm _ _)
  refine (block_at m c hq hk t r l ⟨256 * (t.val % 65) + r.val, by omega⟩ ⟨t.val / 65, by omega⟩ rfl rfl).trans ?_
  have e1 : win0_6.index t 1 * 128 + l.val = 128 * (t.val / 65) + l.val := by
    rw [(idx t).2.2.2.2.2.2]
    exact congrArg (· + l.val) (Nat.mul_comm _ _)
  have eh : t.val / 65 = (win0_6.index t 1 * 128 + l.val) / 128 := by rw [e1]; omega
  have el : l.val = (win0_6.index t 1 * 128 + l.val) % 128 := by rw [e1]; omega
  exact congr (congr (congrArg (result m c) (congrFun e 0).symm) (Fin.ext eh)) (Fin.ext el)

end Cert.Diff

end
-- ==== Proof.DiffFinite.lean ====
/- The precondition of the differential attention's value claim, read: queries, keys, values and lambda are real numbers. -/
module

public import proofs.«01_k».proof.Defs
public import proofs.«01_k».proof.Proof.AttnFinite

@[expose] public section

noncomputable section

namespace Cert.Diff

open Idealize.ShloMosaic Idealize.ShloMosaic.TcCoe
open Cert.Attn (both_one real_of_lt)

theorem reals_of_finite [Cert.Pre_finite3.Facts] (q k : Cert.Pre_finite3.S16640x4x2x64.Idx → EReal) (v : Cert.Pre_finite3.S16640x4x128.Idx → EReal)
    (lam : Cert.Pre_finite3.S_.Idx → EReal) (g : Cert.Pre_finite3.S128.Idx → EReal) (h : Cert.Pre_finite3.fn (F := Ideal) q k v lam g = fun _ => 1#1) :
    (∀ i, q i = ((q i).toReal : EReal)) ∧ (∀ i, k i = ((k i).toReal : EReal)) ∧ (∀ i, v i = ((v i).toReal : EReal))
      ∧ ∀ i, lam i = ((lam i).toReal : EReal) := by
  have hb := fun i => both_one _ _ (congrFun h i)
  have hc := fun i => both_one _ _ (hb i).1
  have hd := fun i => both_one _ _ (hc i).1
  refine ⟨fun i => real_of_lt _ (hd i).1, fun i => real_of_lt _ (hd i).2, fun i => ?_, fun i => ?_⟩
  · obtain ⟨R, H, j, rfl⟩ : ∃ (R : Fin 16640) (H : Fin 4) (j : Fin 128), i = ix3 R H j := ⟨i 0, i 1, i 2, eq_ix3 i⟩
    have hv := (hc (ix4 R H ⟨j.val / 64, by omega⟩ ⟨j.val % 64, Nat.mod_lt _ (by norm_num)⟩)).2
    have e : shapeCast Cert.Pre_finite3.S16640x4x2x64 v Cert.Pre_finite3.Facts.shapeCasts_S16640x4x128_S16640x4x2x64
        (ix4 R H ⟨j.val / 64, by omega⟩ ⟨j.val % 64, Nat.mod_lt _ (by norm_num)⟩) = v (ix3 R H j) := by
      pointwise
    refine real_of_lt _ ?_
    rw [← e]
    exact hv
  · have hl := (hb (ix4 0 0 0 0)).2
    have e : i = fun a => a.elim0 := funext fun a => a.elim0
    subst e
    refine real_of_lt _ (Eq.trans ?_ hl)
    refine congrArg (fun i => Ideal.cmp .olt (max (lam i) (-(lam i))) (Ideal.ofBits .f32 0x7F800000#32)) (funext fun a => a.elim0)

end Cert.Diff

end
-- ==== Proof.DiffReference.lean ====
/- The differential attention's reference, read at an index. -/
module

public import proofs.«01_k».proof.Proof.DiffModel
public import proofs.«01_k».proof.Proof.Gen.Reference3Ideal.Read
public import Idealize.ShloMosaic.Lib.KernelVsHost
public import Idealize.ShloMosaic.Lib.Pointwise

@[expose] public section

set_option maxRecDepth 16384

noncomputable section

namespace Cert.Diff.Ref

open Idealize.ShloMosaic Idealize.ShloMosaic.TcCoe Cert.Reference3Ideal Cert.Reference3Ideal.Read
open Cert.Attn (weight attend coe_sum fold_max_real)

/-- Every element of the array is a real number. -/
def AllReal {S : Shape} (x : S.Idx → EReal) : Prop := ∀ i, x i = ((x i).toReal : EReal)

variable (x0 x1 : (⟨S16640x4x2x64, .f32⟩ : BufTy).Contents (Elt Ideal)) (x2 : (⟨S16640x4x128, .f32⟩ : BufTy).Contents (Elt Ideal))
  (x3 : (⟨S_, .f32⟩ : BufTy).Contents (Elt Ideal)) (x4 : (⟨S128, .f32⟩ : BufTy).Contents (Elt Ideal))

theorem eighth : Ideal.ofBits .f32 0x3E000000#32 = ((1 / 8 : ℝ) : EReal) := by
  simp [Ideal.ofBits, Ideal.ieee]
  rw [← EReal.coe_mul]
  norm_num

theorem neg_inf : Ideal.ofBits .f32 0xFF800000#32 = ⊥ := by
  simp [Ideal.ofBits, Ideal.ieee]

theorem score_real (h0 : AllReal x0) (h1 : AllReal x1) (R K : Fin 16640) (H : Fin 4) (M : Fin 2) :
    (∑ d : Fin 64, x0 (ix4 R H M d) * x1 (ix4 K H M d)) * Ideal.ofBits .f32 0x3E000000#32 = (scoreOf x0 x1 R H M K.val : EReal) := by
  have hk : Fin.ofNat 16640 K.val = K := Fin.ext (Nat.mod_eq_of_lt K.isLt)
  rw [eighth, scoreOf, hk, mul_comm (1 / 8 : ℝ), EReal.coe_mul, coe_sum]
  congr 1
  refine Finset.sum_congr rfl fun d _ => ?_
  rw [EReal.coe_mul, ← h0, ← h1]

/-- The weights of the two maps: one, and lambda's negative. -/
theorem map_first : val_main_v3 (F := Ideal) x3 (ix1 0) = (1 : EReal) := by
  pointwise [val_main_v3, val_main_v1, val_main_cst]

theorem map_second : val_main_v3 (F := Ideal) x3 (ix1 1) = -(x3 (fun a => a.elim0)) := by
  pointwise [val_main_v3, val_main_v2, val_main_v0]
  exact congrArg (fun i => -(x3 i)) (funext fun a => a.elim0)

theorem score_context (h0 : AllReal x0) (h1 : AllReal x1) (H : Fin 4) (M : Fin 2) (r : Fin 256) (k : Fin 256) :
    val_main_v9 (F := Ideal) x0 x1 (ix4 H M r k) = (scoreOf x0 x1 ⟨r.val, by omega⟩ H M k.val : EReal) := by
  refine Eq.trans ?_ (score_real x0 x1 h0 h1 ⟨r.val, by omega⟩ ⟨k.val, by omega⟩ H M)
  pointwise [val_main_v9, val_main_v8, val_main_cst_0, val_main_v7, val_main_v4, val_main_v5]

theorem top_context (h0 : AllReal x0) (h1 : AllReal x1) (H : Fin 4) (M : Fin 2) (r : Fin 256) :
    ∃ μ : ℝ, val_main_v12 (F := Ideal) x0 x1 (ix3 H M r) = (μ : EReal) := by
  have e : val_main_v10 (F := Ideal) x0 x1 (ix3 H M r) = (Finset.univ : Finset (Fin 256)).fold max ⊥ (fun k => val_main_v9 (F := Ideal) x0 x1 (ix4 H M r k)) := by
    unfold val_main_v10 val_main_cst_1
    rw [hostReduce_maximumf_eq_multiReduction (F := Ideal) (φ := .f32) (s := S4x2x256x256) (t := S4x2x256) (val_main_v9 (F := Ideal) x0 x1) 0xFF800000#32 Gen.reducesTo_S4x2x256x256_S4x2x256_d3 Gen.h_S_ (by decide) (Or.inl rfl) rfl]
    pointwise
    rw [neg_inf]
  obtain ⟨μ, hμ⟩ := fold_max_real (n := 256) (by norm_num) (fun k => val_main_v9 (F := Ideal) x0 x1 (ix4 H M r k)) fun k => ⟨_, score_context x0 x1 h0 h1 H M r k⟩
  refine ⟨μ, ?_⟩
  rw [val_main_v12_apply, e, hμ, val_main_v11_apply, val_main_cst_2_apply]
  show max (Ideal.ofBits .f32 0xFF800000#32) (μ : EReal) = _
  rw [neg_inf, max_bot_left]

theorem exp_context (h0 : AllReal x0) (h1 : AllReal x1) (H : Fin 4) (M : Fin 2) (r : Fin 256) : ∃ μ : ℝ, ∀ k : Fin 256,
    val_main_v16 (F := Ideal) x0 x1 (ix4 H M r k) = Ideal.exp ((scoreOf x0 x1 ⟨r.val, by omega⟩ H M k.val : EReal) - (μ : EReal)) := by
  obtain ⟨μ, hμ⟩ := top_context x0 x1 h0 h1 H M r
  refine ⟨μ, fun k => ?_⟩
  rw [← score_context x0 x1 h0 h1 H M r k, ← hμ]
  pointwise [val_main_v16, val_main_v15, val_main_v14, val_main_v13]

theorem weight_context (h0 : AllReal x0) (h1 : AllReal x1) (H : Fin 4) (M : Fin 2) (r : Fin 256) (k : Fin 256) :
    val_main_v20 (F := Ideal) x0 x1 (ix4 H M r k) = (weight (scoreOf x0 x1 ⟨r.val, by omega⟩ H M) 256 k.val : EReal) := by
  obtain ⟨μ, hμ⟩ := exp_context x0 x1 h0 h1 H M r
  have e : val_main_v20 (F := Ideal) x0 x1 (ix4 H M r k)
      = Ideal.div (val_main_v16 (F := Ideal) x0 x1 (ix4 H M r k)) (∑ i : Fin 256, val_main_v16 (F := Ideal) x0 x1 (ix4 H M r i)) := by
    pointwise [val_main_v20, val_main_v19, val_main_v18, val_main_v17, val_main_cst_3]
  rw [e]
  simp only [hμ]
  exact softmax_at _ μ (by norm_num) k.val

theorem mix_context (h0 : AllReal x0) (h1 : AllReal x1) (H : Fin 4) (r : Fin 256) (k : Fin 256) :
    val_main_v21 (F := Ideal) x0 x1 x3 (ix3 H r k) = (weight (scoreOf x0 x1 ⟨r.val, by omega⟩ H 0) 256 k.val : EReal) * 1
      + (weight (scoreOf x0 x1 ⟨r.val, by omega⟩ H 1) 256 k.val : EReal) * -(x3 (fun a => a.elim0)) := by
  have e : val_main_v21 (F := Ideal) x0 x1 x3 (ix3 H r k) = ∑ M : Fin 2, val_main_v20 (F := Ideal) x0 x1 (ix4 H M r k) * val_main_v3 (F := Ideal) x3 (ix1 M) := by
    pointwise [val_main_v21]
  rw [e, Fin.sum_univ_two, weight_context x0 x1 h0 h1, weight_context x0 x1 h0 h1, map_first, map_second]

theorem context_at (h0 : AllReal x0) (h1 : AllReal x1) (h2 : AllReal x2) (h3 : AllReal x3) (r : Fin 256) (H : Fin 4) (j : Fin 128) :
    val_main_v23 (F := Ideal) x0 x1 x2 x3 (ix3 r H j) = difference x0 x1 x2 (x3 (fun a => a.elim0)) ⟨r.val, by omega⟩ H j := by
  have e : val_main_v23 (F := Ideal) x0 x1 x2 x3 (ix3 r H j) = ∑ k : Fin 256, x2 (ix3 ⟨k.val, by omega⟩ H j) * val_main_v21 (F := Ideal) x0 x1 x3 (ix3 H r k) := by
    pointwise [val_main_v23, val_main_v22, val_main_v6]
  rw [e]
  unfold difference
  rw [if_pos r.isLt]
  rw [← mixed _ _ (fun n => x2 (ix3 (Fin.ofNat 16640 n) H j)) (fun _ => h2 _) _ (h3 _) 256]
  refine Finset.sum_congr rfl fun k _ => ?_
  have hk : Fin.ofNat 16640 k.val = ⟨k.val, by omega⟩ := Fin.ext (Nat.mod_eq_of_lt (by omega))
  rw [mix_context x0 x1 x3 h0 h1, hk]

theorem score_rest (h0 : AllReal x0) (h1 : AllReal x1) (H : Fin 4) (M : Fin 2) (r : Fin 16384) (k : Fin 16640) :
    val_main_v27 (F := Ideal) x0 x1 (ix4 H M r k) = (scoreOf x0 x1 ⟨256 + r.val, by omega⟩ H M k.val : EReal) := by
  refine Eq.trans ?_ (score_real x0 x1 h0 h1 ⟨256 + r.val, by omega⟩ k H M)
  pointwise [val_main_v27, val_main_v26, val_main_cst_4, val_main_v25, val_main_v24]

theorem top_rest (h0 : AllReal x0) (h1 : AllReal x1) (H : Fin 4) (M : Fin 2) (r : Fin 16384) :
    ∃ μ : ℝ, val_main_v30 (F := Ideal) x0 x1 (ix3 H M r) = (μ : EReal) := by
  have e : val_main_v28 (F := Ideal) x0 x1 (ix3 H M r) = (Finset.univ : Finset (Fin 16640)).fold max ⊥ (fun k => val_main_v27 (F := Ideal) x0 x1 (ix4 H M r k)) := by
    unfold val_main_v28 val_main_cst_5
    rw [hostReduce_maximumf_eq_multiReduction (F := Ideal) (φ := .f32) (s := S4x2x16384x16640) (t := S4x2x16384) (val_main_v27 (F := Ideal) x0 x1) 0xFF800000#32 Gen.reducesTo_S4x2x16384x16640_S4x2x16384_d3 Gen.h_S_ (by decide) (Or.inl rfl) rfl]
    pointwise
    rw [neg_inf]
  obtain ⟨μ, hμ⟩ := fold_max_real (n := 16640) (by norm_num) (fun k => val_main_v27 (F := Ideal) x0 x1 (ix4 H M r k)) fun k => ⟨_, score_rest x0 x1 h0 h1 H M r k⟩
  refine ⟨μ, ?_⟩
  rw [val_main_v30_apply, e, hμ, val_main_v29_apply, val_main_cst_6_apply]
  show max (Ideal.ofBits .f32 0xFF800000#32) (μ : EReal) = _
  rw [neg_inf, max_bot_left]

theorem exp_rest (h0 : AllReal x0) (h1 : AllReal x1) (H : Fin 4) (M : Fin 2) (r : Fin 16384) : ∃ μ : ℝ, ∀ k : Fin 16640,
    val_main_v34 (F := Ideal) x0 x1 (ix4 H M r k) = Ideal.exp ((scoreOf x0 x1 ⟨256 + r.val, by omega⟩ H M k.val : EReal) - (μ : EReal)) := by
  obtain ⟨μ, hμ⟩ := top_rest x0 x1 h0 h1 H M r
  refine ⟨μ, fun k => ?_⟩
  rw [← score_rest x0 x1 h0 h1 H M r k, ← hμ]
  pointwise [val_main_v34, val_main_v33, val_main_v32, val_main_v31]

theorem weight_rest (h0 : AllReal x0) (h1 : AllReal x1) (H : Fin 4) (M : Fin 2) (r : Fin 16384) (k : Fin 16640) :
    val_main_v38 (F := Ideal) x0 x1 (ix4 H M r k) = (weight (scoreOf x0 x1 ⟨256 + r.val, by omega⟩ H M) 16640 k.val : EReal) := by
  obtain ⟨μ, hμ⟩ := exp_rest x0 x1 h0 h1 H M r
  have e : val_main_v38 (F := Ideal) x0 x1 (ix4 H M r k)
      = Ideal.div (val_main_v34 (F := Ideal) x0 x1 (ix4 H M r k)) (∑ i : Fin 16640, val_main_v34 (F := Ideal) x0 x1 (ix4 H M r i)) := by
    pointwise [val_main_v38, val_main_v37, val_main_v36, val_main_v35, val_main_cst_7]
  rw [e]
  simp only [hμ]
  exact softmax_at _ μ (by norm_num) k.val

theorem mix_rest (h0 : AllReal x0) (h1 : AllReal x1) (H : Fin 4) (r : Fin 16384) (k : Fin 16640) :
    val_main_v39 (F := Ideal) x0 x1 x3 (ix3 H r k) = (weight (scoreOf x0 x1 ⟨256 + r.val, by omega⟩ H 0) 16640 k.val : EReal) * 1
      + (weight (scoreOf x0 x1 ⟨256 + r.val, by omega⟩ H 1) 16640 k.val : EReal) * -(x3 (fun a => a.elim0)) := by
  have e : val_main_v39 (F := Ideal) x0 x1 x3 (ix3 H r k) = ∑ M : Fin 2, val_main_v38 (F := Ideal) x0 x1 (ix4 H M r k) * val_main_v3 (F := Ideal) x3 (ix1 M) := by
    pointwise [val_main_v39]
  rw [e, Fin.sum_univ_two, weight_rest x0 x1 h0 h1, weight_rest x0 x1 h0 h1, map_first, map_second]

theorem rest_at (h0 : AllReal x0) (h1 : AllReal x1) (h2 : AllReal x2) (h3 : AllReal x3) (r : Fin 16384) (H : Fin 4) (j : Fin 128) :
    val_main_v41 (F := Ideal) x0 x1 x2 x3 (ix3 r H j) = difference x0 x1 x2 (x3 (fun a => a.elim0)) ⟨256 + r.val, by omega⟩ H j := by
  have e : val_main_v41 (F := Ideal) x0 x1 x2 x3 (ix3 r H j) = ∑ k : Fin 16640, x2 (ix3 k H j) * val_main_v39 (F := Ideal) x0 x1 x3 (ix3 H r k) := by
    pointwise [val_main_v41, val_main_v40]
  rw [e]
  unfold difference
  rw [if_neg (show ¬ 256 + r.val < 256 by omega)]
  rw [← mixed _ _ (fun n => x2 (ix3 (Fin.ofNat 16640 n) H j)) (fun _ => h2 _) _ (h3 _) 16640]
  refine Finset.sum_congr rfl fun k _ => ?_
  have hk : Fin.ofNat 16640 k.val = k := Fin.ext (Nat.mod_eq_of_lt (by omega))
  rw [mix_rest x0 x1 x3 h0 h1, hk]

theorem joined_at (h0 : AllReal x0) (h1 : AllReal x1) (h2 : AllReal x2) (h3 : AllReal x3) (R : Fin 16640) (H : Fin 4) (j : Fin 128) :
    val_main_v42 (F := Ideal) x0 x1 x2 x3 (ix3 R H j) = difference x0 x1 x2 (x3 (fun a => a.elim0)) R H j := by
  by_cases h : R.val < 256
  · refine Eq.trans ?_ (context_at x0 x1 x2 x3 h0 h1 h2 h3 ⟨R.val, h⟩ H j)
    pointwise [val_main_v42]
    rw [dif_pos h]
  · have e : (⟨256 + (R.val - 256), by omega⟩ : Fin 16640) = R := Fin.ext (show 256 + (R.val - 256) = R.val by omega)
    have hr := rest_at x0 x1 x2 x3 h0 h1 h2 h3 ⟨R.val - 256, by omega⟩ H j
    rw [show (⟨256 + (⟨R.val - 256, by omega⟩ : Fin 16384).val, by omega⟩ : Fin 16640) = R from e] at hr
    rw [← hr]
    pointwise [val_main_v42]
    rw [dif_neg h]

theorem result_at (h0 : AllReal x0) (h1 : AllReal x1) (h2 : AllReal x2) (h3 : AllReal x3) (R : Fin 16640) (J : Fin 512) :
    val_main_v58 (F := Ideal) x0 x1 x2 x3 x4 (ix2 R J) = normed (difference x0 x1 x2 (x3 (fun a => a.elim0)) R ⟨J.val / 128, by omega⟩)
      (x4 (ix1 ⟨J.val % 128, Nat.mod_lt _ (by norm_num)⟩)) ⟨J.val % 128, Nat.mod_lt _ (by norm_num)⟩ := by
  have e : difference x0 x1 x2 (x3 (fun a => a.elim0)) R ⟨J.val / 128, by omega⟩ = fun j => val_main_v42 (F := Ideal) x0 x1 x2 x3 (ix3 R ⟨J.val / 128, by omega⟩ j) :=
    funext fun j => (joined_at x0 x1 x2 x3 h0 h1 h2 h3 R _ j).symm
  rw [e]
  unfold normed
  pointwise [val_main_v58, val_main_v57, val_main_v56, val_main_cst_11, val_main_v55, val_main_v54, val_main_v53, val_main_v52, val_main_v51, val_main_v50,
    val_main_v49, val_main_v48, val_main_cst_10, val_main_v47, val_main_v46, val_main_cst_9, val_main_v45, val_main_v44, val_main_cst_8, val_main_v43]

end Cert.Diff.Ref

end
-- ==== Proof.DiffClaim.lean ====
/- The differential attention: on the extended reals the kernel's result is its reference's. -/
module

public import proofs.«01_k».proof.Defs
public import proofs.«01_k».proof.Proof.DiffBlock
public import proofs.«01_k».proof.Proof.DiffFinite
public import proofs.«01_k».proof.Proof.DiffReference
public import proofs.«01_k».proof.Proof.Gen.Reference3Ideal.Run
public import proofs.«01_k».proof.Proof.Gen.Pre_finite3
public import Idealize.ShloMosaic.Lib.Claim

@[expose] public section

noncomputable section

namespace Cert.Diff

open Idealize.ShloMosaic Idealize.ShloMosaic.TcCoe Idealize.SL.Sem

section Run
open Cert.Kernel3Ideal Cert.Kernel3Ideal.Gen

variable {F : FTy → Type} [FloatOps F] (m : (ℓ : Loc nD τ sig) → Buf (Elt F) ℓ) (ρ : Dev nD → PrngReg)

/-- The kernel's run ends with the output array written by its points and its arguments as they were. -/
theorem run_blocks : θ_run defs (onTc (τ := τ) (main (F := F))) ⟨m, fun _ => 0, ρ⟩ fun r => ∀ c : Dev nD,
    r.2.mem ((c.tc : Thread nD τ).loc main_v14) = (dats m 0 c).arrAt 6 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h.1 c).1 6, h.2.1 c⟩) (θ_run_and (run_main m ρ) (frame m ρ))

end Run

/-- The kernel's run and the reference's end in one and the same result, when queries, keys, values and lambda are finite. -/
theorem algebraic : Cert.algebraic_Kernel3Ideal_Reference3Ideal_pre_finite3 := by
  pair_intro
  · run_from run_blocks (F := Ideal) m g
  · run_from Cert.Reference3Ideal.Value.run (F := Ideal) m' g'
    obtain ⟨h0, h1, h2, h3, h4⟩ := hagree c
    obtain ⟨hq, hk, hv, hl⟩ := reals_of_finite _ _ _ _ _ (hpre c)
    rw [Cert.Reference3Ideal.Read.val_main_v58_eq, h0, h1, h2, h3, h4]
    refine Eq.trans ?_ (out_array m c hq hk).symm
    funext p
    obtain ⟨R, J, rfl⟩ : ∃ (R : Fin 16640) (J : Fin 512), p = ix2 R J := ⟨p 0, p 1, eq_ix2 p⟩
    exact Ref.result_at _ _ _ _ _ hq hk hv hl R J

end Cert.Diff

end
-- ==== Proof.DiffFrames.lean ====
/- The differential attention kernel's frame at machine words: its program has the same text as its idealized form. -/
module

public import proofs.«01_k».proof.Defs
public import proofs.«01_k».proof.Proof.DiffLaunch
public import proofs.«01_k».proof.Proof.Gen.Kernel3

@[expose] public section

set_option maxRecDepth 16384

noncomputable section

namespace Cert.Diff

open Idealize.ShloMosaic Idealize.ShloMosaic.TcCoe Idealize.SL.Sem

variable {F : FTy → Type} [FloatOps F]

theorem body_eq : @Cert.Kernel3.cc0__diff_attn_kernel F _ _ = @Cert.Kernel3Ideal.cc0__diff_attn_kernel F _ _ := rfl

theorem bodies_eq : Cert.Kernel3.defs₀ (F := F) = Cert.Kernel3Ideal.defs₀ (F := F) := by
  unfold Cert.Kernel3.defs₀ Cert.Kernel3Ideal.defs₀
  refine congrArg Defs.onTc ?_
  funext l a
  match l, a with
  | 0, (t, s) => rfl
  | ⟨_ + 1, h⟩, _ => exact absurd h (Nat.not_lt.2 (Nat.le_add_left _ _))

theorem defs_eq : Cert.Kernel3.defs (F := F) = Cert.Kernel3Ideal.defs (F := F) :=
  congrArg (Pipeline.defs Cert.Kernel3Ideal.pcfgs) bodies_eq

theorem frame_words : Cert.quiescent_Kernel3 := fun m g _ => by
  rw [defs_eq]
  exact (θ_run Cert.Kernel3Ideal.defs _ _).mono (fun _ h => h) (frame (F := Bits) m g)

end Cert.Diff

end
-- ==== Proof.FirstModel.lean ====
/- The first layer's feed-forward half, row by row, on the extended reals. -/
module

public import proofs.«01_k».proof.Proof.FfnModel

@[expose] public section

noncomputable section

namespace Cert.First

open Idealize.ShloMosaic
open Cert.Ffn (shifted unit Mat)

/-- The half layer of one row at lane `j`, no mixer in front of it. -/
def half (x m3 m4 m5 : Fin 1024 → EReal) (w1 w3 : Fin 1024 → Fin 2816 → EReal) (w2 : Fin 2816 → Fin 1024 → EReal) (j : Fin 1024) : EReal :=
  x j + m5 j * ∑ f : Fin 2816, unit (shifted x m3 m4) w1 w3 f * w2 f j

/-- A modulation vector of the row `R`: a context row takes the context's. -/
def pick {n : Nat} (mx mc : Mat n 1024) (R : Nat) (s : Fin n) (k : Fin 1024) : EReal :=
  if R < 256 then mc (ix2 s k) else mx (ix2 s k)

/-- The half layer of every row. -/
def rows (x : Mat 16640 1024) (mx mc : Mat 6 1024) (w1 w3 : Mat 1024 2816) (w2 : Mat 2816 1024) (R : Fin 16640) (j : Fin 1024) : EReal :=
  half (fun k => x (ix2 R k)) (pick mx mc R.val 3) (pick mx mc R.val 4) (pick mx mc R.val 5)
    (fun k f => w1 (ix2 k f)) (fun k f => w3 (ix2 k f)) (fun f j => w2 (ix2 f j)) j

end Cert.First

end
-- ==== Proof.FirstKernel.lean ====
/- The first layer's feed-forward kernel: its block, read at a row and a lane. -/
module

public import proofs.«01_k».proof.Proof.FirstModel
public import proofs.«01_k».proof.Proof.Gen.Kernel4Ideal.Value

@[expose] public section

set_option maxRecDepth 16384

noncomputable section

namespace Cert.First

open Idealize.ShloMosaic Cert.Kernel4Ideal Cert.Kernel4Ideal.Gen
open Cert.Ffn (silu rinv shifted unit sum_chunks sum_eleven Mat)

theorem in_ctx : ∀ (i : Fin 26) (r : Fin 640),
    IntOp.cmpi .slt (IntOp.addi (IntOp.addi 0#32 (IntOp.muli (BitVec.ofNat 32 i.val) 640#32)) (BitVec.ofNat 32 r.val)) 256#32
      = if 640 * i.val + r.val < 256 then 1#1 else 0#1 := by
  decide +kernel

theorem in_ctx' (i : grid0.Coords) (r : Fin 640) :
    IntOp.cmpi .slt (IntOp.addi (Scalar.addi 0#32 (Scalar.muli (BitVec.ofNat 32 (i 0).val) 640#32)) (BitVec.ofNat 32 r.val)) 256#32
      = if 640 * (i 0).val + r.val < 256 then 1#1 else 0#1 :=
  in_ctx (i 0) r

theorem pay2_at (i : grid0.Coords) (v8 v10 : Vec Ideal S1x1024 .f32) (r : Fin 640) (j : Fin 1024) :
    k0_pay2 i v8 v10 (ix2 r j) = if 640 * (i 0).val + r.val < 256 then v8 (ix2 0 j) else v10 (ix2 0 j) := by
  pointwise [k0_pay2]
  rw [in_ctx']
  split <;> rfl

theorem pay3_at (i : grid0.Coords) (v8 v10 : Vec Ideal S1x1024 .f32) (r : Fin 640) (j : Fin 1024) :
    k0_pay3 i v8 v10 (ix2 r j) = if 640 * (i 0).val + r.val < 256 then v8 (ix2 0 j) else v10 (ix2 0 j) := by
  pointwise [k0_pay3]
  rw [in_ctx']
  split <;> rfl

theorem pay6_at (i : grid0.Coords) (v8 v10 : Vec Ideal S1x1024 .f32) (r : Fin 640) (j : Fin 1024) :
    k0_pay6 (k0_pay4 i) (k0_pay5 v8) v10 (ix2 r j) = if 640 * (i 0).val + r.val < 256 then v8 (ix2 0 j) else v10 (ix2 0 j) := by
  pointwise [k0_pay6, k0_pay5, k0_pay4]
  rw [in_ctx']
  split <;> rfl

theorem pay7_at (x a b : FVec Ideal S640x1024 .f32) (r : Fin 640) (j : Fin 1024) :
    k0_pay7 x a b (ix2 r j) = shifted (fun k => x (ix2 r k)) (fun k => a (ix2 r k)) (fun k => b (ix2 r k)) j := by
  pointwise [k0_pay7]
  rfl

/-- One chunk of 256 hidden units: the two products, the gate, the product back. -/
def chunk (X : FVec Ideal S640x1024 .bf16) (a b : Vec Ideal S1024x256 .bf16) (c : Vec Ideal S256x1024 .bf16) : FVec Ideal S640x1024 .f32 :=
  let u := matmul dot_S640x1024_S1024x256_S640x256_1_0_0_1_n_n none X (shapeCast S1024x256 a shapeCasts_S1024x256_S1024x256 : FVec Ideal S1024x256 .bf16) (constant S640x256 .f32 0x00000000#32)
  let v := matmul dot_S640x1024_S1024x256_S640x256_1_0_0_1_n_n none X (shapeCast S1024x256 b shapeCasts_S1024x256_S1024x256 : FVec Ideal S1024x256 .bf16) (constant S640x256 .f32 0x00000000#32)
  let one : FVec Ideal S640x256 .f32 := broadcast S640x256 (Scalar.ofBits .f32 0x3F800000#32)
  let zero : FVec Ideal S640x256 .f32 := broadcast S640x256 (Scalar.ofBits .f32 0x00000000#32)
  matmul dot_S640x256_S256x1024_S640x1024_1_0_0_1_n_n none
    (truncf .bf16 (mulf (mulf u (divf one (addf one (exp (subf zero u))))) v) bitsLt_bf16_f32)
    (shapeCast S256x1024 c shapeCasts_S256x1024_S256x1024 : FVec Ideal S256x1024 .bf16) (constant S640x1024 .f32 0x00000000#32)

theorem chunk_at (X : FVec Ideal S640x1024 .bf16) (a b : Vec Ideal S1024x256 .bf16) (c : Vec Ideal S256x1024 .bf16)
    (w1 w3 : Fin 1024 → Fin 2816 → EReal) (w2 : Fin 2816 → Fin 1024 → EReal) (p : Fin 11)
    (ha : ∀ k (f : Fin 256), a (ix2 k f) = w1 k ⟨p.val * 256 + f.val, by omega⟩)
    (hb : ∀ k (f : Fin 256), b (ix2 k f) = w3 k ⟨p.val * 256 + f.val, by omega⟩)
    (hc : ∀ (f : Fin 256) j, c (ix2 f j) = w2 ⟨p.val * 256 + f.val, by omega⟩ j) (r : Fin 640) (j : Fin 1024) :
    chunk X a b c (ix2 r j) = ∑ f : Fin 256, unit (fun k => X (ix2 r k)) w1 w3 ⟨p.val * 256 + f.val, by omega⟩ * w2 ⟨p.val * 256 + f.val, by omega⟩ j := by
  pointwise [chunk]
  simp only [unit, silu, zero_sub, ha, hb, hc]

section Block

variable (i : grid0.Coords) (x0 : Vec Ideal S640x1024 .f32) (x1 x2 : Vec Ideal S8x1024 .f32) (x3 x4 : Vec Ideal S1024x2816 .bf16)
  (x5 : Vec Ideal S2816x1024 .bf16)

theorem out_eq : out0_6 i x0 x1 x2 x3 x4 x5 =
      let X := k0_pay27 i x0 x1 x2 x3 x4 x5
      View.canon [⟨r0_0, addf (View.ld x0 r0_0) (mulf (k0_pay6 (k0_pay4 i) (k0_pay5 (View.ld x2 r0_3)) (View.ld x1 r0_3))
        (addf (addf (addf (addf (addf (addf (addf (addf (addf (addf (addf (broadcast S640x1024 (Scalar.ofBits .f32 0x00000000#32))
          (chunk X (View.ld x3 r0_4) (View.ld x4 r0_4) (View.ld x5 r0_5)))
          (chunk X (View.ld x3 r0_6) (View.ld x4 r0_6) (View.ld x5 r0_7)))
          (chunk X (View.ld x3 r0_8) (View.ld x4 r0_8) (View.ld x5 r0_9)))
          (chunk X (View.ld x3 r0_10) (View.ld x4 r0_10) (View.ld x5 r0_11)))
          (chunk X (View.ld x3 r0_12) (View.ld x4 r0_12) (View.ld x5 r0_13)))
          (chunk X (View.ld x3 r0_14) (View.ld x4 r0_14) (View.ld x5 r0_15)))
          (chunk X (View.ld x3 r0_16) (View.ld x4 r0_16) (View.ld x5 r0_17)))
          (chunk X (View.ld x3 r0_18) (View.ld x4 r0_18) (View.ld x5 r0_19)))
          (chunk X (View.ld x3 r0_20) (View.ld x4 r0_20) (View.ld x5 r0_21)))
          (chunk X (View.ld x3 r0_22) (View.ld x4 r0_22) (View.ld x5 r0_23)))
          (chunk X (View.ld x3 r0_24) (View.ld x4 r0_24) (View.ld x5 r0_25))))⟩] := by
  unfold out0_6 k0_pay1 k0_pay24 k0_pay23 k0_pay22 k0_pay21 k0_pay20 k0_pay19 k0_pay18 k0_pay17 k0_pay16 k0_pay15 k0_pay14 k0_pay13 k0_pay12 k0_pay11 k0_pay10 k0_pay9 k0_pay8 k0_pay27 chunk
  rfl

theorem pay27_at (r : Fin 640) (j : Fin 1024) : k0_pay27 i x0 x1 x2 x3 x4 x5 (ix2 r j) =
    shifted (fun k => x0 (ix2 r k)) (pick x1 x2 (640 * (i 0).val + r.val) 3) (pick x1 x2 (640 * (i 0).val + r.val) 4) j := by
  unfold k0_pay27 k0_pay26 k0_pay25
  rw [pay7_at]
  simp only [pay2_at, pay3_at]
  unfold shifted pick
  pointwise [r0_0, r0_1, r0_2]

theorem out_at (r : Fin 640) (j : Fin 1024) : out0_6 i x0 x1 x2 x3 x4 x5 (ix2 r j) =
    half (fun k => x0 (ix2 r k)) (pick x1 x2 (640 * (i 0).val + r.val) 3) (pick x1 x2 (640 * (i 0).val + r.val) 4)
      (pick x1 x2 (640 * (i 0).val + r.val) 5) (fun k f => x3 (ix2 k f)) (fun k f => x4 (ix2 k f)) (fun f j => x5 (ix2 f j)) j := by
  rw [out_eq]
  dsimp only
  rw [show ∀ p, View.canon [⟨r0_0, p⟩] = p from fun p => View.canon_unit_zero (by decide) _ p]
  have hc := fun a b c p ha hb hc => chunk_at (k0_pay27 i x0 x1 x2 x3 x4 x5) a b c (fun k f => x3 (ix2 k f))
    (fun k f => x4 (ix2 k f)) (fun f j => x5 (ix2 f j)) p ha hb hc r j
  have e0 := hc (View.ld x3 r0_4) (View.ld x4 r0_4) (View.ld x5 r0_5) 0 (fun k f => by pointwise [r0_4]) (fun k f => by pointwise [r0_4]) (fun f j => by pointwise [r0_5])
  have e1 := hc (View.ld x3 r0_6) (View.ld x4 r0_6) (View.ld x5 r0_7) 1 (fun k f => by pointwise [r0_6]) (fun k f => by pointwise [r0_6]) (fun f j => by pointwise [r0_7])
  have e2 := hc (View.ld x3 r0_8) (View.ld x4 r0_8) (View.ld x5 r0_9) 2 (fun k f => by pointwise [r0_8]) (fun k f => by pointwise [r0_8]) (fun f j => by pointwise [r0_9])
  have e3 := hc (View.ld x3 r0_10) (View.ld x4 r0_10) (View.ld x5 r0_11) 3 (fun k f => by pointwise [r0_10]) (fun k f => by pointwise [r0_10]) (fun f j => by pointwise [r0_11])
  have e4 := hc (View.ld x3 r0_12) (View.ld x4 r0_12) (View.ld x5 r0_13) 4 (fun k f => by pointwise [r0_12]) (fun k f => by pointwise [r0_12]) (fun f j => by pointwise [r0_13])
  have e5 := hc (View.ld x3 r0_14) (View.ld x4 r0_14) (View.ld x5 r0_15) 5 (fun k f => by pointwise [r0_14]) (fun k f => by pointwise [r0_14]) (fun f j => by pointwise [r0_15])
  have e6 := hc (View.ld x3 r0_16) (View.ld x4 r0_16) (View.ld x5 r0_17) 6 (fun k f => by pointwise [r0_16]) (fun k f => by pointwise [r0_16]) (fun f j => by pointwise [r0_17])
  have e7 := hc (View.ld x3 r0_18) (View.ld x4 r0_18) (View.ld x5 r0_19) 7 (fun k f => by pointwise [r0_18]) (fun k f => by pointwise [r0_18]) (fun f j => by pointwise [r0_19])
  have e8 := hc (View.ld x3 r0_20) (View.ld x4 r0_20) (View.ld x5 r0_21) 8 (fun k f => by pointwise [r0_20]) (fun k f => by pointwise [r0_20]) (fun f j => by pointwise [r0_21])
  have e9 := hc (View.ld x3 r0_22) (View.ld x4 r0_22) (View.ld x5 r0_23) 9 (fun k f => by pointwise [r0_22]) (fun k f => by pointwise [r0_22]) (fun f j => by pointwise [r0_23])
  have e10 := hc (View.ld x3 r0_24) (View.ld x4 r0_24) (View.ld x5 r0_25) 10 (fun k f => by pointwise [r0_24]) (fun k f => by pointwise [r0_24]) (fun f j => by pointwise [r0_25])
  pointwise
  rw [e0, e1, e2, e3, e4, e5, e6, e7, e8, e9, e10, pay6_at]
  unfold half
  rw [sum_chunks, sum_eleven]
  simp only [pay27_at]
  unfold pick
  pointwise [r0_0, r0_3]

end Block

end Cert.First

end
-- ==== Proof.FirstArray.lean ====
/- The first layer's feed-forward kernel: its result array, element by element. -/
module

public import Idealize.ShloMosaic.Lib.StableHlo.ReadAt
public import proofs.«01_k».proof.Proof.FirstKernel
public import Idealize.ShloMosaic.Lib.Pipeline.ValueKit

@[expose] public section

set_option maxRecDepth 16384

noncomputable section

namespace Cert.First

open Idealize.ShloMosaic Idealize.ShloMosaic.TcCoe Cert.Kernel4Ideal Cert.Kernel4Ideal.Gen
open Idealize.ShloMosaic.Pipeline (Dat)

variable (m : (ℓ : Loc nD τ sig) → Buf (Elt Ideal) ℓ)

theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] := by decide +kernel

theorem point : ∀ t : Fin grid0.N, (grid0.coords t 0).val = t.val := by decide +kernel

theorem blk0 (c : Dev nD) (t : Fin cfg0.N) (r : Fin 640) (k : Fin 1024) (h : 640 * t.val + r.val < 16640) :
    iblk m c 0 t (ix2 r k) = m ((c : Thread nD τ).loc main_arg0) (ix2 ⟨640 * t.val + r.val, h⟩ k) := by
  have e : ((win0_0.blk t).view.emb (ix2 r k)) = ix2 ⟨640 * t.val + r.val, h⟩ k := by blk_ext [idx t]
  show V m c main_arg0 ((win0_0.blk t).view.emb (ix2 r k)) = _
  rw [e, V_main_arg0]

theorem blk1 (c : Dev nD) (t : Fin cfg0.N) (r : Fin 8) (k : Fin 1024) (h : r.val < 6) :
    iblk m c 1 t (ix2 r k) = m ((c : Thread nD τ).loc main_arg1) (ix2 ⟨r.val, h⟩ k) := by
  have e : ((win0_1.blk t).view.emb (ix2 r k)) = ix2 r k := by blk_ext [idx t]
  show V m c main_v0 ((win0_1.blk t).view.emb (ix2 r k)) = _
  rw [e]
  unfold V
  simp only [hostOps0, hostOps0_1, hostOps0_2, List.flatten_cons, List.flatten_nil, List.append_nil, List.cons_append, List.nil_append]
  after_reads_at
  rw [dif_pos h]

theorem blk2 (c : Dev nD) (t : Fin cfg0.N) (r : Fin 8) (k : Fin 1024) (h : r.val < 6) :
    iblk m c 2 t (ix2 r k) = m ((c : Thread nD τ).loc main_arg2) (ix2 ⟨r.val, h⟩ k) := by
  have e : ((win0_2.blk t).view.emb (ix2 r k)) = ix2 r k := by blk_ext [idx t]
  show V m c main_v1 ((win0_2.blk t).view.emb (ix2 r k)) = _
  rw [e]
  unfold V
  simp only [hostOps0, hostOps0_1, hostOps0_2, List.flatten_cons, List.flatten_nil, List.append_nil, List.cons_append, List.nil_append]
  after_reads_at
  rw [dif_pos h]

theorem blk3 (c : Dev nD) (t : Fin cfg0.N) (r : Fin 1024) (k : Fin 2816) :
    iblk m c 3 t (ix2 r k) = m ((c : Thread nD τ).loc main_arg3) (ix2 r k) := by
  unfold iblk
  entry_read
  pointwise
  blk_ext [idx t]

theorem blk4 (c : Dev nD) (t : Fin cfg0.N) (r : Fin 1024) (k : Fin 2816) :
    iblk m c 4 t (ix2 r k) = m ((c : Thread nD τ).loc main_arg4) (ix2 r k) := by
  unfold iblk
  entry_read
  pointwise
  blk_ext [idx t]

theorem blk5 (c : Dev nD) (t : Fin cfg0.N) (r : Fin 2816) (k : Fin 1024) :
    iblk m c 5 t (ix2 r k) = m ((c : Thread nD τ).loc main_arg5) (ix2 r k) := by
  unfold iblk
  entry_read
  pointwise
  blk_ext [idx t]

theorem pick_blk (c : Dev nD) (t : Fin cfg0.N) (R : Nat) (s : Fin 8) (h : s.val < 6) :
    pick (iblk m c 1 t) (iblk m c 2 t) R s = pick (m ((c : Thread nD τ).loc main_arg1)) (m ((c : Thread nD τ).loc main_arg2)) R ⟨s.val, h⟩ := by
  funext k
  unfold pick
  rw [blk1 m c t s k h, blk2 m c t s k h]

/-- The result array, at an index, is the half layer of the arguments' row. -/
theorem out_array (c : Dev nD) : (dats m 0 c).arrAt 6 cfg0.N = fun p => rows
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (p 0) (p 1) := by
  refine (dats m 0 c).arrAt_eq_of_covers 6 _ (by decide +kernel) fun t _ y => ?_
  blk_simp
  rw [after0_6]
  obtain ⟨r, j, rfl⟩ : ∃ (r : Fin 640) (j : Fin 1024), y = ix2 r j := ⟨y 0, y 1, eq_ix2 y⟩
  rw [out_at]
  have hr := r.isLt
  have ht : t.val < 26 := t.isLt
  have h : 640 * t.val + r.val < 16640 := by omega
  have e : ((win0_6.blk t).view.emb (ix2 r j)) = ix2 ⟨640 * t.val + r.val, h⟩ j := by blk_ext [idx t]
  simp only [point, blk0 _ _ _ _ _ h, blk3, blk4, blk5, pick_blk m c t _ 3 (by decide), pick_blk m c t _ 4 (by decide), pick_blk m c t _ 5 (by decide)]
  refine Eq.trans ?_ (congrArg (fun p : S16640x1024.Idx => rows _ _ _ _ _ _ (p 0) (p 1)) e).symm
  simp only [rows, ix2_0, ix2_1]
  rfl

end Cert.First

end
-- ==== Proof.FirstReference.lean ====
/- The first layer's feed-forward reference, read at an index. -/
module

public import proofs.«01_k».proof.Proof.FirstModel
public import proofs.«01_k».proof.Proof.Gen.Reference4Ideal.Read
public import Idealize.ShloMosaic.Lib.Pointwise

@[expose] public section

noncomputable section

namespace Cert.First.Ref

open Idealize.ShloMosaic Idealize.ShloMosaic.TcCoe Cert.Reference4Ideal Cert.Reference4Ideal.Read
open Cert.Ffn (silu rinv shifted unit)

variable (x0 : (⟨S16640x1024, .f32⟩ : BufTy).Contents (Elt Ideal)) (x1 x2 : (⟨S6x1024, .f32⟩ : BufTy).Contents (Elt Ideal))
  (x3 x4 : (⟨S1024x2816, .f32⟩ : BufTy).Contents (Elt Ideal)) (x5 : (⟨S2816x1024, .f32⟩ : BufTy).Contents (Elt Ideal))

theorem shifted_context (r : Fin 256) (j : Fin 1024) : val_main_v22 (F := Ideal) x0 x2 (ix2 r j) =
    shifted (fun k => x0 (ix2 ⟨r.val, by omega⟩ k)) (fun k => x2 (ix2 3 k)) (fun k => x2 (ix2 4 k)) j := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, shifted, rinv]

theorem unit_context (r : Fin 256) (f : Fin 2816) : val_main_v28 (F := Ideal) x0 x2 x3 x4 (ix2 r f) =
    unit (fun j => val_main_v22 (F := Ideal) x0 x2 (ix2 r j)) (fun k f => x3 (ix2 k f)) (fun k f => x4 (ix2 k f)) f := by
  pointwise [val_main_v28, val_main_v27, val_main_v26, val_main_v25, val_main_call0_v0, val_main_call0_v1, val_main_call0_cst, val_main_call0_v2, val_main_call0_v3, val_main_call0_cst_0, val_main_call0_v4, val_main_call0_v5, unit, silu]

theorem context_at (r : Fin 256) (j : Fin 1024) : val_main_v33 (F := Ideal) x0 x2 x3 x4 x5 (ix2 r j) =
    half (fun k => x0 (ix2 ⟨r.val, by omega⟩ k)) (fun k => x2 (ix2 3 k)) (fun k => x2 (ix2 4 k)) (fun k => x2 (ix2 5 k))
      (fun k f => x3 (ix2 k f)) (fun k f => x4 (ix2 k f)) (fun f j => x5 (ix2 f j)) j := by
  have e : val_main_v33 (F := Ideal) x0 x2 x3 x4 x5 (ix2 r j) = x0 (ix2 ⟨r.val, by omega⟩ j)
      + x2 (ix2 5 j) * ∑ f : Fin 2816, val_main_v28 (F := Ideal) x0 x2 x3 x4 (ix2 r f) * x5 (ix2 f j) := by
    pointwise [val_main_v33, val_main_v32, val_main_v31, val_main_v30, val_main_v29, val_main_v24, val_main_v23, val_main_v0]
  rw [e]
  simp only [unit_context, shifted_context]
  rfl

theorem shifted_rest (r : Fin 16384) (j : Fin 1024) : val_main_v56 (F := Ideal) x0 x1 (ix2 r j) =
    shifted (fun k => x0 (ix2 ⟨256 + r.val, by omega⟩ k)) (fun k => x1 (ix2 3 k)) (fun k => x1 (ix2 4 k)) j := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_3, val_main_cst_4, val_main_cst_5, val_main_cst_6, shifted, rinv]

theorem unit_rest (r : Fin 16384) (f : Fin 2816) : val_main_v62 (F := Ideal) x0 x1 x3 x4 (ix2 r f) =
    unit (fun j => val_main_v56 (F := Ideal) x0 x1 (ix2 r j)) (fun k f => x3 (ix2 k f)) (fun k f => x4 (ix2 k f)) f := by
  pointwise [val_main_v62, val_main_v61, val_main_v60, val_main_v59, val_main_call1_v0, val_main_call1_v1, val_main_call1_cst, val_main_call1_v2, val_main_call1_v3, val_main_call1_cst_0, val_main_call1_v4, val_main_call1_v5, unit, silu]

theorem rest_at (r : Fin 16384) (j : Fin 1024) : val_main_v67 (F := Ideal) x0 x1 x3 x4 x5 (ix2 r j) =
    half (fun k => x0 (ix2 ⟨256 + r.val, by omega⟩ k)) (fun k => x1 (ix2 3 k)) (fun k => x1 (ix2 4 k)) (fun k => x1 (ix2 5 k))
      (fun k f => x3 (ix2 k f)) (fun k f => x4 (ix2 k f)) (fun f j => x5 (ix2 f j)) j := by
  have e : val_main_v67 (F := Ideal) x0 x1 x3 x4 x5 (ix2 r j) = x0 (ix2 ⟨256 + r.val, by omega⟩ j)
      + x1 (ix2 5 j) * ∑ f : Fin 2816, val_main_v62 (F := Ideal) x0 x1 x3 x4 (ix2 r f) * x5 (ix2 f j) := by
    pointwise [val_main_v67, val_main_v66, val_main_v65, val_main_v64, val_main_v63, val_main_v58, val_main_v57, val_main_v34]
  rw [e]
  simp only [unit_rest, shifted_rest]
  rfl

/-- The reference's result is the half layer of every row. -/
theorem result_at (R : Fin 16640) (j : Fin 1024) : val_main_v68 (F := Ideal) x0 x1 x2 x3 x4 x5 (ix2 R j) = rows x0 x1 x2 x3 x4 x5 R j := by
  by_cases h : R.val < 256
  · have e : val_main_v68 (F := Ideal) x0 x1 x2 x3 x4 x5 (ix2 R j) = val_main_v33 (F := Ideal) x0 x2 x3 x4 x5 (ix2 ⟨R.val, h⟩ j) := by
      pointwise [val_main_v68]
      rw [dif_pos h]
    rw [e, context_at]
    unfold rows pick
    simp only [if_pos h]
  · have e : val_main_v68 (F := Ideal) x0 x1 x2 x3 x4 x5 (ix2 R j) = val_main_v67 (F := Ideal) x0 x1 x3 x4 x5 (ix2 ⟨R.val - 256, by omega⟩ j) := by
      pointwise [val_main_v68]
      rw [dif_neg h]
    have er : (⟨256 + (R.val - 256), by omega⟩ : Fin 16640) = R := Fin.ext (show 256 + (R.val - 256) = R.val by omega)
    rw [e, rest_at]
    unfold rows pick
    simp only [if_neg h, er]

end Cert.First.Ref

end
-- ==== Proof.FirstClaim.lean ====
/- The first layer's feed-forward call: on the extended reals the kernel's result is its reference's. -/
module

public import proofs.«01_k».proof.Defs
public import proofs.«01_k».proof.Proof.Gen.Kernel4Ideal.Value
public import proofs.«01_k».proof.Proof.FirstArray
public import proofs.«01_k».proof.Proof.FirstReference
public import Idealize.ShloMosaic.Lib.Claim

@[expose] public section

noncomputable section

namespace Cert.First

open Idealize.ShloMosaic Idealize.ShloMosaic.TcCoe Idealize.SL.Sem

/-- The kernel's run and the reference's end in one and the same result. -/
theorem algebraic : Cert.algebraic_Kernel4Ideal_Reference4Ideal := by
  pair_intro
  · run_from Cert.Kernel4Ideal.Value.run_blocks (F := Ideal) m g
  · run_from Cert.Reference4Ideal.Value.run (F := Ideal) m' g'
    obtain ⟨h0, h1, h2, h3, h4, h5⟩ := hagree c
    rw [Cert.Reference4Ideal.Read.val_main_v68_eq, h0, h1, h2, h3, h4, h5]
    refine Eq.trans ?_ (out_array m c).symm
    funext p
    obtain ⟨R, j, rfl⟩ : ∃ (R : Fin 16640) (j : Fin 1024), p = ix2 R j := ⟨p 0, p 1, eq_ix2 p⟩
    exact Ref.result_at _ _ _ _ _ _ R j

end Cert.First

end
-- ==== Proof.OutModel.lean ====
/- The first layer's output projection, row by row, on the extended reals. -/
module

public import proofs.«01_k».proof.Proof.FirstModel

@[expose] public section

noncomputable section

namespace Cert.Out

open Idealize.ShloMosaic
open Cert.Ffn (mixed Mat)
open Cert.First (pick)

/-- The inner argument of the unit's hyperbolic tangent. -/
def inner (t : EReal) : EReal := Ideal.ofBits .f32 0x3F4C422A#32 * (t + Ideal.ofBits .f32 0x3D372713#32 * (t * t * t))

/-- The unit approximated by a hyperbolic tangent. -/
def gelu (t : EReal) : EReal := t * (Ideal.ofBits .f32 0x3F000000#32 * (1 + Ideal.tanh (inner t)))

/-- The half taken of the argument first. -/
theorem gelu_half_first (t : EReal) : Ideal.ofBits .f32 0x3F000000#32 * t * (1 + Ideal.tanh (inner t)) = gelu t := by
  rw [gelu, mul_comm (Ideal.ofBits .f32 0x3F000000#32) t, mul_assoc]

/-- The recurrence's output, gated by a projection of itself. -/
def gate (y : Fin 512 → EReal) (w : Fin 512 → Fin 512 → EReal) (b : Fin 512 → EReal) (k : Fin 512) : EReal :=
  gelu (y k) * Ideal.div 1 (1 + Ideal.exp (-(∑ i : Fin 512, gelu (y i) * w i k + b k)))

/-- One row: the residual and the modulated projection of the attention beside the gated recurrence. -/
def row (x : Fin 1024 → EReal) (a y : Fin 512 → EReal) (m2 : Fin 1024 → EReal) (w : Fin 512 → Fin 512 → EReal) (b : Fin 512 → EReal)
    (o : Fin 1024 → Fin 1024 → EReal) (j : Fin 1024) : EReal :=
  x j + m2 j * mixed a (gate y w b) o j

/-- The stream's row `R`: the context's rows stand in front of the latent ones. -/
def stream (x : Mat 16384 1024) (c : Mat 256 1024) (R : Fin 16640) (k : Fin 1024) : EReal :=
  if h : R.val < 256 then c (ix2 ⟨R.val, h⟩ k) else x (ix2 ⟨R.val - 256, by omega⟩ k)

/-- The result's rows. -/
def rows (x : Mat 16384 1024) (c : Mat 256 1024) (a y : Mat 16640 512) (mx mc : Mat 6 1024) (w : Mat 512 512) (b : Fin 512 → EReal)
    (o : Mat 1024 1024) (R : Fin 16640) (j : Fin 1024) : EReal :=
  row (stream x c R) (fun k => a (ix2 R k)) (fun k => y (ix2 R k)) (pick mx mc R.val 2) (fun i k => w (ix2 i k)) b
    (fun k j => o (ix2 k j)) j

end Cert.Out

end
-- ==== Proof.OutKernel.lean ====
/- The output projection's kernel: its block, read at a row and a lane. -/
module

public import proofs.«01_k».proof.Proof.OutModel
public import proofs.«01_k».proof.Proof.Gen.Kernel5Ideal.Value

@[expose] public section

set_option maxRecDepth 16384

noncomputable section

namespace Cert.Out

open Idealize.ShloMosaic Cert.Kernel5Ideal Cert.Kernel5Ideal.Gen
open Cert.Ffn (mixed)

/-- Only the first tile is the context's. -/
theorem first_tile : ∀ i : Fin 65, Scalar.cmpi .eq (BitVec.ofNat 32 i.val) 0#32 = if i.val = 0 then 1#1 else 0#1 := by
  decide +kernel

theorem first_tile' (i : grid0.Coords) : Scalar.cmpi .eq (BitVec.ofNat 32 (i 0).val) 0#32 = if (i 0).val = 0 then 1#1 else 0#1 :=
  first_tile (i 0)

theorem pay2_at (i : grid0.Coords) (v1 v3 : Vec Ideal S1x1024 .f32) (j : Fin 1024) :
    k0_pay2 i v1 v3 (ix2 0 j) = if (i 0).val = 0 then v1 (ix2 0 j) else v3 (ix2 0 j) := by
  unfold k0_pay2
  rw [first_tile']
  split
  · show shapeCast S1x1024 v1 shapeCasts_S1x1024_S1x1024 (ix2 0 j) = _
    pointwise
  · show shapeCast S1x1024 v3 shapeCasts_S1x1024_S1x1024 (ix2 0 j) = _
    pointwise

theorem pay3_at (v6 : Vec Ideal S256x512 .f32) (v21 : Vec Ideal S512x512 .bf16) (v24 : Vec Ideal S1x512 .f32) (r : Fin 256) (k : Fin 512) :
    k0_pay3 v6 v21 v24 (ix2 r k) = gate (fun k => v6 (ix2 r k)) (fun i k => v21 (ix2 i k)) (fun k => v24 (ix2 0 k)) k := by
  pointwise [k0_pay3]
  simp only [gate, ← gelu_half_first, inner, zero_sub]

theorem pay1_at (b : BitVec 1) (v5 : FVec Ideal S1x1024 .f32) (v35 : FVec Ideal S256x512 .f32) (v37 : FVec Ideal S256x512 .bf16)
    (w0 w1 : Vec Ideal S512x1024 .bf16) (v46 v47 : Vec Ideal S256x1024 .f32) (w : Fin 1024 → Fin 1024 → EReal)
    (hw0 : ∀ (k : Fin 512) j, w0 (ix2 k j) = w ⟨k.val, by omega⟩ j)
    (hw1 : ∀ (k : Fin 512) j, w1 (ix2 k j) = w ⟨512 + k.val, by omega⟩ j) (r : Fin 256) (j : Fin 1024) :
    k0_pay1 b v5 v35 v37 w0 w1 v46 v47 (ix2 r j) =
      (Scalar.select b v46 v47 : Vec Ideal S256x1024 .f32) (ix2 r j) + v5 (ix2 0 j) * mixed (fun k => v37 (ix2 r k)) (fun k => v35 (ix2 r k)) w j := by
  pointwise [k0_pay1]
  simp only [mixed, hw0, hw1]

section Block

variable (i : grid0.Coords) (x0 x1 : Vec Ideal S256x1024 .f32) (x2 x3 : Vec Ideal S256x512 .f32) (x4 x5 : Vec Ideal S8x1024 .f32)
  (x6 : Vec Ideal S512x512 .bf16) (x7 : Vec Ideal S1x512 .f32) (x8 : Vec Ideal S1024x1024 .bf16)

theorem out_at (r : Fin 256) (j : Fin 1024) : out0_9 i x0 x1 x2 x3 x4 x5 x6 x7 x8 (ix2 r j) =
    row (fun k => if (i 0).val = 0 then x1 (ix2 r k) else x0 (ix2 r k)) (fun k => x2 (ix2 r k)) (fun k => x3 (ix2 r k))
      (fun k => if (i 0).val = 0 then x5 (ix2 2 k) else x4 (ix2 2 k)) (fun i k => x6 (ix2 i k)) (fun k => x7 (ix2 0 k))
      (fun k j => x8 (ix2 k j)) j := by
  unfold out0_9
  rw [show ∀ p, View.canon [⟨r0_6, p⟩] = p from fun p => View.canon_unit_zero (by decide) _ p]
  rw [pay1_at _ _ _ _ _ _ _ _ (fun k j => x8 (ix2 k j)) (fun k j => by pointwise [r0_4]) (fun k j => by pointwise [r0_5]), first_tile', pay2_at]
  simp only [pay3_at]
  unfold row
  split
  · show View.ld x1 r0_6 (ix2 r j) + _ = _
    pointwise [r0_0, r0_1, r0_2, r0_3, r0_6, k0_pay4]
  · show View.ld x0 r0_6 (ix2 r j) + _ = _
    pointwise [r0_0, r0_1, r0_2, r0_3, r0_6, k0_pay4]

end Block

end Cert.Out

end
-- ==== Proof.OutArray.lean ====
/- The output projection's kernel: its result array, element by element. -/
module

public import Idealize.ShloMosaic.Lib.StableHlo.ReadAt
public import proofs.«01_k».proof.Proof.OutKernel
public import Idealize.ShloMosaic.Lib.Pipeline.ValueKit

@[expose] public section

set_option maxRecDepth 16384

noncomputable section

namespace Cert.Out

open Idealize.ShloMosaic Idealize.ShloMosaic.TcCoe Cert.Kernel5Ideal Cert.Kernel5Ideal.Gen
open Idealize.ShloMosaic.Pipeline (Dat)
open Cert.First (pick)

variable (m : (ℓ : Loc nD τ sig) → Buf (Elt Ideal) ℓ)

theorem idx : ∀ t : Fin grid0.N, win0_0.index t = ![t.val - 1, 0] ∧ win0_1.index t = ![0, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] := by decide +kernel

theorem point : ∀ t : Fin grid0.N, (grid0.coords t 0).val = t.val := by decide +kernel

theorem blk0 (c : Dev nD) (t : Fin cfg0.N) (r : Fin 256) (k : Fin 1024) (h : 256 * (t.val - 1) + r.val < 16384) :
    iblk m c 0 t (ix2 r k) = m ((c : Thread nD τ).loc main_arg0) (ix2 ⟨256 * (t.val - 1) + r.val, h⟩ k) := by
  have e : ((win0_0.blk t).view.emb (ix2 r k)) = ix2 ⟨256 * (t.val - 1) + r.val, h⟩ k := by blk_ext [idx t]
  show V m c main_arg0 ((win0_0.blk t).view.emb (ix2 r k)) = _
  rw [e, V_main_arg0]

theorem blk1 (c : Dev nD) (t : Fin cfg0.N) (r : Fin 256) (k : Fin 1024) :
    iblk m c 1 t (ix2 r k) = m ((c : Thread nD τ).loc main_arg1) (ix2 r k) := by
  have e : ((win0_1.blk t).view.emb (ix2 r k)) = ix2 r k := by blk_ext [idx t]
  show V m c main_arg1 ((win0_1.blk t).view.emb (ix2 r k)) = _
  rw [e, V_main_arg1]

theorem blk2 (c : Dev nD) (t : Fin cfg0.N) (r : Fin 256) (k : Fin 512) (h : 256 * t.val + r.val < 16640) :
    iblk m c 2 t (ix2 r k) = m ((c : Thread nD τ).loc main_arg2) (ix2 ⟨256 * t.val + r.val, h⟩ k) := by
  have e : ((win0_2.blk t).view.emb (ix2 r k)) = ix2 ⟨256 * t.val + r.val, h⟩ k := by blk_ext [idx t]
  show V m c main_arg2 ((win0_2.blk t).view.emb (ix2 r k)) = _
  rw [e, V_main_arg2]

theorem blk3 (c : Dev nD) (t : Fin cfg0.N) (r : Fin 256) (k : Fin 512) (h : 256 * t.val + r.val < 16640) :
    iblk m c 3 t (ix2 r k) = m ((c : Thread nD τ).loc main_arg3) (ix2 ⟨256 * t.val + r.val, h⟩ k) := by
  have e : ((win0_3.blk t).view.emb (ix2 r k)) = ix2 ⟨256 * t.val + r.val, h⟩ k := by blk_ext [idx t]
  show V m c main_arg3 ((win0_3.blk t).view.emb (ix2 r k)) = _
  rw [e, V_main_arg3]

theorem blk4 (c : Dev nD) (t : Fin cfg0.N) (r : Fin 8) (k : Fin 1024) (h : r.val < 6) :
    iblk m c 4 t (ix2 r k) = m ((c : Thread nD τ).loc main_arg4) (ix2 ⟨r.val, h⟩ k) := by
  have e : ((win0_4.blk t).view.emb (ix2 r k)) = ix2 r k := by blk_ext [idx t]
  show V m c main_v0 ((win0_4.blk t).view.emb (ix2 r k)) = _
  rw [e]
  unfold V
  simp only [hostOps0, hostOps0_1, hostOps0_2, hostOps0_3, hostOps0_4, List.flatten_cons, List.flatten_nil, List.append_nil, List.cons_append, List.nil_append]
  after_reads_at
  rw [dif_pos h]

theorem blk5 (c : Dev nD) (t : Fin cfg0.N) (r : Fin 8) (k : Fin 1024) (h : r.val < 6) :
    iblk m c 5 t (ix2 r k) = m ((c : Thread nD τ).loc main_arg5) (ix2 ⟨r.val, h⟩ k) := by
  have e : ((win0_5.blk t).view.emb (ix2 r k)) = ix2 r k := by blk_ext [idx t]
  show V m c main_v1 ((win0_5.blk t).view.emb (ix2 r k)) = _
  rw [e]
  unfold V
  simp only [hostOps0, hostOps0_1, hostOps0_2, hostOps0_3, hostOps0_4, List.flatten_cons, List.flatten_nil, List.append_nil, List.cons_append, List.nil_append]
  after_reads_at
  rw [dif_pos h]

theorem blk6 (c : Dev nD) (t : Fin cfg0.N) (r k : Fin 512) :
    iblk m c 6 t (ix2 r k) = m ((c : Thread nD τ).loc main_arg6) (ix2 r k) := by
  unfold iblk
  entry_read
  pointwise
  blk_ext [idx t]

theorem blk7 (c : Dev nD) (t : Fin cfg0.N) (k : Fin 512) :
    iblk m c 7 t (ix2 0 k) = m ((c : Thread nD τ).loc main_arg7) (ix1 k) := by
  have e : ((win0_7.blk t).view.emb (ix2 0 k)) = ix2 0 k := by blk_ext [idx t]
  show V m c main_v3 ((win0_7.blk t).view.emb (ix2 0 k)) = _
  rw [e]
  unfold V
  simp only [hostOps0, hostOps0_1, hostOps0_2, hostOps0_3, hostOps0_4, List.flatten_cons, List.flatten_nil, List.append_nil, List.cons_append, List.nil_append]
  after_reads_at

theorem blk8 (c : Dev nD) (t : Fin cfg0.N) (r k : Fin 1024) :
    iblk m c 8 t (ix2 r k) = m ((c : Thread nD τ).loc main_arg8) (ix2 r k) := by
  unfold iblk
  entry_read
  pointwise
  blk_ext [idx t]

/-- The result array, at an index, is the projection of the arguments' row. -/
theorem out_array (c : Dev nD) : (dats m 0 c).arrAt 9 cfg0.N = fun p => rows
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (fun k => m ((c : Thread nD τ).loc main_arg7) (ix1 k)) (m ((c : Thread nD τ).loc main_arg8)) (p 0) (p 1) := by
  refine (dats m 0 c).arrAt_eq_of_covers 9 _ (by decide +kernel) fun t _ y => ?_
  blk_simp
  rw [after0_9]
  obtain ⟨r, j, rfl⟩ : ∃ (r : Fin 256) (j : Fin 1024), y = ix2 r j := ⟨y 0, y 1, eq_ix2 y⟩
  rw [out_at]
  have hr := r.isLt
  have ht : t.val < 65 := t.isLt
  have h : 256 * t.val + r.val < 16640 := by omega
  have h' : 256 * (t.val - 1) + r.val < 16384 := by omega
  have e : ((win0_9.blk t).view.emb (ix2 r j)) = ix2 ⟨256 * t.val + r.val, h⟩ j := by blk_ext [idx t]
  simp only [point, blk0 _ _ _ _ _ h', blk1, blk2 _ _ _ _ _ h, blk3 _ _ _ _ _ h, blk4 _ _ _ 2 _ (by decide), blk5 _ _ _ 2 _ (by decide), blk6, blk7, blk8]
  refine Eq.trans ?_ (congrArg (fun p : S16640x1024.Idx => rows _ _ _ _ _ _ _ _ _ (p 0) (p 1)) e).symm
  simp only [rows, ix2_0, ix2_1]
  unfold pick stream
  by_cases h0 : t.val = 0
  · have hR : 256 * t.val + r.val < 256 := by omega
    have er : (⟨256 * t.val + r.val, hR⟩ : Fin 256) = r := Fin.ext (show 256 * t.val + r.val = r.val by omega)
    simp only [if_pos h0, if_pos hR, dif_pos hR, er]
    rfl
  · have hR : ¬ 256 * t.val + r.val < 256 := by omega
    have er : 256 * t.val + r.val - 256 = 256 * (t.val - 1) + r.val := by omega
    simp only [if_neg h0, if_neg hR, dif_neg hR, er]
    rfl

end Cert.Out

end
-- ==== Proof.OutReference.lean ====
/- The output projection's reference, read at an index. -/
module

public import proofs.«01_k».proof.Proof.OutModel
public import proofs.«01_k».proof.Proof.Gen.Reference5Ideal.Read
public import Idealize.ShloMosaic.Lib.Pointwise

@[expose] public section

noncomputable section

namespace Cert.Out.Ref

open Idealize.ShloMosaic Idealize.ShloMosaic.TcCoe Cert.Reference5Ideal Cert.Reference5Ideal.Read
open Cert.Ffn (mixed)
open Cert.First (pick)

variable (x0 : (⟨S16384x1024, .f32⟩ : BufTy).Contents (Elt Ideal)) (x1 : (⟨S256x1024, .f32⟩ : BufTy).Contents (Elt Ideal))
  (x2 x3 : (⟨S16640x512, .f32⟩ : BufTy).Contents (Elt Ideal)) (x4 x5 : (⟨S6x1024, .f32⟩ : BufTy).Contents (Elt Ideal))
  (x6 : (⟨S512x512, .f32⟩ : BufTy).Contents (Elt Ideal)) (x7 : (⟨S512, .f32⟩ : BufTy).Contents (Elt Ideal))
  (x8 : (⟨S1024x1024, .f32⟩ : BufTy).Contents (Elt Ideal))

theorem gelu_context (r : Fin 256) (k : Fin 512) : val_main_v14 (F := Ideal) x3 (ix2 r k) = gelu (x3 (ix2 ⟨r.val, by omega⟩ k)) := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, gelu, inner]

theorem gate_context (r : Fin 256) (k : Fin 512) : val_main_v25 (F := Ideal) x3 x6 x7 (ix2 r k) =
    gate (fun k => x3 (ix2 ⟨r.val, by omega⟩ k)) (fun i k => x6 (ix2 i k)) (fun k => x7 (ix1 k)) k := by
  pointwise [val_main_v25, val_main_v24, val_main_v23, val_main_v22, val_main_v21, val_main_v20, val_main_v19, val_main_v18, val_main_v17, val_main_v16, val_main_v15, val_main_cst_3, val_main_cst_4]
  simp only [gelu_context, gate]

theorem mixed_context (r : Fin 256) (j : Fin 1024) : val_main_v29 (F := Ideal) x2 x3 x6 x7 x8 (ix2 r j) =
    mixed (fun k => x2 (ix2 ⟨r.val, by omega⟩ k)) (fun k => val_main_v25 (F := Ideal) x3 x6 x7 (ix2 r k)) (fun k j => x8 (ix2 k j)) j := by
  pointwise [val_main_v29, val_main_v28, val_main_v0, mixed]

theorem context_at (r : Fin 256) (j : Fin 1024) : val_main_v33 (F := Ideal) x1 x2 x3 x5 x6 x7 x8 (ix2 r j) =
    row (fun k => x1 (ix2 r k)) (fun k => x2 (ix2 ⟨r.val, by omega⟩ k)) (fun k => x3 (ix2 ⟨r.val, by omega⟩ k)) (fun k => x5 (ix2 2 k))
      (fun i k => x6 (ix2 i k)) (fun k => x7 (ix1 k)) (fun k j => x8 (ix2 k j)) j := by
  have e : val_main_v33 (F := Ideal) x1 x2 x3 x5 x6 x7 x8 (ix2 r j) = x1 (ix2 r j) + x5 (ix2 2 j) * val_main_v29 (F := Ideal) x2 x3 x6 x7 x8 (ix2 r j) := by
    pointwise [val_main_v33, val_main_v32, val_main_v31, val_main_v30, val_main_v27, val_main_v26]
  rw [e, mixed_context]
  simp only [gate_context]
  rfl

theorem gelu_rest (r : Fin 16384) (k : Fin 512) : val_main_v48 (F := Ideal) x3 (ix2 r k) = gelu (x3 (ix2 ⟨256 + r.val, by omega⟩ k)) := by
  pointwise [val_main_v48, val_main_v47, val_main_v46, val_main_v45, val_main_v44, val_main_v43, val_main_v42, val_main_v41, val_main_v40, val_main_v39, val_main_v38, val_main_v37, val_main_v36, val_main_v35, val_main_cst_5, val_main_cst_6, val_main_cst_7, val_main_cst_8, gelu, inner]

theorem gate_rest (r : Fin 16384) (k : Fin 512) : val_main_v59 (F := Ideal) x3 x6 x7 (ix2 r k) =
    gate (fun k => x3 (ix2 ⟨256 + r.val, by omega⟩ k)) (fun i k => x6 (ix2 i k)) (fun k => x7 (ix1 k)) k := by
  pointwise [val_main_v59, val_main_v58, val_main_v57, val_main_v56, val_main_v55, val_main_v54, val_main_v53, val_main_v52, val_main_v51, val_main_v50, val_main_v49, val_main_cst_9, val_main_cst_10]
  simp only [gelu_rest, gate]

theorem mixed_rest (r : Fin 16384) (j : Fin 1024) : val_main_v63 (F := Ideal) x2 x3 x6 x7 x8 (ix2 r j) =
    mixed (fun k => x2 (ix2 ⟨256 + r.val, by omega⟩ k)) (fun k => val_main_v59 (F := Ideal) x3 x6 x7 (ix2 r k)) (fun k j => x8 (ix2 k j)) j := by
  pointwise [val_main_v63, val_main_v62, val_main_v34, mixed]

theorem rest_at (r : Fin 16384) (j : Fin 1024) : val_main_v67 (F := Ideal) x0 x2 x3 x4 x6 x7 x8 (ix2 r j) =
    row (fun k => x0 (ix2 r k)) (fun k => x2 (ix2 ⟨256 + r.val, by omega⟩ k)) (fun k => x3 (ix2 ⟨256 + r.val, by omega⟩ k)) (fun k => x4 (ix2 2 k))
      (fun i k => x6 (ix2 i k)) (fun k => x7 (ix1 k)) (fun k j => x8 (ix2 k j)) j := by
  have e : val_main_v67 (F := Ideal) x0 x2 x3 x4 x6 x7 x8 (ix2 r j) = x0 (ix2 r j) + x4 (ix2 2 j) * val_main_v63 (F := Ideal) x2 x3 x6 x7 x8 (ix2 r j) := by
    pointwise [val_main_v67, val_main_v66, val_main_v65, val_main_v64, val_main_v61, val_main_v60]
  rw [e, mixed_rest]
  simp only [gate_rest]
  rfl

/-- The reference's result is the projection of every row. -/
theorem result_at (R : Fin 16640) (j : Fin 1024) : val_main_v68 (F := Ideal) x0 x1 x2 x3 x4 x5 x6 x7 x8 (ix2 R j) =
    rows x0 x1 x2 x3 x4 x5 x6 (fun k => x7 (ix1 k)) x8 R j := by
  by_cases h : R.val < 256
  · have e : val_main_v68 (F := Ideal) x0 x1 x2 x3 x4 x5 x6 x7 x8 (ix2 R j) = val_main_v33 (F := Ideal) x1 x2 x3 x5 x6 x7 x8 (ix2 ⟨R.val, h⟩ j) := by
      pointwise [val_main_v68]
      rw [dif_pos h]
    rw [e, context_at]
    unfold rows pick stream
    simp only [if_pos h, dif_pos h]
  · have e : val_main_v68 (F := Ideal) x0 x1 x2 x3 x4 x5 x6 x7 x8 (ix2 R j) = val_main_v67 (F := Ideal) x0 x2 x3 x4 x6 x7 x8 (ix2 ⟨R.val - 256, by omega⟩ j) := by
      pointwise [val_main_v68]
      rw [dif_neg h]
    have er : (⟨256 + (R.val - 256), by omega⟩ : Fin 16640) = R := Fin.ext (show 256 + (R.val - 256) = R.val by omega)
    rw [e, rest_at]
    unfold rows pick stream
    simp only [if_neg h, dif_neg h, er]

end Cert.Out.Ref

end
-- ==== Proof.OutClaim.lean ====
/- The first layer's output projection: on the extended reals the kernel's result is its reference's. -/
module

public import proofs.«01_k».proof.Defs
public import proofs.«01_k».proof.Proof.Gen.Kernel5Ideal.Value
public import proofs.«01_k».proof.Proof.OutArray
public import proofs.«01_k».proof.Proof.OutReference
public import Idealize.ShloMosaic.Lib.Claim

@[expose] public section

noncomputable section

namespace Cert.Out

open Idealize.ShloMosaic Idealize.ShloMosaic.TcCoe Idealize.SL.Sem

/-- The kernel's run and the reference's end in one and the same result. -/
theorem algebraic : Cert.algebraic_Kernel5Ideal_Reference5Ideal := by
  pair_intro
  · run_from Cert.Kernel5Ideal.Value.run_blocks (F := Ideal) m g
  · run_from Cert.Reference5Ideal.Value.run (F := Ideal) m' g'
    obtain ⟨h0, h1, h2, h3, h4, h5, h6, h7, h8⟩ := hagree c
    rw [Cert.Reference5Ideal.Read.val_main_v68_eq, h0, h1, h2, h3, h4, h5, h6, h7, h8]
    refine Eq.trans ?_ (out_array m c).symm
    funext p
    obtain ⟨R, j, rfl⟩ : ∃ (R : Fin 16640) (j : Fin 1024), p = ix2 R j := ⟨p 0, p 1, eq_ix2 p⟩
    exact Ref.result_at _ _ _ _ _ _ _ _ _ R j

end Cert.Out

end
-- ==== Proof.ModModel.lean ====
/- The modulation vectors, on the extended reals, read from the kernel's result and from the reference's. -/
module

public import Idealize.ShloMosaic.Lib.StableHlo.ReadAt
public import Idealize.ShloMosaic.Lib.Pipeline.ValueKit
public import proofs.«01_k».proof.Proof.FfnModel
public import proofs.«01_k».proof.Proof.Gen.Kernel6Ideal.Value
public import proofs.«01_k».proof.Proof.Gen.Reference6Ideal.Read

@[expose] public section

set_option maxRecDepth 16384

noncomputable section

namespace Cert.Mod

open Idealize.ShloMosaic Idealize.ShloMosaic.TcCoe
open Cert.Ffn (silu Mat)

/-- Lane `j` of the vectors of one conditioning row in one layer. -/
def vector (c : Fin 1024 → EReal) (w : Fin 1024 → EReal) (b : EReal) : EReal := ∑ k : Fin 1024, silu (c k) * w k + b

section Kernel

open Cert.Kernel6Ideal Cert.Kernel6Ideal.Gen

variable (m : (ℓ : Loc nD τ sig) → Buf (Elt Ideal) ℓ)

theorem out_at (x0 : Vec Ideal S8x1024 .f32) (x1 : Vec Ideal S1x1024x1024 .f32) (x2 : Vec Ideal S1x1x1024 .f32) (r : Fin 8) (j : Fin 1024) :
    out0_3 x0 x1 x2 (ix3 0 r j) = vector (fun k => x0 (ix2 r k)) (fun k => x1 (ix3 0 k j)) (x2 (ix3 0 0 j)) := by
  unfold out0_3
  rw [show ∀ p, View.canon [⟨r0_3, p⟩] = p from fun p => View.canon_unit_zero (by decide) _ p]
  pointwise [k0_pay1, r0_0, r0_1, r0_2]
  simp only [vector, silu, zero_sub]

theorem idx : ∀ t : Fin grid0.N, win0_0.index t = ![0, 0] ∧ win0_1.index t = ![t.val / 6, 0, t.val % 6]
    ∧ win0_2.index t = ![t.val / 6, 0, t.val % 6] ∧ win0_3.index t = ![t.val / 6, 0, t.val % 6] := by decide +kernel

theorem blk0 (c : Dev nD) (t : Fin cfg0.N) (r : Fin 8) (k : Fin 1024) :
    iblk m c 0 t (ix2 r k) = m ((c : Thread nD τ).loc main_arg0) (ix2 r k) := by
  have e : ((win0_0.blk t).view.emb (ix2 r k)) = ix2 r k := by blk_ext [idx t]
  show V m c main_arg0 ((win0_0.blk t).view.emb (ix2 r k)) = _
  rw [e, V_main_arg0]

theorem blk1 (c : Dev nD) (t : Fin cfg0.N) (k j : Fin 1024) (h : t.val / 6 < 2) (h' : 1024 * (t.val % 6) + j.val < 6144) :
    iblk m c 1 t (ix3 0 k j) = m ((c : Thread nD τ).loc main_arg1) (ix3 ⟨t.val / 6, h⟩ k ⟨1024 * (t.val % 6) + j.val, h'⟩) := by
  have e : ((win0_1.blk t).view.emb (ix3 0 k j)) = ix3 ⟨t.val / 6, h⟩ k ⟨1024 * (t.val % 6) + j.val, h'⟩ := by blk_ext [idx t]
  show V m c main_arg1 ((win0_1.blk t).view.emb (ix3 0 k j)) = _
  rw [e, V_main_arg1]

theorem blk2 (c : Dev nD) (t : Fin cfg0.N) (j : Fin 1024) (h : t.val / 6 < 2) (h' : 1024 * (t.val % 6) + j.val < 6144) :
    iblk m c 2 t (ix3 0 0 j) = m ((c : Thread nD τ).loc main_arg2) (ix2 ⟨t.val / 6, h⟩ ⟨1024 * (t.val % 6) + j.val, h'⟩) := by
  have e : ((win0_2.blk t).view.emb (ix3 0 0 j)) = ix3 ⟨t.val / 6, h⟩ 0 ⟨1024 * (t.val % 6) + j.val, h'⟩ := by blk_ext [idx t]
  show V m c main_v0 ((win0_2.blk t).view.emb (ix3 0 0 j)) = _
  rw [e]
  unfold V
  simp only [hostOps0, List.flatten_cons, List.flatten_nil, List.append_nil, List.cons_append, List.nil_append]
  after_reads_at

/-- The result array, at an index, is the row's vector in the layer. -/
theorem out_array (c : Dev nD) : (dats m 0 c).arrAt 3 cfg0.N = fun p => vector
    (fun k => m ((c : Thread nD τ).loc main_arg0) (ix2 (p 1) k)) (fun k => m ((c : Thread nD τ).loc main_arg1) (ix3 (p 0) k (p 2)))
    (m ((c : Thread nD τ).loc main_arg2) (ix2 (p 0) (p 2))) := by
  refine (dats m 0 c).arrAt_eq_of_covers 3 _ (by decide +kernel) fun t _ y => ?_
  blk_simp
  rw [after0_3]
  obtain ⟨r, j, rfl⟩ : ∃ (r : Fin 8) (j : Fin 1024), y = ix3 0 r j :=
    ⟨y 1, y 2, (eq_ix3 y).trans (congrArg (fun a => ix3 a (y 1) (y 2)) (Fin.fin_one_eq_zero (y 0)))⟩
  rw [out_at]
  have hj := j.isLt
  have ht : t.val < 12 := t.isLt
  have h : t.val / 6 < 2 := by omega
  have h' : 1024 * (t.val % 6) + j.val < 6144 := by omega
  have e : ((win0_3.blk t).view.emb (ix3 0 r j)) = ix3 ⟨t.val / 6, h⟩ r ⟨1024 * (t.val % 6) + j.val, h'⟩ := by blk_ext [idx t]
  simp only [blk0, blk1 _ _ _ _ _ h h', blk2 _ _ _ _ h h']
  rw [e]
  rfl

end Kernel

section Reference

open Cert.Reference6Ideal Cert.Reference6Ideal.Read

variable (x0 : (⟨S8x1024, .f32⟩ : BufTy).Contents (Elt Ideal)) (x1 : (⟨S2x1024x6144, .f32⟩ : BufTy).Contents (Elt Ideal))
  (x2 : (⟨S2x6144, .f32⟩ : BufTy).Contents (Elt Ideal))

theorem silu_at (r : Fin 8) (k : Fin 1024) : val_main_v0 (F := Ideal) x0 (ix2 r k) = silu (x0 (ix2 r k)) := by
  pointwise [val_main_v0, val_main_call0_v0, val_main_call0_v1, val_main_call0_cst, val_main_call0_v2, val_main_call0_v3, val_main_call0_cst_0, val_main_call0_v4, val_main_call0_v5, silu]

theorem layer0_at (r : Fin 8) (j : Fin 6144) : val_main_v8 (F := Ideal) x0 x1 x2 (ix2 r j) =
    vector (fun k => x0 (ix2 r k)) (fun k => x1 (ix3 0 k j)) (x2 (ix2 0 j)) := by
  pointwise [val_main_v8, val_main_v7, val_main_v6, val_main_v5, val_main_v4, val_main_v3, val_main_v2, val_main_v1]
  simp only [silu_at, vector]

theorem layer1_at (r : Fin 8) (j : Fin 6144) : val_main_v16 (F := Ideal) x0 x1 x2 (ix2 r j) =
    vector (fun k => x0 (ix2 r k)) (fun k => x1 (ix3 1 k j)) (x2 (ix2 1 j)) := by
  pointwise [val_main_v16, val_main_v15, val_main_v14, val_main_v13, val_main_v12, val_main_v11, val_main_v10, val_main_v9]
  simp only [silu_at, vector]

/-- The reference's result, at an index, is the row's vector in the layer. -/
theorem result_at (l : Fin 2) (r : Fin 8) (j : Fin 6144) : val_main_v19 (F := Ideal) x0 x1 x2 (ix3 l r j) =
    vector (fun k => x0 (ix2 r k)) (fun k => x1 (ix3 l k j)) (x2 (ix2 l j)) := by
  have e : val_main_v19 (F := Ideal) x0 x1 x2 (ix3 l r j)
      = if l.val < 1 then val_main_v8 (F := Ideal) x0 x1 x2 (ix2 r j) else val_main_v16 (F := Ideal) x0 x1 x2 (ix2 r j) := by
    pointwise [val_main_v19, val_main_v18, val_main_v17]
    try split <;> rfl
  rw [e, layer0_at, layer1_at]
  fin_cases l <;> rfl

end Reference

end Cert.Mod

end
-- ==== Proof.ModClaim.lean ====
/- The modulation vectors: on the extended reals the kernel's result is its reference's. -/
module

public import proofs.«01_k».proof.Defs
public import proofs.«01_k».proof.Proof.ModModel
public import Idealize.ShloMosaic.Lib.Claim

@[expose] public section

noncomputable section

namespace Cert.Mod

open Idealize.ShloMosaic Idealize.ShloMosaic.TcCoe Idealize.SL.Sem

/-- The kernel's run and the reference's end in one and the same result. -/
theorem algebraic : Cert.algebraic_Kernel6Ideal_Reference6Ideal := by
  pair_intro
  · run_from Cert.Kernel6Ideal.Value.run_blocks (F := Ideal) m g
  · run_from Cert.Reference6Ideal.Value.run (F := Ideal) m' g'
    obtain ⟨h0, h1, h2⟩ := hagree c
    rw [Cert.Reference6Ideal.Read.val_main_v19_eq, h2]
    refine Eq.trans ?_ (out_array m c).symm
    funext p
    obtain ⟨l, r, j, rfl⟩ : ∃ (l : Fin 2) (r : Fin 8) (j : Fin 6144), p = ix3 l r j := ⟨p 0, p 1, p 2, eq_ix3 p⟩
    exact result_at _ _ _ l r j

end Cert.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Read
public import proofs.«01_k».proof.Proof.Gen.Reference2Ideal.Read
public import proofs.«01_k».proof.Proof.Gen.Kernel2Ideal.Value
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Kernel3
public import proofs.«01_k».proof.Proof.Gen.Kernel3Ideal
public import proofs.«01_k».proof.Proof.Gen.Reference3Ideal
public import proofs.«01_k».proof.Proof.Gen.Pre_finite3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.FfnClaim
public import proofs.«01_k».proof.Proof.AttnClaim
public import proofs.«01_k».proof.Proof.AttnFrames
public import proofs.«01_k».proof.Proof.DiffClaim
public import proofs.«01_k».proof.Proof.DiffFrames
public import proofs.«01_k».proof.Proof.FirstClaim
public import proofs.«01_k».proof.Proof.OutClaim
public import proofs.«01_k».proof.Proof.ModClaim
public import Idealize.ShloMosaic.Adequacy
public import Idealize.ShloMosaic.Init

@[expose] public section

noncomputable section

namespace Cert.Proof

open Idealize.ShloMosaic Idealize.SL.Sem Cert.Kernel

/-- Kernel and its idealization have one text, so one run serves both frames. -/
theorem frame_kernel : Cert.quiescent_Kernel := Cert.Attn.frame_words

theorem frame_kernel_ideal : Cert.quiescent_KernelIdeal := fun m g _ => Cert.Attn.frame m g

theorem frame_kernel_ideal_finite : Cert.quiescent_KernelIdeal_pre_finite := fun m g _ => Cert.Attn.frame m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_reference_finite : Cert.quiescent_ReferenceIdeal_pre_finite := fun m g _ => frame_reference m g trivial

theorem frame_kernel2 : Cert.quiescent_Kernel2 := fun m g _ => Cert.Kernel2.Gen.frame m g

theorem frame_kernel2_ideal : Cert.quiescent_Kernel2Ideal := fun m g _ => Cert.Kernel2Ideal.Gen.frame m g

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

theorem frame_kernel3 : Cert.quiescent_Kernel3 := Cert.Diff.frame_words

theorem frame_kernel3_ideal : Cert.quiescent_Kernel3Ideal := fun m g _ => Cert.Diff.frame m g

theorem frame_kernel3_ideal_finite : Cert.quiescent_Kernel3Ideal_pre_finite3 := fun m g _ => Cert.Diff.frame m g

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

theorem frame_reference3_finite : Cert.quiescent_Reference3Ideal_pre_finite3 := fun m g _ => frame_reference3 m g trivial

theorem frame_kernel4 : Cert.quiescent_Kernel4 := fun m g _ => Cert.Kernel4.Gen.frame m g

theorem frame_kernel4_ideal : Cert.quiescent_Kernel4Ideal := fun m g _ => Cert.Kernel4Ideal.Gen.frame m g

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem frame_kernel5 : Cert.quiescent_Kernel5 := fun m g _ => Cert.Kernel5.Gen.frame m g

theorem frame_kernel5_ideal : Cert.quiescent_Kernel5Ideal := fun m g _ => Cert.Kernel5Ideal.Gen.frame m g

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

theorem frame_kernel6 : Cert.quiescent_Kernel6 := fun m g _ => Cert.Kernel6.Gen.frame m g

theorem frame_kernel6_ideal : Cert.quiescent_Kernel6Ideal := fun m g _ => Cert.Kernel6Ideal.Gen.frame m g

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite3.Gen.facts,
  frame_kernel, frame_kernel_ideal, frame_kernel_ideal_finite, frame_reference, frame_reference_finite,
  frame_kernel2, frame_kernel2_ideal, frame_reference2,
  frame_kernel3, frame_kernel3_ideal, frame_kernel3_ideal_finite, frame_reference3, frame_reference3_finite,
  frame_kernel4, frame_kernel4_ideal, frame_reference4,
  frame_kernel5, frame_kernel5_ideal, frame_reference5,
  frame_kernel6, frame_kernel6_ideal, frame_reference6,
  trivial, Cert.Attn.algebraic, trivial, Cert.Ffn.algebraic, trivial, Cert.Diff.algebraic, trivial, Cert.First.algebraic,
  trivial, Cert.Out.algebraic, trivial, Cert.Mod.algebraic⟩

end Cert.Proof

end
